-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v33_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x8448x1024 : Shape := ⟨3, ![2, 8448, 1024]⟩
abbrev S4x1024 : Shape := ⟨2, ![4, 1024]⟩
abbrev S4x1024x9736 : Shape := ⟨3, ![4, 1024, 9736]⟩
abbrev S4x512 : Shape := ⟨2, ![4, 512]⟩
abbrev S8448 : Shape := ⟨1, ![8448]⟩
abbrev S_ : Shape := ⟨0, ![]⟩
abbrev S32 : Shape := ⟨1, ![32]⟩
abbrev S8448x1 : Shape := ⟨2, ![8448, 1]⟩
abbrev S1x32 : Shape := ⟨2, ![1, 32]⟩
abbrev S8448x32 : Shape := ⟨2, ![8448, 32]⟩
abbrev S8448x64 : Shape := ⟨2, ![8448, 64]⟩
abbrev S1x8448x1x64 : Shape := ⟨4, ![1, 8448, 1, 64]⟩
abbrev S1x8448x4x64 : Shape := ⟨4, ![1, 8448, 4, 64]⟩
abbrev S8448x256 : Shape := ⟨2, ![8448, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S128x4x64 : Shape := ⟨3, ![128, 4, 64]⟩
abbrev S128x256 : Shape := ⟨2, ![128, 256]⟩
abbrev S4x64 : Shape := ⟨2, ![4, 64]⟩
abbrev S256 : Shape := ⟨1, ![256]⟩
abbrev S1x256 : Shape := ⟨2, ![1, 256]⟩
abbrev S4x1x1024 : Shape := ⟨3, ![4, 1, 1024]⟩
abbrev S4x1x512 : Shape := ⟨3, ![4, 1, 512]⟩
abbrev S2x8448x512 : Shape := ⟨3, ![2, 8448, 512]⟩
abbrev S2x768x1024 : Shape := ⟨3, ![2, 768, 1024]⟩
abbrev S1x1x1024 : Shape := ⟨3, ![1, 1, 1024]⟩
abbrev S1x1024x1536 : Shape := ⟨3, ![1, 1024, 1536]⟩
abbrev S768x256 : Shape := ⟨2, ![768, 256]⟩
abbrev S1x1x512 : Shape := ⟨3, ![1, 1, 512]⟩
abbrev S2x768x512 : Shape := ⟨3, ![2, 768, 512]⟩
abbrev S2x2x256x128 : Shape := ⟨4, ![2, 2, 256, 128]⟩
abbrev S1x256x1024 : Shape := ⟨3, ![1, 256, 1024]⟩
abbrev S256x1024 : Shape := ⟨2, ![256, 1024]⟩
abbrev S1x1024 : Shape := ⟨2, ![1, 1024]⟩
abbrev S256x1 : Shape := ⟨2, ![256, 1]⟩
abbrev S512x1024 : Shape := ⟨2, ![512, 1024]⟩
abbrev S1024x1536 : Shape := ⟨2, ![1024, 1536]⟩
abbrev S512x1536 : Shape := ⟨2, ![512, 1536]⟩
abbrev S512x256 : Shape := ⟨2, ![512, 256]⟩
abbrev S512x512 : Shape := ⟨2, ![512, 512]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S1x1x256x128 : Shape := ⟨4, ![1, 1, 256, 128]⟩
abbrev S64x512 : Shape := ⟨2, ![64, 512]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S1x512 : Shape := ⟨2, ![1, 512]⟩
abbrev S256x512 : Shape := ⟨2, ![256, 512]⟩
abbrev S1x256x512 : Shape := ⟨3, ![1, 256, 512]⟩

abbrev nBuf : Space → Nat
  | .hbm => 166
  | .vmem => 16
  | .smem => 0
  | _ => 0

abbrev hbmTy0_0 (i : Nat) : BufTy := match i % 128 with
  | 0 => ⟨S2x8448x1024, .f32⟩
  | 1 => ⟨S4x1024, .f32⟩
  | 2 => ⟨S4x1024x9736, .f32⟩
  | 3 => ⟨S4x512, .f32⟩
  | 4 => ⟨S4x1024x9736, .bf16⟩
  | 5 => ⟨S8448, .i32⟩
  | 6 => ⟨S_, .i32⟩
  | 7 => ⟨S8448, .i32⟩
  | 8 => ⟨S8448, .i32⟩
  | 9 => ⟨S8448, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S8448x1, .f32⟩
  | 19 => ⟨S1x32, .f32⟩
  | 20 => ⟨S8448x32, .f32⟩
  | 21 => ⟨S8448x32, .f32⟩
  | 22 => ⟨S8448x32, .f32⟩
  | 23 => ⟨S8448x32, .f32⟩
  | 24 => ⟨S8448x32, .f32⟩
  | 25 => ⟨S8448x64, .f32⟩
  | 26 => ⟨S1x8448x1x64, .f32⟩
  | 27 => ⟨S1x8448x4x64, .f32⟩
  | 28 => ⟨S8448x256, .f32⟩
  | 29 => ⟨S8448x32, .f32⟩
  | 30 => ⟨S8448x64, .f32⟩
  | 31 => ⟨S1x8448x1x64, .f32⟩
  | 32 => ⟨S1x8448x4x64, .f32⟩
  | 33 => ⟨S8448x256, .f32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S4, .f32⟩
  | 43 => ⟨S4, .f32⟩
  | 44 => ⟨S128, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S128, .i32⟩
  | 52 => ⟨S128, .i32⟩
  | 53 => ⟨S_, .i32⟩
  | 54 => ⟨S128, .i32⟩
  | 55 => ⟨S128, .i1⟩
  | 56 => ⟨S_, .i32⟩
  | 57 => ⟨S128, .i32⟩
  | 58 => ⟨S128, .i1⟩
  | 59 => ⟨S_, .i32⟩
  | 60 => ⟨S_, .i1⟩
  | 61 => ⟨S128, .i1⟩
  | 62 => ⟨S128, .i1⟩
  | 63 => ⟨S128, .i1⟩
  | 64 => ⟨S128, .i32⟩
  | 65 => ⟨S128, .i32⟩
  | 66 => ⟨S128, .i32⟩
  | 67 => ⟨S128, .f32⟩
  | 68 => ⟨S128x1, .i32⟩
  | 69 => ⟨S1x128, .i32⟩
  | 70 => ⟨S128x128, .i32⟩
  | 71 => ⟨S128x128, .i32⟩
  | 72 => ⟨S128x128, .i32⟩
  | 73 => ⟨S128x128, .f32⟩
  | 74 => ⟨S128x1, .i32⟩
  | 75 => ⟨S_, .i32⟩
  | 76 => ⟨S_, .i32⟩
  | 77 => ⟨S128x1, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S128x1, .i32⟩
  | 84 => ⟨S128x1, .i32⟩
  | 85 => ⟨S_, .i32⟩
  | 86 => ⟨S128x1, .i32⟩
  | 87 => ⟨S128x1, .i1⟩
  | 88 => ⟨S128x1, .i1⟩
  | 89 => ⟨S_, .i32⟩
  | 90 => ⟨S128x1, .i32⟩
  | 91 => ⟨S128x1, .i32⟩
  | 92 => ⟨S128x1, .i32⟩
  | 93 => ⟨S1x128, .i32⟩
  | 94 => ⟨S_, .i32⟩
  | 95 => ⟨S_, .i32⟩
  | 96 => ⟨S1x128, .i32⟩
  | 97 => ⟨S1x128, .i32⟩
  | 98 => ⟨S1x128, .i32⟩
  | 99 => ⟨S_, .i32⟩
  | 100 => ⟨S1x128, .i32⟩
  | 101 => ⟨S1x128, .i1⟩
  | 102 => ⟨S1x128, .i32⟩
  | 103 => ⟨S1x128, .i32⟩
  | 104 => ⟨S_, .i32⟩
  | 105 => ⟨S1x128, .i32⟩
  | 106 => ⟨S1x128, .i1⟩
  | 107 => ⟨S1x128, .i1⟩
  | 108 => ⟨S_, .i32⟩
  | 109 => ⟨S1x128, .i32⟩
  | 110 => ⟨S1x128, .i32⟩
  | 111 => ⟨S1x128, .i32⟩
  | 112 => ⟨S128x128, .i32⟩
  | 113 => ⟨S128x128, .i32⟩
  | 114 => ⟨S128x128, .i1⟩
  | 115 => ⟨S_, .f32⟩
  | 116 => ⟨S128x128, .f32⟩
  | 117 => ⟨S128x128, .i1⟩
  | 118 => ⟨S128x128, .i1⟩
  | 119 => ⟨S1x128x128, .i1⟩
  | 120 => ⟨S4x1x1, .f32⟩
  | 121 => ⟨S_, .f32⟩
  | 122 => ⟨S128x128, .f32⟩
  | 123 => ⟨S128x128, .f32⟩
  | 124 => ⟨S1x128x128, .f32⟩
  | 125 => ⟨S4x128x128, .f32⟩
  | 126 => ⟨S4x128x128, .f32⟩
  | 127 => ⟨S4x128x128, .f32⟩
  | _ => ⟨S2x8448x1024, .f32⟩

abbrev hbmTy0_1 (i : Nat) : BufTy := match i % 128 with
  | 0 => ⟨S4x128x128, .f32⟩
  | 1 => ⟨S_, .f32⟩
  | 2 => ⟨S_, .f32⟩
  | 3 => ⟨S4x128x128, .i1⟩
  | 4 => ⟨S4x128x128, .f32⟩
  | 5 => ⟨S4x128x128, .f32⟩
  | 6 => ⟨S1x4, .f32⟩
  | 7 => ⟨S128x1, .f32⟩
  | 8 => ⟨S_, .f32⟩
  | 9 => ⟨S128x1, .f32⟩
  | 10 => ⟨S128x1, .f32⟩
  | 11 => ⟨S128x4, .f32⟩
  | 12 => ⟨S128x4, .f32⟩
  | 13 => ⟨S128x4, .f32⟩
  | 14 => ⟨S128x4, .f32⟩
  | 15 => ⟨S128x4x64, .f32⟩
  | 16 => ⟨S128x256, .f32⟩
  | 17 => ⟨S1x4, .f32⟩
  | 18 => ⟨S128x1, .f32⟩
  | 19 => ⟨S_, .f32⟩
  | 20 => ⟨S128x1, .f32⟩
  | 21 => ⟨S128x1, .f32⟩
  | 22 => ⟨S128x4, .f32⟩
  | 23 => ⟨S128x4, .f32⟩
  | 24 => ⟨S128x4, .f32⟩
  | 25 => ⟨S128x4, .f32⟩
  | 26 => ⟨S128x4x64, .f32⟩
  | 27 => ⟨S128x256, .f32⟩
  | 28 => ⟨S_, .f32⟩
  | 29 => ⟨S4, .f32⟩
  | 30 => ⟨S4, .f32⟩
  | 31 => ⟨S4, .f32⟩
  | 32 => ⟨S4x64, .f32⟩
  | 33 => ⟨S256, .f32⟩
  | 34 => ⟨S1x256, .f32⟩
  | 35 => ⟨S4x1x1024, .f32⟩
  | 36 => ⟨S4x1x512, .f32⟩
  | 37 => ⟨S2x8448x512, .bf16⟩
  | _ => ⟨S2x8448x1024, .f32⟩

abbrev hbmTy (i : Nat) : BufTy := match i / 128 with
  | 0 => hbmTy0_0 i
  | 1 => hbmTy0_1 i
  | _ => ⟨S2x8448x1024, .f32⟩

abbrev bufTy : (tb : Table) → Fin (tcTables nBuf tb) → BufTy
  | .hbm, ⟨i, _⟩ => hbmTy i
  | .local _ .vmem, ⟨0, _⟩ => ⟨S2x768x1024, .f32⟩
  | .local _ .vmem, ⟨1, _⟩ => ⟨S2x768x1024, .f32⟩
  | .local _ .vmem, ⟨2, _⟩ => ⟨S1x1x1024, .f32⟩
  | .local _ .vmem, ⟨3, _⟩ => ⟨S1x1024x1536, .bf16⟩
  | .local _ .vmem, ⟨4, _⟩ => ⟨S768x256, .f32⟩
  | .local _ .vmem, ⟨5, _⟩ => ⟨S768x256, .f32⟩
  | .local _ .vmem, ⟨6, _⟩ => ⟨S768x256, .f32⟩
  | .local _ .vmem, ⟨7, _⟩ => ⟨S768x256, .f32⟩
  | .local _ .vmem, ⟨8, _⟩ => ⟨S4x128x128, .f32⟩
  | .local _ .vmem, ⟨9, _⟩ => ⟨S128x256, .f32⟩
  | .local _ .vmem, ⟨10, _⟩ => ⟨S128x256, .f32⟩
  | .local _ .vmem, ⟨11, _⟩ => ⟨S1x256, .f32⟩
  | .local _ .vmem, ⟨12, _⟩ => ⟨S1x1x512, .f32⟩
  | .local _ .vmem, ⟨13, _⟩ => ⟨S2x768x512, .bf16⟩
  | .local _ .vmem, ⟨14, _⟩ => ⟨S2x768x512, .bf16⟩
  | .local _ .vmem, ⟨15, _⟩ => ⟨S2x2x256x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_call0_v0 : Ref sig .tc := ⟨.hbm, 46, rfl⟩
abbrev main_call0_c : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_1 : Ref sig .tc := ⟨.hbm, 53, rfl⟩
abbrev main_call0_v5 : Ref sig .tc := ⟨.hbm, 54, rfl⟩
abbrev main_call0_v6 : Ref sig .tc := ⟨.hbm, 55, rfl⟩
abbrev main_call0_c_2 : Ref sig .tc := ⟨.hbm, 56, rfl⟩
abbrev main_call0_v7 : Ref sig .tc := ⟨.hbm, 57, rfl⟩
abbrev main_call0_v8 : Ref sig .tc := ⟨.hbm, 58, rfl⟩
abbrev main_call0_c_3 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_4 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v45 : Ref sig .tc := ⟨.hbm, 92, rfl⟩
abbrev main_v46 : Ref sig .tc := ⟨.hbm, 93, rfl⟩
abbrev main_c_5 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_c : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_0 : Ref sig .tc := ⟨.hbm, 108, rfl⟩
abbrev main_call2_v12 : Ref sig .tc := ⟨.hbm, 109, rfl⟩
abbrev main_call2_v13 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_cst_6 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_7 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_cst_8 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v63 : Ref sig .tc := ⟨.hbm, 133, rfl⟩
abbrev main_v64 : Ref sig .tc := ⟨.hbm, 134, rfl⟩
abbrev main_v65 : Ref sig .tc := ⟨.hbm, 135, rfl⟩
abbrev main_cst_9 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_10 : Ref sig .tc := ⟨.hbm, 147, rfl⟩
abbrev main_v76 : Ref sig .tc := ⟨.hbm, 148, rfl⟩
abbrev main_v77 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_cst_11 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32_1 : BitVec 32 := 0#32
  let c3_i32 : BitVec 32 := 3#32
  let v3 : BitVec 32 := Scalar.addi c0_i32_1 c3_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  v6
def k0_off1 (k0_t1 : Fin k0_t1_loop.trips) : Fin 3 → Nat :=
  let c0 : Index := 0#32
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  let v7 : BitVec 32 := v6
  let v9 : Index := Scalar.indexCast v7
  let c0_5 : Index := 0#32
  ![0, v9.toNat, 0]
def k0_off2 (k0_t1 : Fin k0_t1_loop.trips) : Fin 3 → Nat :=
  let c1 : Index := 1#32
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  let v7 : BitVec 32 := v6
  let v34 : Index := Scalar.indexCast v7
  let c0_12 : Index := 0#32
  ![1, v34.toNat, 0]
def k0_off3 (k0_t1 : Fin k0_t1_loop.trips) : Fin 2 → Nat :=
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  let v7 : BitVec 32 := v6
  let v67 : Index := Scalar.indexCast v7
  let c0_25 : Index := 0#32
  ![v67.toNat, 0]
def k0_off4 (k0_t1 : Fin k0_t1_loop.trips) : Fin 3 → Nat :=
  let c0_297 : Index := 0#32
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  let v7 : BitVec 32 := v6
  let v743 : Index := Scalar.indexCast v7
  let c0_298 : Index := 0#32
  ![0, v743.toNat, 0]
def k0_off5 (k0_t1 : Fin k0_t1_loop.trips) : Fin 3 → Nat :=
  let c1_299 : Index := 1#32
  let c0_i32_1 : BitVec 32 := 0#32
  let c1_i32 : BitVec 32 := 1#32
  let arg13 : BitVec 32 := Scf.iv c0_i32_1 c1_i32 k0_t1
  let c256_i32 : BitVec 32 := 256#32
  let v6 : BitVec 32 := Scalar.muli arg13 c256_i32
  let v7 : BitVec 32 := v6
  let v749 : Index := Scalar.indexCast v7
  let c0_300 : Index := 0#32
  ![1, v749.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c1536_i32 : BitVec 32 := 1536#32
  let c0_i32_0 : BitVec 32 := 0#32
  ![c1_i32.toNat, c0_i32.toNat, c1536_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x768x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S2x8448x1024 : Shape := ⟨3, ![2, 8448, 1024]⟩
abbrev S4x1024 : Shape := ⟨2, ![4, 1024]⟩
abbrev S4x1024x9736 : Shape := ⟨3, ![4, 1024, 9736]⟩
abbrev S4x512 : Shape := ⟨2, ![4, 512]⟩
abbrev S8448 : Shape := ⟨1, ![8448]⟩
abbrev S_ : Shape := ⟨0, ![]⟩
abbrev S8448x1 : Shape := ⟨2, ![8448, 1]⟩
abbrev S1x1024 : Shape := ⟨2, ![1, 1024]⟩
abbrev S1024 : Shape := ⟨1, ![1024]⟩
abbrev S2x8448 : Shape := ⟨2, ![2, 8448]⟩
abbrev S2x8448x1 : Shape := ⟨3, ![2, 8448, 1]⟩
abbrev S1x1x1024 : Shape := ⟨3, ![1, 1, 1024]⟩
abbrev S1x8448x1 : Shape := ⟨3, ![1, 8448, 1]⟩
abbrev S1x1024x9736 : Shape := ⟨3, ![1, 1024, 9736]⟩
abbrev S1024x9736 : Shape := ⟨2, ![1024, 9736]⟩
abbrev S2x8448x9736 : Shape := ⟨3, ![2, 8448, 9736]⟩
abbrev S2x8448x256 : Shape := ⟨3, ![2, 8448, 256]⟩
abbrev S2x8448x512 : Shape := ⟨3, ![2, 8448, 512]⟩
abbrev S1x512 : Shape := ⟨2, ![1, 512]⟩
abbrev S512 : Shape := ⟨1, ![512]⟩
abbrev S2x8448x4x64 : Shape := ⟨4, ![2, 8448, 4, 64]⟩
abbrev S32 : Shape := ⟨1, ![32]⟩
abbrev S1x32 : Shape := ⟨2, ![1, 32]⟩
abbrev S8448x32 : Shape := ⟨2, ![8448, 32]⟩
abbrev S8448x1x32 : Shape := ⟨3, ![8448, 1, 32]⟩
abbrev S2x8448x4x32 : Shape := ⟨4, ![2, 8448, 4, 32]⟩
abbrev S1x8448x1x32 : Shape := ⟨4, ![1, 8448, 1, 32]⟩
abbrev S2x8448x4x128 : Shape := ⟨4, ![2, 8448, 4, 128]⟩
abbrev S2x132x64x4x64 : Shape := ⟨5, ![2, 132, 64, 4, 64]⟩
abbrev S132x2x4x64x64 : Shape := ⟨5, ![132, 2, 4, 64, 64]⟩
abbrev S2x132x64x4x128 : Shape := ⟨5, ![2, 132, 64, 4, 128]⟩
abbrev S132x2x4x64x128 : Shape := ⟨5, ![132, 2, 4, 64, 128]⟩
abbrev S4 : Shape := ⟨1, ![4]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x1x1 : Shape := ⟨3, ![4, 1, 1]⟩
abbrev S1x64x64 : Shape := ⟨3, ![1, 64, 64]⟩
abbrev S4x64x64 : Shape := ⟨3, ![4, 64, 64]⟩
abbrev S1x1x4x64x64 : Shape := ⟨5, ![1, 1, 4, 64, 64]⟩
abbrev S4x1 : Shape := ⟨2, ![4, 1]⟩
abbrev S4x64 : Shape := ⟨2, ![4, 64]⟩
abbrev S4x64x1 : Shape := ⟨3, ![4, 64, 1]⟩
abbrev S2x4x64x128 : Shape := ⟨4, ![2, 4, 64, 128]⟩
abbrev S1x2x4x64x64 : Shape := ⟨5, ![1, 2, 4, 64, 64]⟩
abbrev S2x4x64x64 : Shape := ⟨4, ![2, 4, 64, 64]⟩
abbrev S1x2x4x64x128 : Shape := ⟨5, ![1, 2, 4, 64, 128]⟩
abbrev S1x4x64x1 : Shape := ⟨4, ![1, 4, 64, 1]⟩
abbrev S1x4x1x1 : Shape := ⟨4, ![1, 4, 1, 1]⟩
abbrev S2x8448x4 : Shape := ⟨3, ![2, 8448, 4]⟩
abbrev S2x8448x4x1 : Shape := ⟨4, ![2, 8448, 4, 1]⟩
abbrev S1x1x512 : Shape := ⟨3, ![1, 1, 512]⟩

abbrev nBuf : Space → Nat
  | .hbm => 280
  | .vmem => 0
  | .smem => 0
  | _ => 0

abbrev hbmTy0_0 (i : Nat) : BufTy := match i % 128 with
  | 0 => ⟨S2x8448x1024, .f32⟩
  | 1 => ⟨S4x1024, .f32⟩
  | 2 => ⟨S4x1024x9736, .f32⟩
  | 3 => ⟨S4x512, .f32⟩
  | 4 => ⟨S8448, .i32⟩
  | 5 => ⟨S_, .i32⟩
  | 6 => ⟨S8448, .i32⟩
  | 7 => ⟨S8448, .i1⟩
  | 8 => ⟨S8448, .f32⟩
  | 9 => ⟨S8448x1, .f32⟩
  | 10 => ⟨S_, .i32⟩
  | 11 => ⟨S8448, .i32⟩
  | 12 => ⟨S8448, .i32⟩
  | 13 => ⟨S8448, .f32⟩
  | 14 => ⟨S1x1024, .f32⟩
  | 15 => ⟨S1024, .f32⟩
  | 16 => ⟨S2x8448x1024, .f32⟩
  | 17 => ⟨S_, .f32⟩
  | 18 => ⟨S2x8448, .f32⟩
  | 19 => ⟨S2x8448x1, .f32⟩
  | 20 => ⟨S_, .f32⟩
  | 21 => ⟨S2x8448x1, .f32⟩
  | 22 => ⟨S2x8448x1, .f32⟩
  | 23 => ⟨S_, .f32⟩
  | 24 => ⟨S2x8448x1, .f32⟩
  | 25 => ⟨S2x8448x1, .f32⟩
  | 26 => ⟨S2x8448x1, .f32⟩
  | 27 => ⟨S2x8448x1024, .f32⟩
  | 28 => ⟨S2x8448x1024, .f32⟩
  | 29 => ⟨S1x1x1024, .f32⟩
  | 30 => ⟨S2x8448x1024, .f32⟩
  | 31 => ⟨S2x8448x1024, .f32⟩
  | 32 => ⟨S1x8448x1, .f32⟩
  | 33 => ⟨S2x8448x1024, .f32⟩
  | 34 => ⟨S2x8448x1024, .f32⟩
  | 35 => ⟨S1x1024x9736, .f32⟩
  | 36 => ⟨S1024x9736, .f32⟩
  | 37 => ⟨S2x8448x9736, .f32⟩
  | 38 => ⟨S2x8448x256, .f32⟩
  | 39 => ⟨S2x8448x256, .f32⟩
  | 40 => ⟨S2x8448x512, .f32⟩
  | 41 => ⟨S2x8448x512, .f32⟩
  | 42 => ⟨S1x512, .f32⟩
  | 43 => ⟨S512, .f32⟩
  | 44 => ⟨S2x8448x4x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8448x1, .f32⟩
  | 54 => ⟨S1x32, .f32⟩
  | 55 => ⟨S8448x32, .f32⟩
  | 56 => ⟨S8448x32, .f32⟩
  | 57 => ⟨S8448x32, .f32⟩
  | 58 => ⟨S8448x32, .f32⟩
  | 59 => ⟨S8448x1x32, .f32⟩
  | 60 => ⟨S8448x32, .f32⟩
  | 61 => ⟨S8448x1x32, .f32⟩
  | 62 => ⟨S2x8448x4x32, .f32⟩
  | 63 => ⟨S2x8448x4x32, .f32⟩
  | 64 => ⟨S1x8448x1x32, .f32⟩
  | 65 => ⟨S2x8448x4x32, .f32⟩
  | 66 => ⟨S2x8448x4x32, .f32⟩
  | 67 => ⟨S1x8448x1x32, .f32⟩
  | 68 => ⟨S2x8448x4x32, .f32⟩
  | 69 => ⟨S2x8448x4x32, .f32⟩
  | 70 => ⟨S2x8448x4x32, .f32⟩
  | 71 => ⟨S1x8448x1x32, .f32⟩
  | 72 => ⟨S2x8448x4x32, .f32⟩
  | 73 => ⟨S2x8448x4x32, .f32⟩
  | 74 => ⟨S1x8448x1x32, .f32⟩
  | 75 => ⟨S2x8448x4x32, .f32⟩
  | 76 => ⟨S2x8448x4x32, .f32⟩
  | 77 => ⟨S2x8448x4x32, .f32⟩
  | 78 => ⟨S2x8448x4x64, .f32⟩
  | 79 => ⟨S2x8448x4x64, .f32⟩
  | 80 => ⟨S32, .f32⟩
  | 81 => ⟨S32, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S8448x1, .f32⟩
  | 89 => ⟨S1x32, .f32⟩
  | 90 => ⟨S8448x32, .f32⟩
  | 91 => ⟨S8448x32, .f32⟩
  | 92 => ⟨S8448x32, .f32⟩
  | 93 => ⟨S8448x32, .f32⟩
  | 94 => ⟨S8448x1x32, .f32⟩
  | 95 => ⟨S8448x32, .f32⟩
  | 96 => ⟨S8448x1x32, .f32⟩
  | 97 => ⟨S2x8448x4x32, .f32⟩
  | 98 => ⟨S2x8448x4x32, .f32⟩
  | 99 => ⟨S1x8448x1x32, .f32⟩
  | 100 => ⟨S2x8448x4x32, .f32⟩
  | 101 => ⟨S2x8448x4x32, .f32⟩
  | 102 => ⟨S1x8448x1x32, .f32⟩
  | 103 => ⟨S2x8448x4x32, .f32⟩
  | 104 => ⟨S2x8448x4x32, .f32⟩
  | 105 => ⟨S2x8448x4x32, .f32⟩
  | 106 => ⟨S1x8448x1x32, .f32⟩
  | 107 => ⟨S2x8448x4x32, .f32⟩
  | 108 => ⟨S2x8448x4x32, .f32⟩
  | 109 => ⟨S1x8448x1x32, .f32⟩
  | 110 => ⟨S2x8448x4x32, .f32⟩
  | 111 => ⟨S2x8448x4x32, .f32⟩
  | 112 => ⟨S2x8448x4x32, .f32⟩
  | 113 => ⟨S2x8448x4x64, .f32⟩
  | 114 => ⟨S_, .f32⟩
  | 115 => ⟨S2x8448x4x64, .f32⟩
  | 116 => ⟨S2x8448x4x64, .f32⟩
  | 117 => ⟨S2x8448x4x128, .f32⟩
  | 118 => ⟨S2x132x64x4x64, .f32⟩
  | 119 => ⟨S132x2x4x64x64, .f32⟩
  | 120 => ⟨S2x132x64x4x64, .f32⟩
  | 121 => ⟨S132x2x4x64x64, .f32⟩
  | 122 => ⟨S2x132x64x4x128, .f32⟩
  | 123 => ⟨S132x2x4x64x128, .f32⟩
  | 124 => ⟨S4, .f32⟩
  | 125 => ⟨S_, .f32⟩
  | 126 => ⟨S4, .f32⟩
  | 127 => ⟨S4, .f32⟩
  | _ => ⟨S2x8448x1024, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4, .f32⟩
  | 5 => ⟨S4, .f32⟩
  | 6 => ⟨S64, .f32⟩
  | 7 => ⟨S64x1, .f32⟩
  | 8 => ⟨S1x64, .f32⟩
  | 9 => ⟨S64x64, .f32⟩
  | 10 => ⟨S64x64, .f32⟩
  | 11 => ⟨S64x64, .f32⟩
  | 12 => ⟨S_, .f32⟩
  | 13 => ⟨S64x64, .f32⟩
  | 14 => ⟨S64x64, .i1⟩
  | 15 => ⟨S4x1x1, .f32⟩
  | 16 => ⟨S_, .f32⟩
  | 17 => ⟨S64x64, .f32⟩
  | 18 => ⟨S64x64, .f32⟩
  | 19 => ⟨S1x64x64, .f32⟩
  | 20 => ⟨S4x64x64, .f32⟩
  | 21 => ⟨S4x64x64, .f32⟩
  | 22 => ⟨S4x64x64, .f32⟩
  | 23 => ⟨S4x64x64, .f32⟩
  | 24 => ⟨S_, .f32⟩
  | 25 => ⟨S_, .f32⟩
  | 26 => ⟨S4x64x64, .i1⟩
  | 27 => ⟨S4x64x64, .f32⟩
  | 28 => ⟨S4x64x64, .f32⟩
  | 29 => ⟨S132x2x4x64x64, .f32⟩
  | 30 => ⟨S1x1x4x64x64, .f32⟩
  | 31 => ⟨S132x2x4x64x64, .f32⟩
  | 32 => ⟨S132x2x4x64x64, .f32⟩
  | 33 => ⟨S132x2x4x64x128, .f32⟩
  | 34 => ⟨S4x1, .f32⟩
  | 35 => ⟨S_, .f32⟩
  | 36 => ⟨S64, .f32⟩
  | 37 => ⟨S64, .f32⟩
  | 38 => ⟨S1x64, .f32⟩
  | 39 => ⟨S4x64, .f32⟩
  | 40 => ⟨S4x64, .f32⟩
  | 41 => ⟨S4x64, .f32⟩
  | 42 => ⟨S4x64, .f32⟩
  | 43 => ⟨S4x64x1, .f32⟩
  | 44 => ⟨S4x1, .f32⟩
  | 45 => ⟨S_, .f32⟩
  | 46 => ⟨S64, .f32⟩
  | 47 => ⟨S64, .f32⟩
  | 48 => ⟨S1x64, .f32⟩
  | 49 => ⟨S4x64, .f32⟩
  | 50 => ⟨S4x64, .f32⟩
  | 51 => ⟨S4x64, .f32⟩
  | 52 => ⟨S4x64, .f32⟩
  | 53 => ⟨S4x64x1, .f32⟩
  | 54 => ⟨S_, .f32⟩
  | 55 => ⟨S4, .f32⟩
  | 56 => ⟨S4, .f32⟩
  | 57 => ⟨S4, .f32⟩
  | 58 => ⟨S4x1x1, .f32⟩
  | 59 => ⟨S_, .f32⟩
  | 60 => ⟨S2x4x64x128, .f32⟩
  | 61 => ⟨S_, .f32⟩
  | 62 => ⟨S132x2x4x64x128, .f32⟩
  | 63 => ⟨S_, .i32⟩
  | 64 => ⟨S132x2x4x64x64, .f32⟩
  | 65 => ⟨S132x2x4x64x64, .f32⟩
  | 66 => ⟨S132x2x4x64x128, .f32⟩
  | 67 => ⟨S4x64x1, .f32⟩
  | 68 => ⟨S4x1x1, .f32⟩
  | 69 => ⟨S4x64x1, .f32⟩
  | 70 => ⟨S_, .i32⟩
  | 71 => ⟨S2x4x64x128, .f32⟩
  | 72 => ⟨S132x2x4x64x128, .f32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1x2x4x64x64, .f32⟩
  | 80 => ⟨S2x4x64x64, .f32⟩
  | 81 => ⟨S_, .i32⟩
  | 82 => ⟨S_, .i32⟩
  | 83 => ⟨S_, .i32⟩
  | 84 => ⟨S_, .i32⟩
  | 85 => ⟨S1x2x4x64x64, .f32⟩
  | 86 => ⟨S2x4x64x64, .f32⟩
  | 87 => ⟨S_, .i32⟩
  | 88 => ⟨S_, .i32⟩
  | 89 => ⟨S_, .i32⟩
  | 90 => ⟨S_, .i32⟩
  | 91 => ⟨S1x2x4x64x128, .f32⟩
  | 92 => ⟨S2x4x64x128, .f32⟩
  | 93 => ⟨S1x4x64x1, .f32⟩
  | 94 => ⟨S2x4x64x64, .f32⟩
  | 95 => ⟨S2x4x64x64, .f32⟩
  | 96 => ⟨S2x4x64x128, .f32⟩
  | 97 => ⟨S1x4x1x1, .f32⟩
  | 98 => ⟨S2x4x64x128, .f32⟩
  | 99 => ⟨S2x4x64x128, .f32⟩
  | 100 => ⟨S1x4x64x1, .f32⟩
  | 101 => ⟨S2x4x64x64, .f32⟩
  | 102 => ⟨S2x4x64x64, .f32⟩
  | 103 => ⟨S2x4x64x128, .f32⟩
  | 104 => ⟨S2x4x64x128, .f32⟩
  | 105 => ⟨S1x2x4x64x128, .f32⟩
  | 106 => ⟨S_, .i32⟩
  | 107 => ⟨S_, .i32⟩
  | 108 => ⟨S_, .i32⟩
  | 109 => ⟨S_, .i32⟩
  | 110 => ⟨S132x2x4x64x128, .f32⟩
  | 111 => ⟨S_, .i32⟩
  | 112 => ⟨S_, .i32⟩
  | 113 => ⟨S132x2x4x64x128, .f32⟩
  | 114 => ⟨S2x132x64x4x128, .f32⟩
  | 115 => ⟨S2x8448x4x128, .f32⟩
  | 116 => ⟨S_, .f32⟩
  | 117 => ⟨S2x8448x4, .f32⟩
  | 118 => ⟨S2x8448x4x1, .f32⟩
  | 119 => ⟨S_, .f32⟩
  | 120 => ⟨S2x8448x4x1, .f32⟩
  | 121 => ⟨S2x8448x4x1, .f32⟩
  | 122 => ⟨S2x8448x4x128, .f32⟩
  | 123 => ⟨S2x8448x4x128, .f32⟩
  | 124 => ⟨S2x8448x4x128, .f32⟩
  | 125 => ⟨S_, .f32⟩
  | 126 => ⟨S2x8448x4, .f32⟩
  | 127 => ⟨S2x8448x4x1, .f32⟩
  | _ => ⟨S2x8448x1024, .f32⟩

abbrev hbmTy0_2 (i : Nat) : BufTy := match i % 128 with
  | 0 => ⟨S_, .f32⟩
  | 1 => ⟨S2x8448x4x1, .f32⟩
  | 2 => ⟨S2x8448x4x1, .f32⟩
  | 3 => ⟨S_, .f32⟩
  | 4 => ⟨S2x8448x4x1, .f32⟩
  | 5 => ⟨S2x8448x4x1, .f32⟩
  | 6 => ⟨S2x8448x4x1, .f32⟩
  | 7 => ⟨S2x8448x4x128, .f32⟩
  | 8 => ⟨S2x8448x4x128, .f32⟩
  | 9 => ⟨S2x8448x512, .f32⟩
  | 10 => ⟨S1x1x512, .f32⟩
  | 11 => ⟨S2x8448x512, .f32⟩
  | 12 => ⟨S2x8448x512, .f32⟩
  | 13 => ⟨S2x8448x512, .f32⟩
  | 14 => ⟨S2x8448x512, .f32⟩
  | 15 => ⟨S_, .f32⟩
  | 16 => ⟨S2x8448x512, .f32⟩
  | 17 => ⟨S2x8448x512, .f32⟩
  | 18 => ⟨S_, .f32⟩
  | 19 => ⟨S2x8448x512, .f32⟩
  | 20 => ⟨S2x8448x512, .f32⟩
  | 21 => ⟨S2x8448x512, .f32⟩
  | 22 => ⟨S2x8448x512, .f32⟩
  | 23 => ⟨S2x8448x512, .bf16⟩
  | _ => ⟨S2x8448x1024, .f32⟩

abbrev hbmTy (i : Nat) : BufTy := match i / 128 with
  | 0 => hbmTy0_0 i
  | 1 => hbmTy0_1 i
  | 2 => hbmTy0_2 i
  | _ => ⟨S2x8448x1024, .f32⟩

abbrev bufTy : (tb : Table) → Fin (tcTables nBuf tb) → BufTy
  | .hbm, ⟨i, _⟩ => hbmTy i
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_5 : Ref sig .tc := ⟨.hbm, 82, rfl⟩
abbrev main_v71 : Ref sig .tc := ⟨.hbm, 83, rfl⟩
abbrev main_v72 : Ref sig .tc := ⟨.hbm, 84, rfl⟩
abbrev main_cst_6 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_cst_7 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_cst_8 : Ref sig .tc := ⟨.hbm, 125, rfl⟩
abbrev main_v111 : Ref sig .tc := ⟨.hbm, 126, rfl⟩
abbrev main_v112 : Ref sig .tc := ⟨.hbm, 127, rfl⟩
abbrev main_cst_9 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_cst_10 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_cst_11 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_cst_12 : Ref sig .tc := ⟨.hbm, 152, rfl⟩
abbrev main_call0_v0 : Ref sig .tc := ⟨.hbm, 153, rfl⟩
abbrev main_call0_v1 : Ref sig .tc := ⟨.hbm, 154, rfl⟩
abbrev main_call0_v2 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_cst_13 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_14 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_cst_15 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_cst_16 : Ref sig .tc := ⟨.hbm, 187, rfl⟩
abbrev main_v162 : Ref sig .tc := ⟨.hbm, 188, rfl⟩
abbrev main_cst_17 : Ref sig .tc := ⟨.hbm, 189, rfl⟩
abbrev main_v163 : Ref sig .tc := ⟨.hbm, 190, rfl⟩
abbrev main_c_18 : Ref sig .tc := ⟨.hbm, 191, rfl⟩
abbrev main_v164_0 : Ref sig .tc := ⟨.hbm, 192, rfl⟩
abbrev main_v164_1 : Ref sig .tc := ⟨.hbm, 193, rfl⟩
abbrev main_v164_2 : Ref sig .tc := ⟨.hbm, 194, rfl⟩
abbrev main_v164_3 : Ref sig .tc := ⟨.hbm, 195, rfl⟩
abbrev main_v164_4 : Ref sig .tc := ⟨.hbm, 196, rfl⟩
abbrev main_v164_5 : Ref sig .tc := ⟨.hbm, 197, rfl⟩
abbrev main_v164_6 : Ref sig .tc := ⟨.hbm, 198, rfl⟩
abbrev main_v164_7 : Ref sig .tc := ⟨.hbm, 199, rfl⟩
abbrev main_v164_8 : Ref sig .tc := ⟨.hbm, 200, rfl⟩
abbrev main_while0c_c_32 : Ref sig .tc := ⟨.hbm, 201, rfl⟩
abbrev main_while0c_v191 : Ref sig .tc := ⟨.hbm, 202, rfl⟩
abbrev main_while0b_call1_c : Ref sig .tc := ⟨.hbm, 203, rfl⟩
abbrev main_while0b_call1_c_0 : Ref sig .tc := ⟨.hbm, 204, rfl⟩
abbrev main_while0b_call1_c_1 : Ref sig .tc := ⟨.hbm, 205, rfl⟩
abbrev main_while0b_call1_c_2 : Ref sig .tc := ⟨.hbm, 206, rfl⟩
abbrev main_while0b_call1_v0 : Ref sig .tc := ⟨.hbm, 207, rfl⟩
abbrev main_while0b_v191 : Ref sig .tc := ⟨.hbm, 208, rfl⟩
abbrev main_while0b_call2_c : Ref sig .tc := ⟨.hbm, 209, rfl⟩
abbrev main_while0b_call2_c_0 : Ref sig .tc := ⟨.hbm, 210, rfl⟩
abbrev main_while0b_call2_c_1 : Ref sig .tc := ⟨.hbm, 211, rfl⟩
abbrev main_while0b_call2_c_2 : Ref sig .tc := ⟨.hbm, 212, rfl⟩
abbrev main_while0b_call2_v0 : Ref sig .tc := ⟨.hbm, 213, rfl⟩
abbrev main_while0b_v192 : Ref sig .tc := ⟨.hbm, 214, rfl⟩
abbrev main_while0b_call3_c : Ref sig .tc := ⟨.hbm, 215, rfl⟩
abbrev main_while0b_call3_c_0 : Ref sig .tc := ⟨.hbm, 216, rfl⟩
abbrev main_while0b_call3_c_1 : Ref sig .tc := ⟨.hbm, 217, rfl⟩
abbrev main_while0b_call3_c_2 : Ref sig .tc := ⟨.hbm, 218, rfl⟩
abbrev main_while0b_call3_v0 : Ref sig .tc := ⟨.hbm, 219, rfl⟩
abbrev main_while0b_v193 : Ref sig .tc := ⟨.hbm, 220, rfl⟩
abbrev main_while0b_v194 : Ref sig .tc := ⟨.hbm, 221, rfl⟩
abbrev main_while0b_v195 : Ref sig .tc := ⟨.hbm, 222, rfl⟩
abbrev main_while0b_v196 : Ref sig .tc := ⟨.hbm, 223, rfl⟩
abbrev main_while0b_v197 : Ref sig .tc := ⟨.hbm, 224, rfl⟩
abbrev main_while0b_v198 : Ref sig .tc := ⟨.hbm, 225, rfl⟩
abbrev main_while0b_v199 : Ref sig .tc := ⟨.hbm, 226, rfl⟩
abbrev main_while0b_v200 : Ref sig .tc := ⟨.hbm, 227, rfl⟩
abbrev main_while0b_v201 : Ref sig .tc := ⟨.hbm, 228, rfl⟩
abbrev main_while0b_v202 : Ref sig .tc := ⟨.hbm, 229, rfl⟩
abbrev main_while0b_v203 : Ref sig .tc := ⟨.hbm, 230, rfl⟩
abbrev main_while0b_v204 : Ref sig .tc := ⟨.hbm, 231, rfl⟩
abbrev main_while0b_v205 : Ref sig .tc := ⟨.hbm, 232, rfl⟩
abbrev main_while0b_call4_v0 : Ref sig .tc := ⟨.hbm, 233, rfl⟩
abbrev main_while0b_call4_c : Ref sig .tc := ⟨.hbm, 234, rfl⟩
abbrev main_while0b_call4_c_0 : Ref sig .tc := ⟨.hbm, 235, rfl⟩
abbrev main_while0b_call4_c_1 : Ref sig .tc := ⟨.hbm, 236, rfl⟩
abbrev main_while0b_call4_c_2 : Ref sig .tc := ⟨.hbm, 237, rfl⟩
abbrev main_while0b_v206 : Ref sig .tc := ⟨.hbm, 238, rfl⟩
abbrev main_while0b_c_32 : Ref sig .tc := ⟨.hbm, 239, rfl⟩
abbrev main_while0b_v207 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_19 : Ref sig .tc := ⟨.hbm, 244, rfl⟩
abbrev main_v168 : Ref sig .tc := ⟨.hbm, 245, rfl⟩
abbrev main_v169 : Ref sig .tc := ⟨.hbm, 246, rfl⟩
abbrev main_cst_20 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_cst_21 : Ref sig .tc := ⟨.hbm, 253, rfl⟩
abbrev main_v175 : Ref sig .tc := ⟨.hbm, 254, rfl⟩
abbrev main_v176 : Ref sig .tc := ⟨.hbm, 255, rfl⟩
abbrev main_cst_22 : Ref sig .tc := ⟨.hbm, 256, rfl⟩
abbrev main_v177 : Ref sig .tc := ⟨.hbm, 257, rfl⟩
abbrev main_v178 : Ref sig .tc := ⟨.hbm, 258, rfl⟩
abbrev main_cst_23 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_call5_v0 : Ref sig .tc := ⟨.hbm, 269, rfl⟩
abbrev main_call5_v1 : Ref sig .tc := ⟨.hbm, 270, rfl⟩
abbrev main_call5_cst : Ref sig .tc := ⟨.hbm, 271, rfl⟩
abbrev main_call5_v2 : Ref sig .tc := ⟨.hbm, 272, rfl⟩
abbrev main_call5_v3 : Ref sig .tc := ⟨.hbm, 273, rfl⟩
abbrev main_call5_cst_0 : Ref sig .tc := ⟨.hbm, 274, rfl⟩
abbrev main_call5_v4 : Ref sig .tc := ⟨.hbm, 275, rfl⟩
abbrev main_call5_v5 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S16896x1024 : Shape := ⟨2, ![16896, 1024]⟩
abbrev S16896x512 : Shape := ⟨2, ![16896, 512]⟩
abbrev S4x1024 : Shape := ⟨2, ![4, 1024]⟩
abbrev S4x1024x9736 : Shape := ⟨3, ![4, 1024, 9736]⟩
abbrev S4x512x512 : Shape := ⟨3, ![4, 512, 512]⟩
abbrev S4x4x512x1024 : Shape := ⟨4, ![4, 4, 512, 1024]⟩
abbrev S4x1024x1024 : Shape := ⟨3, ![4, 1024, 1024]⟩
abbrev S4x1024x4608 : Shape := ⟨3, ![4, 1024, 4608]⟩
abbrev S4x1x1024 : Shape := ⟨3, ![4, 1, 1024]⟩
abbrev S768x1024 : Shape := ⟨2, ![768, 1024]⟩
abbrev S1x1x1024 : Shape := ⟨3, ![1, 1, 1024]⟩
abbrev S768x512 : Shape := ⟨2, ![768, 512]⟩
abbrev S1x1024x4096 : Shape := ⟨3, ![1, 1024, 4096]⟩
abbrev S1x512x512 : Shape := ⟨3, ![1, 512, 512]⟩
abbrev S1x4x512x1024 : Shape := ⟨4, ![1, 4, 512, 1024]⟩
abbrev S1x1024x1024 : Shape := ⟨3, ![1, 1024, 1024]⟩
abbrev S1x1024 : Shape := ⟨2, ![1, 1024]⟩
abbrev S768 : Shape := ⟨1, ![768]⟩
abbrev S768x1 : Shape := ⟨2, ![768, 1]⟩
abbrev S512x512 : Shape := ⟨2, ![512, 512]⟩
abbrev S1024x1024 : Shape := ⟨2, ![1024, 1024]⟩
abbrev S1x1x512x1024 : Shape := ⟨4, ![1, 1, 512, 1024]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S16896x1024, .f32⟩
  | .hbm, ⟨1, _⟩ => ⟨S16896x512, .bf16⟩
  | .hbm, ⟨2, _⟩ => ⟨S16896x512, .bf16⟩
  | .hbm, ⟨3, _⟩ => ⟨S16896x512, .f32⟩
  | .hbm, ⟨4, _⟩ => ⟨S16896x512, .bf16⟩
  | .hbm, ⟨5, _⟩ => ⟨S4x1024, .f32⟩
  | .hbm, ⟨6, _⟩ => ⟨S4x1024x9736, .f32⟩
  | .hbm, ⟨7, _⟩ => ⟨S4x512x512, .f32⟩
  | .hbm, ⟨8, _⟩ => ⟨S4x4x512x1024, .f32⟩
  | .hbm, ⟨9, _⟩ => ⟨S4x1024x1024, .f32⟩
  | .hbm, ⟨10, _⟩ => ⟨S4x1024x9736, .bf16⟩
  | .hbm, ⟨11, _⟩ => ⟨S4x1024x4608, .bf16⟩
  | .hbm, ⟨12, _⟩ => ⟨S4x512x512, .bf16⟩
  | .hbm, ⟨13, _⟩ => ⟨S4x4x512x1024, .bf16⟩
  | .hbm, ⟨14, _⟩ => ⟨S4x1024x1024, .bf16⟩
  | .hbm, ⟨15, _⟩ => ⟨S4x1x1024, .f32⟩
  | .hbm, ⟨16, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S1x1x1024, .f32⟩
  | .local _ .vmem, ⟨3, _⟩ => ⟨S768x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .f32⟩
  | .local _ .vmem, ⟨8, _⟩ => ⟨S768x512, .f32⟩
  | .local _ .vmem, ⟨9, _⟩ => ⟨S768x512, .bf16⟩
  | .local _ .vmem, ⟨10, _⟩ => ⟨S768x512, .bf16⟩
  | .local _ .vmem, ⟨11, _⟩ => ⟨S1x1024x4096, .bf16⟩
  | .local _ .vmem, ⟨12, _⟩ => ⟨S1x512x512, .bf16⟩
  | .local _ .vmem, ⟨13, _⟩ => ⟨S1x4x512x1024, .bf16⟩
  | .local _ .vmem, ⟨14, _⟩ => ⟨S1x1024x1024, .bf16⟩
  | .local _ .vmem, ⟨15, _⟩ => ⟨S768x1024, .f32⟩
  | .local _ .vmem, ⟨16, _⟩ => ⟨S768x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c512_i32 : BitVec 32 := 512#32
  let c0_i32_0 : BitVec 32 := 0#32
  ![c1_i32.toNat, c0_i32.toNat, c512_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S768x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16896x1024 : Shape := ⟨2, ![16896, 1024]⟩
abbrev S16896x512 : Shape := ⟨2, ![16896, 512]⟩
abbrev S4x1024 : Shape := ⟨2, ![4, 1024]⟩
abbrev S4x1024x9736 : Shape := ⟨3, ![4, 1024, 9736]⟩
abbrev S4x512x512 : Shape := ⟨3, ![4, 512, 512]⟩
abbrev S4x4x512x1024 : Shape := ⟨4, ![4, 4, 512, 1024]⟩
abbrev S4x1024x1024 : Shape := ⟨3, ![4, 1024, 1024]⟩
abbrev S16896 : Shape := ⟨1, ![16896]⟩
abbrev S_ : Shape := ⟨0, ![]⟩
abbrev S16896x1 : Shape := ⟨2, ![16896, 1]⟩
abbrev S1x1024 : Shape := ⟨2, ![1, 1024]⟩
abbrev S1024 : Shape := ⟨1, ![1024]⟩
abbrev S1x1024x9736 : Shape := ⟨3, ![1, 1024, 9736]⟩
abbrev S1024x9736 : Shape := ⟨2, ![1024, 9736]⟩
abbrev S16896x9736 : Shape := ⟨2, ![16896, 9736]⟩
abbrev S16896x4096 : Shape := ⟨2, ![16896, 4096]⟩
abbrev S1x512x512 : Shape := ⟨3, ![1, 512, 512]⟩
abbrev S512x512 : Shape := ⟨2, ![512, 512]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 153
  | .vmem => 0
  | .smem => 0
  | _ => 0

abbrev hbmTy0_0 (i : Nat) : BufTy := match i % 128 with
  | 0 => ⟨S16896x1024, .f32⟩
  | 1 => ⟨S16896x512, .bf16⟩
  | 2 => ⟨S16896x512, .bf16⟩
  | 3 => ⟨S16896x512, .f32⟩
  | 4 => ⟨S16896x512, .bf16⟩
  | 5 => ⟨S4x1024, .f32⟩
  | 6 => ⟨S4x1024x9736, .f32⟩
  | 7 => ⟨S4x512x512, .f32⟩
  | 8 => ⟨S4x4x512x1024, .f32⟩
  | 9 => ⟨S4x1024x1024, .f32⟩
  | 10 => ⟨S16896, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S16896, .i32⟩
  | 18 => ⟨S16896, .i32⟩
  | 19 => ⟨S_, .i32⟩
  | 20 => ⟨S16896, .i32⟩
  | 21 => ⟨S16896, .i1⟩
  | 22 => ⟨S_, .i32⟩
  | 23 => ⟨S16896, .i32⟩
  | 24 => ⟨S16896, .i1⟩
  | 25 => ⟨S_, .i32⟩
  | 26 => ⟨S_, .i1⟩
  | 27 => ⟨S16896, .i1⟩
  | 28 => ⟨S16896, .i1⟩
  | 29 => ⟨S16896, .i1⟩
  | 30 => ⟨S16896, .i32⟩
  | 31 => ⟨S16896, .i32⟩
  | 32 => ⟨S16896, .i32⟩
  | 33 => ⟨S_, .i32⟩
  | 34 => ⟨S16896, .i32⟩
  | 35 => ⟨S16896, .i1⟩
  | 36 => ⟨S16896, .f32⟩
  | 37 => ⟨S16896x1, .f32⟩
  | 38 => ⟨S1x1024, .f32⟩
  | 39 => ⟨S1024, .f32⟩
  | 40 => ⟨S16896x1024, .f32⟩
  | 41 => ⟨S_, .f32⟩
  | 42 => ⟨S16896, .f32⟩
  | 43 => ⟨S16896x1, .f32⟩
  | 44 => ⟨S_, .f32⟩
  | 45 => ⟨S16896x1, .f32⟩
  | 46 => ⟨S16896x1, .f32⟩
  | 47 => ⟨S_, .f32⟩
  | 48 => ⟨S16896x1, .f32⟩
  | 49 => ⟨S16896x1, .f32⟩
  | 50 => ⟨S16896x1, .f32⟩
  | 51 => ⟨S16896x1024, .f32⟩
  | 52 => ⟨S16896x1024, .f32⟩
  | 53 => ⟨S1x1024, .f32⟩
  | 54 => ⟨S16896x1024, .f32⟩
  | 55 => ⟨S16896x1024, .f32⟩
  | 56 => ⟨S16896x1024, .f32⟩
  | 57 => ⟨S16896x1024, .f32⟩
  | 58 => ⟨S1x1024x9736, .f32⟩
  | 59 => ⟨S1024x9736, .f32⟩
  | 60 => ⟨S16896x9736, .f32⟩
  | 61 => ⟨S16896x4096, .f32⟩
  | 62 => ⟨S16896x512, .f32⟩
  | 63 => ⟨S16896x512, .f32⟩
  | 64 => ⟨S_, .f32⟩
  | 65 => ⟨S16896x512, .f32⟩
  | 66 => ⟨S16896x512, .f32⟩
  | 67 => ⟨S16896x512, .f32⟩
  | 68 => ⟨S_, .f32⟩
  | 69 => ⟨S16896x512, .f32⟩
  | 70 => ⟨S16896x512, .f32⟩
  | 71 => ⟨S16896x512, .f32⟩
  | 72 => ⟨S_, .f32⟩
  | 73 => ⟨S16896x512, .f32⟩
  | 74 => ⟨S16896x512, .f32⟩
  | 75 => ⟨S_, .f32⟩
  | 76 => ⟨S16896x512, .f32⟩
  | 77 => ⟨S16896x512, .f32⟩
  | 78 => ⟨S16896x512, .f32⟩
  | 79 => ⟨S1x512x512, .f32⟩
  | 80 => ⟨S512x512, .f32⟩
  | 81 => ⟨S16896x512, .f32⟩
  | 82 => ⟨S16896x512, .f32⟩
  | 83 => ⟨S16896x512, .f32⟩
  | 84 => ⟨S_, .f32⟩
  | 85 => ⟨S16896x512, .f32⟩
  | 86 => ⟨S16896x512, .f32⟩
  | 87 => ⟨S_, .f32⟩
  | 88 => ⟨S16896x512, .f32⟩
  | 89 => ⟨S16896x512, .f32⟩
  | 90 => ⟨S16896x512, .f32⟩
  | 91 => ⟨S16896x512, .f32⟩
  | 92 => ⟨S16896x512, .f32⟩
  | 93 => ⟨S16896x512, .f32⟩
  | 94 => ⟨S16896x1024, .f32⟩
  | 95 => ⟨S16896x1024, .f32⟩
  | 96 => ⟨S16896x1024, .f32⟩
  | 97 => ⟨S16896x1024, .f32⟩
  | 98 => ⟨S16896x1024, .f32⟩
  | 99 => ⟨S16896x1024, .f32⟩
  | 100 => ⟨S_, .f32⟩
  | 101 => ⟨S16896x1024, .f32⟩
  | 102 => ⟨S16896x1024, .f32⟩
  | 103 => ⟨S_, .f32⟩
  | 104 => ⟨S16896x1024, .f32⟩
  | 105 => ⟨S16896x1024, .f32⟩
  | 106 => ⟨S1x1x512x1024, .f32⟩
  | 107 => ⟨S512x1024, .f32⟩
  | 108 => ⟨S16896x1024, .f32⟩
  | 109 => ⟨S16896x1024, .f32⟩
  | 110 => ⟨S16896x1024, .f32⟩
  | 111 => ⟨S16896x1024, .f32⟩
  | 112 => ⟨S_, .f32⟩
  | 113 => ⟨S16896x1024, .f32⟩
  | 114 => ⟨S16896x1024, .f32⟩
  | 115 => ⟨S_, .f32⟩
  | 116 => ⟨S16896x1024, .f32⟩
  | 117 => ⟨S16896x1024, .f32⟩
  | 118 => ⟨S1x1x512x1024, .f32⟩
  | 119 => ⟨S512x1024, .f32⟩
  | 120 => ⟨S16896x1024, .f32⟩
  | 121 => ⟨S16896x1024, .f32⟩
  | 122 => ⟨S16896x1024, .f32⟩
  | 123 => ⟨S16896x1024, .f32⟩
  | 124 => ⟨S16896x1024, .f32⟩
  | 125 => ⟨S_, .f32⟩
  | 126 => ⟨S16896x1024, .f32⟩
  | 127 => ⟨S16896x1024, .f32⟩
  | _ => ⟨S16896x1024, .f32⟩

abbrev hbmTy0_1 (i : Nat) : BufTy := match i % 128 with
  | 0 => ⟨S_, .f32⟩
  | 1 => ⟨S16896x1024, .f32⟩
  | 2 => ⟨S16896x1024, .f32⟩
  | 3 => ⟨S1x1x512x1024, .f32⟩
  | 4 => ⟨S512x1024, .f32⟩
  | 5 => ⟨S16896x1024, .f32⟩
  | 6 => ⟨S16896x1024, .f32⟩
  | 7 => ⟨S16896x1024, .f32⟩
  | 8 => ⟨S16896x1024, .f32⟩
  | 9 => ⟨S16896x1024, .f32⟩
  | 10 => ⟨S_, .f32⟩
  | 11 => ⟨S16896x1024, .f32⟩
  | 12 => ⟨S16896x1024, .f32⟩
  | 13 => ⟨S_, .f32⟩
  | 14 => ⟨S16896x1024, .f32⟩
  | 15 => ⟨S16896x1024, .f32⟩
  | 16 => ⟨S1x1x512x1024, .f32⟩
  | 17 => ⟨S512x1024, .f32⟩
  | 18 => ⟨S16896x1024, .f32⟩
  | 19 => ⟨S16896x1024, .f32⟩
  | 20 => ⟨S16896x1024, .f32⟩
  | 21 => ⟨S1x1024x1024, .f32⟩
  | 22 => ⟨S1024x1024, .f32⟩
  | 23 => ⟨S16896x1024, .f32⟩
  | 24 => ⟨S16896x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_cst_6 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_7 : Ref sig .tc := ⟨.hbm, 84, rfl⟩
abbrev main_v45 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_9 : Ref sig .tc := ⟨.hbm, 100, rfl⟩
abbrev main_v59 : Ref sig .tc := ⟨.hbm, 101, rfl⟩
abbrev main_v60 : Ref sig .tc := ⟨.hbm, 102, rfl⟩
abbrev main_cst_10 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_11 : Ref sig .tc := ⟨.hbm, 112, rfl⟩
abbrev main_v69 : Ref sig .tc := ⟨.hbm, 113, rfl⟩
abbrev main_v70 : Ref sig .tc := ⟨.hbm, 114, rfl⟩
abbrev main_cst_12 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_13 : Ref sig .tc := ⟨.hbm, 125, rfl⟩
abbrev main_v80 : Ref sig .tc := ⟨.hbm, 126, rfl⟩
abbrev main_v81 : Ref sig .tc := ⟨.hbm, 127, rfl⟩
abbrev main_cst_14 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_15 : Ref sig .tc := ⟨.hbm, 138, rfl⟩
abbrev main_v91 : Ref sig .tc := ⟨.hbm, 139, rfl⟩
abbrev main_v92 : Ref sig .tc := ⟨.hbm, 140, rfl⟩
abbrev main_cst_16 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩

abbrev nD : Nat := 1
abbrev τ : Topo := Topo.v7x

variable {F : FTy → Type} [FloatOps F]
-- ==== Kernel3.lean ====
abbrev S16896x1024 : Shape := ⟨2, ![16896, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S768x1024 : Shape := ⟨2, ![768, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S768 : Shape := ⟨1, ![768]⟩
abbrev S768x1 : Shape := ⟨2, ![768, 1]⟩
abbrev S1x1024 : Shape := ⟨2, ![1, 1024]⟩
abbrev S1x1024x1536 : Shape := ⟨3, ![1, 1024, 1536]⟩
abbrev S1024x1536 : Shape := ⟨2, ![1024, 1536]⟩
abbrev S768x1536 : Shape := ⟨2, ![768, 1536]⟩
abbrev S1x1024x1280 : Shape := ⟨3, ![1, 1024, 1280]⟩
abbrev S1024x1280 : Shape := ⟨2, ![1024, 1280]⟩
abbrev S768x1280 : Shape := ⟨2, ![768, 1280]⟩
abbrev S1x1536x1024 : Shape := ⟨3, ![1, 1536, 1024]⟩
abbrev S1536x1024 : Shape := ⟨2, ![1536, 1024]⟩
abbrev S1x1280x1024 : Shape := ⟨3, ![1, 1280, 1024]⟩
abbrev S1280x1024 : Shape := ⟨2, ![1280, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16896x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S4x1024x5632, .bf16⟩
  | .hbm, ⟨5, _⟩ => ⟨S4x2816x1024, .bf16⟩
  | .hbm, ⟨6, _⟩ => ⟨S4x1x1024, .f32⟩
  | .hbm, ⟨7, _⟩ => ⟨S16896x1024, .f32⟩
  | .local _ .vmem, ⟨0, _⟩ => ⟨S768x1024, .f32⟩
  | .local _ .vmem, ⟨1, _⟩ => ⟨S768x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S768x1024, .f32⟩
  | .local _ .vmem, ⟨6, _⟩ => ⟨S768x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16896x1024 : Shape := ⟨2, ![16896, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S16896 : Shape := ⟨1, ![16896]⟩
abbrev S16896x1 : Shape := ⟨2, ![16896, 1]⟩
abbrev S1x1024x5632 : Shape := ⟨3, ![1, 1024, 5632]⟩
abbrev S1024x5632 : Shape := ⟨2, ![1024, 5632]⟩
abbrev S16896x5632 : Shape := ⟨2, ![16896, 5632]⟩
abbrev S16896x2816 : Shape := ⟨2, ![16896, 2816]⟩
abbrev S1x2816x1024 : Shape := ⟨3, ![1, 2816, 1024]⟩
abbrev S2816x1024 : Shape := ⟨2, ![2816, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S16896x1024, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x1024, .f32⟩
  | .hbm, ⟨18, _⟩ => ⟨S16896x1024, .f32⟩
  | .hbm, ⟨19, _⟩ => ⟨S1x1024, .f32⟩
  | .hbm, ⟨20, _⟩ => ⟨S16896x1024, .f32⟩
  | .hbm, ⟨21, _⟩ => ⟨S16896x1024, .f32⟩
  | .hbm, ⟨22, _⟩ => ⟨S1x1024x5632, .f32⟩
  | .hbm, ⟨23, _⟩ => ⟨S1024x5632, .f32⟩
  | .hbm, ⟨24, _⟩ => ⟨S16896x5632, .f32⟩
  | .hbm, ⟨25, _⟩ => ⟨S16896x2816, .f32⟩
  | .hbm, ⟨26, _⟩ => ⟨S16896x2816, .f32⟩
  | .hbm, ⟨27, _⟩ => ⟨S16896x2816, .f32⟩
  | .hbm, ⟨28, _⟩ => ⟨S16896x2816, .f32⟩
  | .hbm, ⟨29, _⟩ => ⟨S_, .f32⟩
  | .hbm, ⟨30, _⟩ => ⟨S16896x2816, .f32⟩
  | .hbm, ⟨31, _⟩ => ⟨S16896x2816, .f32⟩
  | .hbm, ⟨32, _⟩ => ⟨S_, .f32⟩
  | .hbm, ⟨33, _⟩ => ⟨S16896x2816, .f32⟩
  | .hbm, ⟨34, _⟩ => ⟨S16896x2816, .f32⟩
  | .hbm, ⟨35, _⟩ => ⟨S16896x2816, .f32⟩
  | .hbm, ⟨36, _⟩ => ⟨S16896x2816, .f32⟩
  | .hbm, ⟨37, _⟩ => ⟨S1x2816x1024, .f32⟩
  | .hbm, ⟨38, _⟩ => ⟨S2816x1024, .f32⟩
  | .hbm, ⟨39, _⟩ => ⟨S16896x1024, .f32⟩
  | .hbm, ⟨40, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel4.lean ====
abbrev S16896x1024 : Shape := ⟨2, ![16896, 1024]⟩
abbrev S1024 : Shape := ⟨1, ![1024]⟩
abbrev S1x1024 : Shape := ⟨2, ![1, 1024]⟩
abbrev S16384x1024 : Shape := ⟨2, ![16384, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c1056_i32 : BitVec 32 := 1056#32
  let v0 : BitVec 32 := Scalar.muli arg0 c1056_i32
  let c32_i32 : BitVec 32 := 32#32
  let v1 : BitVec 32 := Scalar.addi v0 c32_i32
  let c128_i32 : BitVec 32 := 128#32
  let v2 : BitVec 32 := Scalar.muli arg1 c128_i32
  let v3 : BitVec 32 := Scalar.addi v1 v2
  let c8_i32 : BitVec 32 := 8#32
  let v4 : BitVec 32 := Scalar.muli v3 c8_i32
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16896x1024 : Shape := ⟨2, ![16896, 1024]⟩
abbrev S1024 : Shape := ⟨1, ![1024]⟩
abbrev S2x8448x1024 : Shape := ⟨3, ![2, 8448, 1024]⟩
abbrev S_ : Shape := ⟨0, ![]⟩
abbrev S2x8448 : Shape := ⟨2, ![2, 8448]⟩
abbrev S2x8448x1 : Shape := ⟨3, ![2, 8448, 1]⟩
abbrev S1x1x1024 : Shape := ⟨3, ![1, 1, 1024]⟩
abbrev S2x8192x1024 : Shape := ⟨3, ![2, 8192, 1024]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S1024, .f32⟩
  | .hbm, ⟨2, _⟩ => ⟨S2x8448x1024, .f32⟩
  | .hbm, ⟨3, _⟩ => ⟨S2x8448x1024, .f32⟩
  | .hbm, ⟨4, _⟩ => ⟨S_, .f32⟩
  | .hbm, ⟨5, _⟩ => ⟨S2x8448, .f32⟩
  | .hbm, ⟨6, _⟩ => ⟨S2x8448x1, .f32⟩
  | .hbm, ⟨7, _⟩ => ⟨S_, .f32⟩
  | .hbm, ⟨8, _⟩ => ⟨S2x8448x1, .f32⟩
  | .hbm, ⟨9, _⟩ => ⟨S2x8448x1, .f32⟩
  | .hbm, ⟨10, _⟩ => ⟨S_, .f32⟩
  | .hbm, ⟨11, _⟩ => ⟨S2x8448x1, .f32⟩
  | .hbm, ⟨12, _⟩ => ⟨S2x8448x1, .f32⟩
  | .hbm, ⟨13, _⟩ => ⟨S2x8448x1, .f32⟩
  | .hbm, ⟨14, _⟩ => ⟨S2x8448x1024, .f32⟩
  | .hbm, ⟨15, _⟩ => ⟨S2x8448x1024, .f32⟩
  | .hbm, ⟨16, _⟩ => ⟨S1x1x1024, .f32⟩
  | .hbm, ⟨17, _⟩ => ⟨S2x8448x1024, .f32⟩
  | .hbm, ⟨18, _⟩ => ⟨S2x8448x1024, .f32⟩
  | .hbm, ⟨19, _⟩ => ⟨S2x8192x1024, .f32⟩
  | .hbm, ⟨20, _⟩ => ⟨S16384x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S2x8448x1024 : Shape := ⟨3, ![2, 8448, 1024]⟩
abbrev S4x1024 : Shape := ⟨2, ![4, 1024]⟩
abbrev S4x1024x9736 : Shape := ⟨3, ![4, 1024, 9736]⟩
abbrev S4x256 : Shape := ⟨2, ![4, 256]⟩
abbrev S4x512 : Shape := ⟨2, ![4, 512]⟩
abbrev S_ : Shape := ⟨0, ![]⟩
abbrev S256 : Shape := ⟨1, ![256]⟩
abbrev S1x256 : Shape := ⟨2, ![1, 256]⟩
abbrev S4x1x256 : Shape := ⟨3, ![4, 1, 256]⟩
abbrev S4x8x256 : Shape := ⟨3, ![4, 8, 256]⟩
abbrev S4x1x1024 : Shape := ⟨3, ![4, 1, 1024]⟩
abbrev S4x1x512 : Shape := ⟨3, ![4, 1, 512]⟩
abbrev S2x8448x512 : Shape := ⟨3, ![2, 8448, 512]⟩
abbrev S2x768x1024 : Shape := ⟨3, ![2, 768, 1024]⟩
abbrev S1x1x1024 : Shape := ⟨3, ![1, 1, 1024]⟩
abbrev S1x1024x1536 : Shape := ⟨3, ![1, 1024, 1536]⟩
abbrev S1x1024x512 : Shape := ⟨3, ![1, 1024, 512]⟩
abbrev S1x8x256 : Shape := ⟨3, ![1, 8, 256]⟩
abbrev S1x1x512 : Shape := ⟨3, ![1, 1, 512]⟩
abbrev S2x768x512 : Shape := ⟨3, ![2, 768, 512]⟩
abbrev S2x2x256x128 : Shape := ⟨4, ![2, 2, 256, 128]⟩
abbrev S1x256x1024 : Shape := ⟨3, ![1, 256, 1024]⟩
abbrev S256x1024 : Shape := ⟨2, ![256, 1024]⟩
abbrev S1x1024 : Shape := ⟨2, ![1, 1024]⟩
abbrev S256x1 : Shape := ⟨2, ![256, 1]⟩
abbrev S512x1024 : Shape := ⟨2, ![512, 1024]⟩
abbrev S1024x1536 : Shape := ⟨2, ![1024, 1536]⟩
abbrev S512x1536 : Shape := ⟨2, ![512, 1536]⟩
abbrev S512x256 : Shape := ⟨2, ![512, 256]⟩
abbrev S512x512 : Shape := ⟨2, ![512, 512]⟩
abbrev S1024x512 : Shape := ⟨2, ![1024, 512]⟩
abbrev S256x512 : Shape := ⟨2, ![256, 512]⟩
abbrev S1x256x512 : Shape := ⟨3, ![1, 256, 512]⟩
abbrev S1x1x256 : Shape := ⟨3, ![1, 1, 256]⟩
abbrev S256x256 : Shape := ⟨2, ![256, 256]⟩
abbrev S128x128 : Shape := ⟨2, ![128, 128]⟩
abbrev S1x128 : Shape := ⟨2, ![1, 128]⟩
abbrev S256x128 : Shape := ⟨2, ![256, 128]⟩
abbrev S16x256 : Shape := ⟨2, ![16, 256]⟩
abbrev S16x128 : Shape := ⟨2, ![16, 128]⟩
abbrev S1x1x256x128 : Shape := ⟨4, ![1, 1, 256, 128]⟩
abbrev S16x512 : Shape := ⟨2, ![16, 512]⟩
abbrev S128x512 : Shape := ⟨2, ![128, 512]⟩
abbrev S512x128 : Shape := ⟨2, ![512, 128]⟩
abbrev S512 : Shape := ⟨1, ![512]⟩
abbrev S512x1 : Shape := ⟨2, ![512, 1]⟩
abbrev S1x512 : Shape := ⟨2, ![1, 512]⟩

abbrev nBuf : Space → Nat
  | .hbm => 47
  | .vmem => 12
  | .smem => 0
  | _ => 0

abbrev bufTy : (tb : Table) → Fin (tcTables nBuf tb) → BufTy
  | .hbm, ⟨0, _⟩ => ⟨S2x8448x1024, .f32⟩
  | .hbm, ⟨1, _⟩ => ⟨S4x1024, .f32⟩
  | .hbm, ⟨2, _⟩ => ⟨S4x1024x9736, .f32⟩
  | .hbm, ⟨3, _⟩ => ⟨S4x256, .f32⟩
  | .hbm, ⟨4, _⟩ => ⟨S4x512, .f32⟩
  | .hbm, ⟨5, _⟩ => ⟨S4x1024x9736, .bf16⟩
  | .hbm, ⟨6, _⟩ => ⟨S_, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S4x256, .f32⟩
  | .hbm, ⟨19, _⟩ => ⟨S4x256, .f32⟩
  | .hbm, ⟨20, _⟩ => ⟨S_, .f32⟩
  | .hbm, ⟨21, _⟩ => ⟨S_, .f32⟩
  | .hbm, ⟨22, _⟩ => ⟨S4x256, .f32⟩
  | .hbm, ⟨23, _⟩ => ⟨S1x256, .f32⟩
  | .hbm, ⟨24, _⟩ => ⟨S4x256, .f32⟩
  | .hbm, ⟨25, _⟩ => ⟨S4x256, .f32⟩
  | .hbm, ⟨26, _⟩ => ⟨S4x256, .f32⟩
  | .hbm, ⟨27, _⟩ => ⟨S4x256, .f32⟩
  | .hbm, ⟨28, _⟩ => ⟨S4x256, .f32⟩
  | .hbm, ⟨29, _⟩ => ⟨S_, .f32⟩
  | .hbm, ⟨30, _⟩ => ⟨S4x256, .f32⟩
  | .hbm, ⟨31, _⟩ => ⟨S4x256, .f32⟩
  | .hbm, ⟨32, _⟩ => ⟨S_, .f32⟩
  | .hbm, ⟨33, _⟩ => ⟨S4x256, .f32⟩
  | .hbm, ⟨34, _⟩ => ⟨S4x1x256, .f32⟩
  | .hbm, ⟨35, _⟩ => ⟨S4x1x256, .f32⟩
  | .hbm, ⟨36, _⟩ => ⟨S4x1x256, .f32⟩
  | .hbm, ⟨37, _⟩ => ⟨S4x1x256, .f32⟩
  | .hbm, ⟨38, _⟩ => ⟨S4x1x256, .f32⟩
  | .hbm, ⟨39, _⟩ => ⟨S4x1x256, .f32⟩
  | .hbm, ⟨40, _⟩ => ⟨S4x1x256, .f32⟩
  | .hbm, ⟨41, _⟩ => ⟨S4x1x256, .f32⟩
  | .hbm, ⟨42, _⟩ => ⟨S4x8x256, .f32⟩
  | .hbm, ⟨43, _⟩ => ⟨S4x1x1024, .f32⟩
  | .hbm, ⟨44, _⟩ => ⟨S4x1x512, .f32⟩
  | .hbm, ⟨45, _⟩ => ⟨S2x8448x512, .bf16⟩
  | .hbm, ⟨46, _⟩ => ⟨S2x8448x512, .f32⟩
  | .local _ .vmem, ⟨0, _⟩ => ⟨S2x768x1024, .f32⟩
  | .local _ .vmem, ⟨1, _⟩ => ⟨S2x768x1024, .f32⟩
  | .local _ .vmem, ⟨2, _⟩ => ⟨S1x1x1024, .f32⟩
  | .local _ .vmem, ⟨3, _⟩ => ⟨S1x1024x1536, .bf16⟩
  | .local _ .vmem, ⟨4, _⟩ => ⟨S1x1024x512, .bf16⟩
  | .local _ .vmem, ⟨5, _⟩ => ⟨S1x8x256, .f32⟩
  | .local _ .vmem, ⟨6, _⟩ => ⟨S1x1x512, .f32⟩
  | .local _ .vmem, ⟨7, _⟩ => ⟨S2x768x512, .bf16⟩
  | .local _ .vmem, ⟨8, _⟩ => ⟨S2x768x512, .bf16⟩
  | .local _ .vmem, ⟨9, _⟩ => ⟨S2x768x512, .f32⟩
  | .local _ .vmem, ⟨10, _⟩ => ⟨S2x768x512, .f32⟩
  | .local _ .vmem, ⟨11, _⟩ => ⟨S2x2x256x128, .f32⟩
  | _, _ => ⟨S2x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_call0_cst : Ref sig .tc := ⟨.hbm, 20, rfl⟩
abbrev main_call0_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32_1 : BitVec 32 := 0#32
  let c3_i32 : BitVec 32 := 3#32
  let v3 : BitVec 32 := Scalar.addi c0_i32_1 c3_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c256_i32 : BitVec 32 := 256#32
  let v6 : BitVec 32 := Scalar.muli arg10 c256_i32
  v6
def k0_off1 (k0_t1 : Fin k0_t1_loop.trips) : Fin 3 → Nat :=
  let c0 : Index := 0#32
  let c0_i32_1 : BitVec 32 := 0#32
  let c1_i32 : BitVec 32 := 1#32
  let arg10 : BitVec 32 := Scf.iv c0_i32_1 c1_i32 k0_t1
  let c256_i32 : BitVec 32 := 256#32
  let v6 : BitVec 32 := Scalar.muli arg10 c256_i32
  let v7 : BitVec 32 := v6
  let v9 : Index := Scalar.indexCast v7
  let c0_5 : Index := 0#32
  ![0, v9.toNat, 0]
def k0_off2 (k0_t1 : Fin k0_t1_loop.trips) : Fin 3 → Nat :=
  let c1 : Index := 1#32
  let c0_i32_1 : BitVec 32 := 0#32
  let c1_i32 : BitVec 32 := 1#32
  let arg10 : BitVec 32 := Scf.iv c0_i32_1 c1_i32 k0_t1
  let c256_i32 : BitVec 32 := 256#32
  let v6 : BitVec 32 := Scalar.muli arg10 c256_i32
  let v7 : BitVec 32 := v6
  let v34 : Index := Scalar.indexCast v7
  let c0_12 : Index := 0#32
  ![1, v34.toNat, 0]
def k0_off3 (k0_t1 : Fin k0_t1_loop.trips) : Fin 3 → Nat :=
  let c0_29 : Index := 0#32
  let c0_i32_1 : BitVec 32 := 0#32
  let c1_i32 : BitVec 32 := 1#32
  let arg10 : BitVec 32 := Scf.iv c0_i32_1 c1_i32 k0_t1
  let c256_i32 : BitVec 32 := 256#32
  let v6 : BitVec 32 := Scalar.muli arg10 c256_i32
  let v7 : BitVec 32 := v6
  let v71 : Index := Scalar.indexCast v7
  let c0_30 : Index := 0#32
  ![0, v71.toNat, 0]
def k0_off4 (k0_t1 : Fin k0_t1_loop.trips) : Fin 3 → Nat :=
  let c1_31 : Index := 1#32
  let c0_i32_1 : BitVec 32 := 0#32
  let c1_i32 : BitVec 32 := 1#32
  let arg10 : BitVec 32 := Scf.iv c0_i32_1 c1_i32 k0_t1
  let c256_i32 : BitVec 32 := 256#32
  let v6 : BitVec 32 := Scalar.muli arg10 c256_i32
  let v7 : BitVec 32 := v6
  let v76 : Index := Scalar.indexCast v7
  let c0_32 : Index := 0#32
  ![1, v76.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c3072_i32 : BitVec 32 := 3072#32
  let c0_i32_0 : BitVec 32 := 0#32
  ![c1_i32.toNat, c0_i32.toNat, c3072_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x768x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S2x8448x1024 : Shape := ⟨3, ![2, 8448, 1024]⟩
abbrev S4x1024 : Shape := ⟨2, ![4, 1024]⟩
abbrev S4x1024x9736 : Shape := ⟨3, ![4, 1024, 9736]⟩
abbrev S4x256 : Shape := ⟨2, ![4, 256]⟩
abbrev S4x512 : Shape := ⟨2, ![4, 512]⟩
abbrev S8448 : Shape := ⟨1, ![8448]⟩
abbrev S_ : Shape := ⟨0, ![]⟩
abbrev S8448x1 : Shape := ⟨2, ![8448, 1]⟩
abbrev S1x1024 : Shape := ⟨2, ![1, 1024]⟩
abbrev S1024 : Shape := ⟨1, ![1024]⟩
abbrev S2x8448 : Shape := ⟨2, ![2, 8448]⟩
abbrev S2x8448x1 : Shape := ⟨3, ![2, 8448, 1]⟩
abbrev S1x1x1024 : Shape := ⟨3, ![1, 1, 1024]⟩
abbrev S1x8448x1 : Shape := ⟨3, ![1, 8448, 1]⟩
abbrev S1x1024x9736 : Shape := ⟨3, ![1, 1024, 9736]⟩
abbrev S1024x9736 : Shape := ⟨2, ![1024, 9736]⟩
abbrev S2x8448x9736 : Shape := ⟨3, ![2, 8448, 9736]⟩
abbrev S2x8448x512 : Shape := ⟨3, ![2, 8448, 512]⟩

abbrev nBuf : Space → Nat
  | .hbm => 36
  | .vmem => 0
  | .smem => 0
  | _ => 0

abbrev bufTy : (tb : Table) → Fin (tcTables nBuf tb) → BufTy
  | .hbm, ⟨0, _⟩ => ⟨S2x8448x1024, .f32⟩
  | .hbm, ⟨1, _⟩ => ⟨S4x1024, .f32⟩
  | .hbm, ⟨2, _⟩ => ⟨S4x1024x9736, .f32⟩
  | .hbm, ⟨3, _⟩ => ⟨S4x256, .f32⟩
  | .hbm, ⟨4, _⟩ => ⟨S4x512, .f32⟩
  | .hbm, ⟨5, _⟩ => ⟨S8448, .i32⟩
  | .hbm, ⟨6, _⟩ => ⟨S_, .i32⟩
  | .hbm, ⟨7, _⟩ => ⟨S8448, .i32⟩
  | .hbm, ⟨8, _⟩ => ⟨S8448, .i1⟩
  | .hbm, ⟨9, _⟩ => ⟨S8448, .f32⟩
  | .hbm, ⟨10, _⟩ => ⟨S8448x1, .f32⟩
  | .hbm, ⟨11, _⟩ => ⟨S1x1024, .f32⟩
  | .hbm, ⟨12, _⟩ => ⟨S1024, .f32⟩
  | .hbm, ⟨13, _⟩ => ⟨S2x8448x1024, .f32⟩
  | .hbm, ⟨14, _⟩ => ⟨S_, .f32⟩
  | .hbm, ⟨15, _⟩ => ⟨S2x8448, .f32⟩
  | .hbm, ⟨16, _⟩ => ⟨S2x8448x1, .f32⟩
  | .hbm, ⟨17, _⟩ => ⟨S_, .f32⟩
  | .hbm, ⟨18, _⟩ => ⟨S2x8448x1, .f32⟩
  | .hbm, ⟨19, _⟩ => ⟨S2x8448x1, .f32⟩
  | .hbm, ⟨20, _⟩ => ⟨S_, .f32⟩
  | .hbm, ⟨21, _⟩ => ⟨S2x8448x1, .f32⟩
  | .hbm, ⟨22, _⟩ => ⟨S2x8448x1, .f32⟩
  | .hbm, ⟨23, _⟩ => ⟨S2x8448x1, .f32⟩
  | .hbm, ⟨24, _⟩ => ⟨S2x8448x1024, .f32⟩
  | .hbm, ⟨25, _⟩ => ⟨S2x8448x1024, .f32⟩
  | .hbm, ⟨26, _⟩ => ⟨S1x1x1024, .f32⟩
  | .hbm, ⟨27, _⟩ => ⟨S2x8448x1024, .f32⟩
  | .hbm, ⟨28, _⟩ => ⟨S2x8448x1024, .f32⟩
  | .hbm, ⟨29, _⟩ => ⟨S1x8448x1, .f32⟩
  | .hbm, ⟨30, _⟩ => ⟨S2x8448x1024, .f32⟩
  | .hbm, ⟨31, _⟩ => ⟨S2x8448x1024, .f32⟩
  | .hbm, ⟨32, _⟩ => ⟨S1x1024x9736, .f32⟩
  | .hbm, ⟨33, _⟩ => ⟨S1024x9736, .f32⟩
  | .hbm, ⟨34, _⟩ => ⟨S2x8448x9736, .f32⟩
  | .hbm, ⟨35, _⟩ => ⟨S2x8448x512, .f32⟩
  | _, _ => ⟨S2x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.RetTile.lean ====
/- The retention mixer's tile, restated: one trip of the kernel's loop as vector functions of the blocks it reads and of the state
   it finds, in place of the numbered payloads of the generated skeleton. -/
module

public import proofs.«01_k».proof.Proof.Gen.KernelIdeal.Frame.Runs

@[expose] public section

set_option maxRecDepth 16384

noncomputable section

namespace Cert.Ret

open Cert.KernelIdeal Cert.KernelIdeal.Gen Idealize.ShloMosaic Idealize.ShloMosaic.TcCoe Idealize.ShloMosaic.Tactic
open Idealize.SL Idealize.SL.RA Idealize.SL.BI

variable {F : FTy → Type} [FloatOps F]

/-- A block of a matrix at given offsets lies inside it when its two extents do. -/
theorem slices2 {R C r c o p : ℕ} (h : o + r ≤ R) (h' : p + c ≤ C) :
    (⟨2, ![R, C]⟩ : Shape).Slices ![o, p] ⟨2, ![r, c]⟩ :=
  ⟨rfl, Fin.forall_fin_two.2 ⟨h, h'⟩⟩

/-- The same inside a stack of matrices, one matrix of it taken whole. -/
theorem inb3 {n R C o : ℕ} (h : o < n) (a : Fin 3) : (![o, 0, 0] : Fin 3 → ℕ) a + (![1, R, C] : Fin 3 → ℕ) a ≤ (![n, R, C] : Fin 3 → ℕ) a := by
  fin_cases a
  · exact h
  · exact Nat.le_of_eq (Nat.zero_add _)
  · exact Nat.le_of_eq (Nat.zero_add _)

/-- The same inside a square of matrices. -/
theorem inb4 {n l R C o p : ℕ} (h : o < n) (h' : p < l) (a : Fin 4) :
    (![o, p, 0, 0] : Fin 4 → ℕ) a + (![1, 1, R, C] : Fin 4 → ℕ) a ≤ (![n, l, R, C] : Fin 4 → ℕ) a := by
  fin_cases a
  · exact h
  · exact h'
  · exact Nat.le_of_eq (Nat.zero_add _)
  · exact Nat.le_of_eq (Nat.zero_add _)

/-- A row's columns taken from an offset. -/
theorem inb2 {C c o : ℕ} (h : o + c ≤ C) (a : Fin 2) : (![0, o] : Fin 2 → ℕ) a + (![1, c] : Fin 2 → ℕ) a ≤ (![1, C] : Fin 2 → ℕ) a := by
  fin_cases a
  · exact Nat.le_of_eq (Nat.zero_add _)
  · exact h

/-- The number of a trip's first row, as the kernel's word. -/
def rowWord (w : BitVec 32) (k : Fin k0_t1_loop.trips) : BitVec 32 :=
  Scalar.muli (Scalar.addi (Scalar.muli w 3#32) (Scf.iv 0#32 1#32 k)) 256#32

/-- The normed rows of one sequence, the rows before the first real one set to zero. -/
def hn (w : BitVec 32) (x : Vec F S1x256x1024 .f32) (g : Vec F S1x1x1024 .f32) : FVec F S256x1024 .bf16 :=
  truncf .bf16 (select (cmpi .sge (addi (broadcast S256x1024 w) (iota .tc S256x1024 32 [0] iota_S256x1024_d0_w32)) (broadcast S256x1024 240#32))
    (mulf (mulf (shapeCast S256x1024 x shapeCasts_S1x256x1024_S256x1024)
        (broadcastTo S256x1024 (rsqrt (addf (divf (shapeCast S256x1 (multiReduction .add [1] S256 (mulf (shapeCast S256x1024 x shapeCasts_S1x256x1024_S256x1024) (shapeCast S256x1024 x shapeCasts_S1x256x1024_S256x1024)) 0x00000000#32 reduces_S256x1024_S256 (.inl rfl) rfl) shapeCasts_S256_S256x1)
            (broadcast S256x1 (Scalar.ofBits .f32 0x44800000#32))) (broadcast S256x1 (Scalar.ofBits .f32 0x358637BD#32)))) broadcasts_S256x1_S256x1024))
      (broadcastTo S256x1024 (shapeCast S1x1024 g shapeCasts_S1x1x1024_S1x1024) broadcasts_S1x1024_S256x1024))
    (broadcast S256x1024 (Scalar.ofBits .f32 0x00000000#32))) bitsLt_bf16_f32

/-- Both sequences' projections, one under the other. -/
def proj (w : BitVec 32) (x y : Vec F S1x256x1024 .f32) (g : Vec F S1x1x1024 .f32) (wt : Vec F S1x1024x1536 .bf16) : FVec F S512x1536 .f32 :=
  matmul dot_S512x1024_S1024x1536_S512x1536_1_0_0_1_n_n none
    (concatenate S512x1024 0 [⟨S256x1024, hn w x g⟩, ⟨S256x1024, hn w y g⟩] concatenates_S256x1024_S256x1024_S512x1024_d0)
    (shapeCast S1024x1536 wt shapeCasts_S1x1024x1536_S1024x1536) (constant S512x1536 .f32 0x00000000#32)

/-- A table of 256 rows, once per sequence. -/
def twice (t : Vec F S256x256 .f32) : FVec F S512x256 .f32 :=
  concatenate S512x256 0 [⟨S256x256, shapeCast S256x256 t shapeCasts_S256x256_S256x256⟩, ⟨S256x256, shapeCast S256x256 t shapeCasts_S256x256_S256x256⟩] concatenates_S256x256_S256x256_S512x256_d0

/-- A table of 128 rows, four times. -/
def fourTimes (t : Vec F S128x256 .f32) : FVec F S512x256 .f32 :=
  concatenate S512x256 0 [⟨S128x256, shapeCast S128x256 t shapeCasts_S128x256_S128x256⟩, ⟨S128x256, shapeCast S128x256 t shapeCasts_S128x256_S128x256⟩, ⟨S128x256, shapeCast S128x256 t shapeCasts_S128x256_S128x256⟩, ⟨S128x256, shapeCast S128x256 t shapeCasts_S128x256_S128x256⟩] concatenates_S128x256_S128x256_S128x256_S128x256_S512x256_d0

/-- The rotary embedding of a projection's columns: each head's halves swapped, under the two tables. -/
def rot (z : FVec F S512x256 .f32) (c s : Vec F S256x256 .f32) : FVec F S512x256 .f32 :=
  addf (mulf z (twice c))
    (mulf (select (cmpi .slt (andi (iota .tc S512x256 32 [1] iota_S512x256_d1_w32) (broadcast S512x256 63#32)) (broadcast S512x256 32#32))
      (dynamicRotate 1 224#32 none z rotates_S512x256_d1) (dynamicRotate 1 32#32 none z rotates_S512x256_d1)) (twice s))

/-- The queries. -/
def qry (z : FVec F S512x1536 .f32) (c s : Vec F S256x256 .f32) : FVec F S512x256 .f32 :=
  rot (extractStridedSlice S512x256 ![0, 0] z slices_S512x1536_o0_0_S512x256) c s

/-- The keys, scaled. -/
def key (z : FVec F S512x1536 .f32) (c s : Vec F S256x256 .f32) : FVec F S512x256 .f32 :=
  mulf (rot (extractStridedSlice S512x256 ![0, 256] z slices_S512x1536_o0_256_S512x256) c s) (broadcast S512x256 (Scalar.ofBits .f32 0x3E000000#32))

/-- The values. -/
def vlu (z : FVec F S512x1536 .f32) : FVec F S512x512 .bf16 :=
  truncf .bf16 (extractStridedSlice S512x512 ![0, 512] z slices_S512x1536_o0_512_S512x512) bitsLt_bf16_f32

/-- Rows under a decay table. -/
def dcy (q : FVec F S512x256 .f32) (t : Vec F S128x256 .f32) : FVec F S512x256 .bf16 :=
  truncf .bf16 (mulf q (fourTimes t)) bitsLt_bf16_f32

/-- One head's queries in one block of 128 rows, the other head of its pair set to zero. -/
def qhead (kk h : Fin 4) (q : FVec F S512x256 .f32) : FVec F S128x128 .bf16 :=
  truncf .bf16 (select (broadcastTo S128x128 (shapeCast S1x128 (cmpi .eq (shrui (iota .tc S1x128 32 [1] iota_S1x128_d1_w32) (broadcast S1x128 6#32)) (broadcast S1x128 (BitVec.ofNat 32 (h.val % 2)))) shapeCasts_S1x128_S1x128) broadcasts_S1x128_S128x128)
    (extractStridedSlice S128x128 ![128 * kk.val, 128 * (h.val / 2)] q (slices2 (by omega) (by omega)))
    (broadcast S128x128 (Scalar.ofBits .f32 0x00000000#32))) bitsLt_bf16_f32

/-- One head's output from inside the chunks of one block of 128 rows. -/
def intra (kk h : Fin 4) (q k : FVec F S512x256 .f32) (v : FVec F S512x512 .bf16) (d : Vec F S4x128x128 .f32) : FVec F S128x128 .f32 :=
  matmul dot_S128x128_S128x128_S128x128_1_0_0_1_n_n none
    (truncf .bf16 (mulf (matmul dot_S128x128_S128x128_S128x128_1_1_0_0_n_n none (qhead kk h q)
        (extractStridedSlice S128x128 ![128 * kk.val, 128 * (h.val / 2)] (truncf .bf16 k bitsLt_bf16_f32 : FVec F S512x256 .bf16) (slices2 (by omega) (by omega)))
        (constant S128x128 .f32 0x00000000#32))
      (shapeCast S128x128 (View.ld d (Rect.unit ![h.val, 0, 0] S1x128x128.size (inb3 h.isLt))) shapeCasts_S1x128x128_S128x128)) bitsLt_bf16_f32)
    (extractStridedSlice S128x128 ![128 * kk.val, 128 * h.val] v (slices2 (by omega) (by omega)))
    (constant S128x128 .f32 0x00000000#32)

/-- What one chunk adds to the state of one pair of heads. -/
def kv (b : Fin 2) (n : Fin 4) (p : Fin 2) (v : FVec F S512x512 .bf16) (kz : FVec F S512x256 .bf16) : FVec F S256x128 .f32 :=
  select (cmpi .eq (shrui (iota .tc S256x128 32 [0] iota_S256x128_d0_w32) (broadcast S256x128 7#32)) (shrui (iota .tc S256x128 32 [1] iota_S256x128_d1_w32) (broadcast S256x128 6#32)))
    (matmul dot_S64x256_S64x128_S256x128_0_0_1_1_n_n none
      (extractStridedSlice S64x256 ![256 * b.val + 64 * n.val, 256 * p.val] v (slices2 (by omega) (by omega)))
      (extractStridedSlice S64x128 ![256 * b.val + 64 * n.val, 128 * p.val] kz (slices2 (by omega) (by omega)))
      (constant S256x128 .f32 0x00000000#32))
    (broadcast S256x128 (Scalar.ofBits .f32 0x00000000#32))

/-- The state of one pair of heads after one more chunk. -/
def nxt (b : Fin 2) (n : Fin 4) (p : Fin 2) (v : FVec F S512x512 .bf16) (kz : FVec F S512x256 .bf16) (gc : Vec F S1x256 .f32) (st : FVec F S256x128 .f32) : FVec F S256x128 .f32 :=
  addf (mulf (broadcastTo S256x128 (shapeCast S1x128 (View.ld gc (Rect.unit ![0, 128 * p.val] S1x128.size (inb2 (by omega)))) shapeCasts_S1x128_S1x128) broadcasts_S1x128_S256x128) st)
    (kv b n p v kz)

/-- The state of one pair of heads as the trip finds it. -/
def ent0 (b p : Fin 2) (s : Vec F S2x2x256x128 .f32) : FVec F S256x128 .f32 :=
  shapeCast S256x128 (View.ld s (Rect.unit ![b.val, p.val, 0, 0] S1x1x256x128.size (inb4 b.isLt p.isLt))) shapeCasts_S1x1x256x128_S256x128

/-- The state entering each chunk of the trip. -/
def ent1 (b p : Fin 2) (v : FVec F S512x512 .bf16) (kz : FVec F S512x256 .bf16) (gc : Vec F S1x256 .f32) (s : Vec F S2x2x256x128 .f32) := nxt b 0 p v kz gc (ent0 b p s)
def ent2 (b p : Fin 2) (v : FVec F S512x512 .bf16) (kz : FVec F S512x256 .bf16) (gc : Vec F S1x256 .f32) (s : Vec F S2x2x256x128 .f32) := nxt b 1 p v kz gc (ent1 b p v kz gc s)
def ent3 (b p : Fin 2) (v : FVec F S512x512 .bf16) (kz : FVec F S512x256 .bf16) (gc : Vec F S1x256 .f32) (s : Vec F S2x2x256x128 .f32) := nxt b 2 p v kz gc (ent2 b p v kz gc s)
def ent4 (b p : Fin 2) (v : FVec F S512x512 .bf16) (kz : FVec F S512x256 .bf16) (gc : Vec F S1x256 .f32) (s : Vec F S2x2x256x128 .f32) := nxt b 3 p v kz gc (ent3 b p v kz gc s)

/-- One chunk's output from the state entering it. -/
def inter (b : Fin 2) (n : Fin 4) (p : Fin 2) (qx : FVec F S512x256 .bf16) (st : FVec F S256x128 .f32) : FVec F S64x256 .f32 :=
  matmul dot_S64x128_S256x128_S64x256_1_1_0_0_n_n none
    (extractStridedSlice S64x128 ![256 * b.val + 64 * n.val, 128 * p.val] qx (slices2 (by omega) (by omega)))
    (truncf .bf16 st bitsLt_bf16_f32) (constant S64x256 .f32 0x00000000#32)

/-- One chunk's rows of that output, both pairs of heads. -/
def interRow (b : Fin 2) (n : Fin 4) (qx : FVec F S512x256 .bf16) (st st' : FVec F S256x128 .f32) : FVec F S64x512 .f32 :=
  concatenate S64x512 1 [⟨S64x256, inter b n 0 qx st⟩, ⟨S64x256, inter b n 1 qx st'⟩] concatenates_S64x256_S64x256_S64x512_d1

/-- One block's rows of the output from inside the chunks, all heads. -/
def intraRow (kk : Fin 4) (q k : FVec F S512x256 .f32) (v : FVec F S512x512 .bf16) (d : Vec F S4x128x128 .f32) : FVec F S128x512 .f32 :=
  concatenate S128x512 1 [⟨S128x128, intra kk 0 q k v d⟩, ⟨S128x128, intra kk 1 q k v d⟩, ⟨S128x128, intra kk 2 q k v d⟩, ⟨S128x128, intra kk 3 q k v d⟩] concatenates_S128x128_S128x128_S128x128_S128x128_S128x512_d1

/-- The trip's retention output before its norm. -/
def ret (q k : FVec F S512x256 .f32) (v : FVec F S512x512 .bf16) (qx kz : FVec F S512x256 .bf16) (d : Vec F S4x128x128 .f32) (gc : Vec F S1x256 .f32)
    (s : Vec F S2x2x256x128 .f32) : FVec F S512x512 .f32 :=
  addf (concatenate S512x512 0 [⟨S128x512, intraRow 0 q k v d⟩, ⟨S128x512, intraRow 1 q k v d⟩, ⟨S128x512, intraRow 2 q k v d⟩, ⟨S128x512, intraRow 3 q k v d⟩] concatenates_S128x512_S128x512_S128x512_S128x512_S512x512_d0)
    (concatenate S512x512 0 [⟨S64x512, interRow 0 0 qx (ent0 0 0 s) (ent0 0 1 s)⟩,
      ⟨S64x512, interRow 0 1 qx (ent1 0 0 v kz gc s) (ent1 0 1 v kz gc s)⟩,
      ⟨S64x512, interRow 0 2 qx (ent2 0 0 v kz gc s) (ent2 0 1 v kz gc s)⟩,
      ⟨S64x512, interRow 0 3 qx (ent3 0 0 v kz gc s) (ent3 0 1 v kz gc s)⟩,
      ⟨S64x512, interRow 1 0 qx (ent0 1 0 s) (ent0 1 1 s)⟩,
      ⟨S64x512, interRow 1 1 qx (ent1 1 0 v kz gc s) (ent1 1 1 v kz gc s)⟩,
      ⟨S64x512, interRow 1 2 qx (ent2 1 0 v kz gc s) (ent2 1 1 v kz gc s)⟩,
      ⟨S64x512, interRow 1 3 qx (ent3 1 0 v kz gc s) (ent3 1 1 v kz gc s)⟩] concatenates_S64x512_S64x512_S64x512_S64x512_S64x512_S64x512_S64x512_S64x512_S512x512_d0)

/-- A head's rows less their mean. -/
def cent (h : Fin 4) (o : FVec F S512x512 .f32) : FVec F S512x128 .f32 :=
  subf (extractStridedSlice S512x128 ![0, 128 * h.val] o (slices2 (by omega) (by omega)))
    (broadcastTo S512x128 (divf (shapeCast S512x1 (multiReduction .add [1] S512 (extractStridedSlice S512x128 ![0, 128 * h.val] o (slices2 (by omega) (by omega))) 0x00000000#32 reduces_S512x128_S512 (.inl rfl) rfl) shapeCasts_S512_S512x1)
      (broadcast S512x1 (Scalar.ofBits .f32 0x43000000#32))) broadcasts_S512x1_S512x128)

/-- A head's rows, normed. -/
def hnorm (h : Fin 4) (o : FVec F S512x512 .f32) : FVec F S512x128 .f32 :=
  mulf (cent h o) (broadcastTo S512x128 (rsqrt (addf (divf (shapeCast S512x1 (multiReduction .add [1] S512 (mulf (cent h o) (cent h o)) 0x00000000#32 reduces_S512x128_S512 (.inl rfl) rfl) shapeCasts_S512_S512x1)
      (broadcast S512x1 (Scalar.ofBits .f32 0x43000000#32))) (broadcast S512x1 (Scalar.ofBits .f32 0x358637BD#32)))) broadcasts_S512x1_S512x128)

/-- The trip's output: all heads normed, under the gain and the gate. -/
def gated (z : FVec F S512x1536 .f32) (o : FVec F S512x512 .f32) (ng : Vec F S1x1x512 .f32) : FVec F S512x512 .f32 :=
  mulf (mulf (concatenate S512x512 1 [⟨S512x128, hnorm 0 o⟩, ⟨S512x128, hnorm 1 o⟩, ⟨S512x128, hnorm 2 o⟩, ⟨S512x128, hnorm 3 o⟩] concatenates_S512x128_S512x128_S512x128_S512x128_S512x512_d1)
      (broadcastTo S512x512 (shapeCast S1x512 (View.ld ng (Rect.unit ![0, 0, 0] S1x1x512.size inb_S1x1x512_S1x1x512_0_0_0)) shapeCasts_S1x1x512_S1x512) broadcasts_S1x512_S512x512))
    (mulf (extractStridedSlice S512x512 ![0, 1024] z slices_S512x1536_o0_1024_S512x512) (logistic (extractStridedSlice S512x512 ![0, 1024] z slices_S512x1536_o0_1024_S512x512)))

/-- One sequence's rows of it. -/
def rows (b : Fin 2) (o : FVec F S512x512 .f32) : FVec F S1x256x512 .bf16 :=
  shapeCast S1x256x512 (truncf .bf16 (extractStridedSlice S256x512 ![256 * b.val, 0] o (slices2 (by omega) (by omega))) bitsLt_bf16_f32 : FVec F S256x512 .bf16) shapeCasts_S256x512_S1x256x512

/-- The blocks one grid point reads. -/
structure Blk (F : FTy → Type) [FloatOps F] where
  x : Vec F S2x768x1024 .f32
  g : Vec F S1x1x1024 .f32
  w : Vec F S1x1024x1536 .bf16
  c : Vec F S768x256 .f32
  s : Vec F S768x256 .f32
  d : Vec F S4x128x128 .f32
  xi : Vec F S128x256 .f32
  ze : Vec F S128x256 .f32
  gc : Vec F S1x256 .f32
  ng : Vec F S1x1x512 .f32

variable (B : Blk F) (w : BitVec 32) (k : Fin k0_t1_loop.trips) (s : Vec F S2x2x256x128 .f32)

/-- The trip's projections, queries, keys, values, state and outputs, of a grid point's blocks. -/
def tZ : FVec F S512x1536 .f32 :=
  proj (rowWord w k) (View.ld B.x (Rect.unit (k0_off1 k) S1x256x1024.size (k0_off1_inb k))) (View.ld B.x (Rect.unit (k0_off2 k) S1x256x1024.size (k0_off2_inb k)))
    (View.ld B.g (Rect.unit ![0, 0, 0] S1x1x1024.size inb_S1x1x1024_S1x1x1024_0_0_0)) (View.ld B.w (Rect.unit ![0, 0, 0] S1x1024x1536.size inb_S1x1024x1536_S1x1024x1536_0_0_0))
def tC : Vec F S256x256 .f32 := View.ld B.c (Rect.unit (k0_off3 k) S256x256.size (k0_off3_inb k))
def tS : Vec F S256x256 .f32 := View.ld B.s (Rect.unit (k0_off3 k) S256x256.size (k0_off3_inb k))
def tQ : FVec F S512x256 .f32 := qry (tZ B w k) (tC B k) (tS B k)
def tK : FVec F S512x256 .f32 := key (tZ B w k) (tC B k) (tS B k)
def tV : FVec F S512x512 .bf16 := vlu (tZ B w k)
def tQx : FVec F S512x256 .bf16 := dcy (tQ B w k) (View.ld B.xi (Rect.unit ![0, 0] S128x256.size inb_S128x256_S128x256_0_0))
def tKz : FVec F S512x256 .bf16 := dcy (tK B w k) (View.ld B.ze (Rect.unit ![0, 0] S128x256.size inb_S128x256_S128x256_0_0))
def tO : FVec F S512x512 .f32 := ret (tQ B w k) (tK B w k) (tV B w k) (tQx B w k) (tKz B w k) B.d B.gc s
def tOut : FVec F S512x512 .f32 := gated (tZ B w k) (tO B w k s) B.ng
def tE (b p : Fin 2) : FVec F S256x128 .f32 := ent4 b p (tV B w k) (tKz B w k) B.gc s

/-- What the trip writes: two blocks of the result's rows. -/
def pcsO : List (View.Piece (Elt F) S2x768x512 .bf16) :=
  [⟨Rect.unit (k0_off5 k) S1x256x512.size (k0_off5_inb k), rows 1 (tOut B w k s)⟩,
   ⟨Rect.unit (k0_off4 k) S1x256x512.size (k0_off4_inb k), rows 0 (tOut B w k s)⟩]

/-- And the whole state. -/
def pcsS : List (View.Piece (Elt F) S2x2x256x128 .f32) :=
  [⟨Rect.unit ![1, 1, 0, 0] S1x1x256x128.size inb_S2x2x256x128_S1x1x256x128_1_1_0_0, shapeCast S1x1x256x128 (tE B w k s 1 1) shapeCasts_S256x128_S1x1x256x128⟩,
   ⟨Rect.unit ![1, 0, 0, 0] S1x1x256x128.size inb_S2x2x256x128_S1x1x256x128_1_0_0_0, shapeCast S1x1x256x128 (tE B w k s 1 0) shapeCasts_S256x128_S1x1x256x128⟩,
   ⟨Rect.unit ![0, 1, 0, 0] S1x1x256x128.size inb_S2x2x256x128_S1x1x256x128_0_1_0_0, shapeCast S1x1x256x128 (tE B w k s 0 1) shapeCasts_S256x128_S1x1x256x128⟩,
   ⟨Rect.unit ![0, 0, 0, 0] S1x1x256x128.size inb_S2x2x256x128_S1x1x256x128_0_0_0_0, shapeCast S1x1x256x128 (tE B w k s 0 0) shapeCasts_S256x128_S1x1x256x128⟩]

section
variable (𝒱 : Variants) (c : Dev nD) (bd : Option 𝒱.V) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S768x256 .f32) (harg4 : arg4.IsWhole) (arg5 : Memref sig .tc .vmem S768x256 .f32) (harg5 : arg5.IsWhole) (arg6 : Memref sig .tc .vmem S4x128x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S1x1x512 .f32) (harg10 : arg10.IsWhole) (arg11 : Memref sig .tc .vmem S2x768x512 .bf16) (harg11 : arg11.IsWhole) (arg12 : Memref sig .tc .vmem S2x2x256x128 .f32) (harg12 : arg12.IsWhole) (arg0 : BitVec 32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (f11 : BufTy.Contents (Elt F) arg11.view.ty) (f12 : BufTy.Contents (Elt F) arg12.view.ty)

/-- The blocks the memrefs hold. -/
abbrev blkOf : Blk F := ⟨arg1.view.read (Elt F) X_arg1, arg2.view.read (Elt F) X_arg2, arg3.view.read (Elt F) X_arg3, arg4.view.read (Elt F) X_arg4, arg5.view.read (Elt F) X_arg5,
  arg6.view.read (Elt F) X_arg6, arg7.view.read (Elt F) X_arg7, arg8.view.read (Elt F) X_arg8, arg9.view.read (Elt F) X_arg9, arg10.view.read (Elt F) X_arg10⟩

/-- The generated trip writes these pieces into the state. -/
theorem trip_state : (trip_k0_t1 (F := F) 𝒱 c bd i arg1 harg1 arg2 harg2 arg3 harg3 arg4 harg4 arg5 harg5 arg6 harg6 arg7 harg7 arg8 harg8 arg9 harg9 arg10 harg10 arg11 harg11 arg12 harg12 arg0 X_arg1 X_arg2 X_arg3 X_arg4 X_arg5 X_arg6 X_arg7 X_arg8 X_arg9 X_arg10 k).2.1 f11 f12
    = pcsS (blkOf arg1 arg2 arg3 arg4 arg5 arg6 arg7 arg8 arg9 arg10 X_arg1 X_arg2 X_arg3 X_arg4 X_arg5 X_arg6 X_arg7 X_arg8 X_arg9 X_arg10) arg0 k (arg12.view.read (Elt F) f12) := by
  unfold trip_k0_t1
  rfl

set_option maxHeartbeats 4000000 in
/-- The generated trip writes these pieces into the result. -/
theorem trip_out : (trip_k0_t1 (F := F) 𝒱 c bd i arg1 harg1 arg2 harg2 arg3 harg3 arg4 harg4 arg5 harg5 arg6 harg6 arg7 harg7 arg8 harg8 arg9 harg9 arg10 harg10 arg11 harg11 arg12 harg12 arg0 X_arg1 X_arg2 X_arg3 X_arg4 X_arg5 X_arg6 X_arg7 X_arg8 X_arg9 X_arg10 k).1 f11 f12
    = pcsO (blkOf arg1 arg2 arg3 arg4 arg5 arg6 arg7 arg8 arg9 arg10 X_arg1 X_arg2 X_arg3 X_arg4 X_arg5 X_arg6 X_arg7 X_arg8 X_arg9 X_arg10) arg0 k (arg12.view.read (Elt F) f12) := by
  unfold trip_k0_t1
  rfl
end

end Cert.Ret

end
-- ==== Proof.RetRun.lean ====
/- The retention mixer's run: what one grid point leaves in the result and in the state it carries to the next, for any values. -/
module

public import proofs.«01_k».proof.Proof.RetTile
public import Idealize.ShloMosaic.Lib.Claim

@[expose] public section

set_option maxRecDepth 16384

noncomputable section

namespace Cert.Ret

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's three trips -/

/-- The three trips. -/
abbrev k0 : Fin k0_t1_loop.trips := ⟨0, by decide⟩
abbrev k1 : Fin k0_t1_loop.trips := ⟨1, by decide⟩
abbrev k2 : Fin k0_t1_loop.trips := ⟨2, by decide⟩

section
variable (B : Blk F) (w : BitVec 32) (k : Fin k0_t1_loop.trips) (s : Vec F S2x2x256x128 .f32)

/-- The state after one trip. -/
def stp : Vec F S2x2x256x128 .f32 := View.canon (pcsS B w k s)
/-- The state after one, two and three trips. -/
def st1 : Vec F S2x2x256x128 .f32 := stp B w k0 s
def st2 : Vec F S2x2x256x128 .f32 := stp B w k1 (st1 B w s)
def st3 : Vec F S2x2x256x128 .f32 := stp B w k2 (st2 B w s)

/-- What the three trips write into the result, the last first. -/
def outs : List (View.Piece (Elt F) S2x768x512 .bf16) := pcsO B w k2 (st2 B w s) ++ pcsO B w k1 (st1 B w s) ++ pcsO B w k0 s

/-- The four pieces of the state cover it. -/
theorem cover_state (y : S2x2x256x128.Idx) : ∃ pc ∈ pcsS B w k s, y ∈ pc.1.set :=
  View.cover_of_tiledL (pcsS B w k s) S1x1x256x128.size (by sl_kernel_rfl) y

/-- The six pieces of the result cover it. -/
theorem cover_outs (y : S2x768x512.Idx) : ∃ pc ∈ outs B w s, y ∈ pc.1.set :=
  View.cover_of_tiledL (outs B w s) S1x256x512.size (by sl_kernel_rfl) y

end

section
variable (𝒱 : Variants) (c : Dev nD) (bd : Option 𝒱.V) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S768x256 .f32) (harg4 : arg4.IsWhole) (arg5 : Memref sig .tc .vmem S768x256 .f32) (harg5 : arg5.IsWhole) (arg6 : Memref sig .tc .vmem S4x128x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S1x1x512 .f32) (harg10 : arg10.IsWhole) (arg11 : Memref sig .tc .vmem S2x768x512 .bf16) (harg11 : arg11.IsWhole) (arg12 : Memref sig .tc .vmem S2x2x256x128 .f32) (harg12 : arg12.IsWhole) (w : BitVec 32)
  (x0 : Vec F S2x768x1024 .f32) (x1 : Vec F S1x1x1024 .f32) (x2 : Vec F S1x1024x1536 .bf16) (x3 : Vec F S768x256 .f32) (x4 : Vec F S768x256 .f32) (x5 : Vec F S4x128x128 .f32) (x6 : Vec F S128x256 .f32) (x7 : Vec F S128x256 .f32) (x8 : Vec F S1x256 .f32) (x9 : Vec F S1x1x512 .f32) (G11 : BufTy.Contents (Elt F) arg11.view.ty) (G12 : BufTy.Contents (Elt F) arg12.view.ty)

/-- One more trip of the generated lists. -/
theorem lists_succ (k : Fin k0_t1_loop.trips) (s : Vec F S2x2x256x128 .f32) (hs : arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 k.val).2) = s) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 (k.val + 1)).1 = pcsO ⟨x0, x1, x2, x3, x4, x5, x6, x7, x8, x9⟩ w k s ++ (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 k.val).1
    ∧ arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 (k.val + 1)).2) = stp ⟨x0, x1, x2, x3, x4, x5, x6, x7, x8, x9⟩ w k s := by
  subst hs
  rw [pb_k0_t1_succ]
  dsimp only
  rw [trip_out, trip_state, View.writes_append]
  unfold blkOf
  simp only [Memref.IsWhole.read_unread]
  exact ⟨trivial, View.read_writes_eq_canon _ _ _ (cover_state _ _ _ _)⟩

/-- The generated lists after the three trips. -/
theorem lists_three (s : Vec F S2x2x256x128 .f32) (hs : arg12.view.read (Elt F) G12 = s) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 3).1 = outs ⟨x0, x1, x2, x3, x4, x5, x6, x7, x8, x9⟩ w s
    ∧ arg12.view.read (Elt F) (arg12.view.writes (Elt F) G12 (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 3).2) = st3 ⟨x0, x1, x2, x3, x4, x5, x6, x7, x8, x9⟩ w s := by
  obtain ⟨h1, e1⟩ := lists_succ 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 G12 k0 s hs
  obtain ⟨h2, e2⟩ := lists_succ 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 G12 k1 _ e1
  obtain ⟨h3, e3⟩ := lists_succ 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 G12 k2 _ e2
  refine ⟨h3.trans ?_, e3⟩
  rw [show (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 k2.val).1 = _ from h2, show (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 G12 k1.val).1 = _ from h1]
  simp only [pb_k0_t1, List.append_nil]
  unfold outs st2 st1
  rw [List.append_assoc]

theorem out_read (s : Vec F S2x2x256x128 .f32) :
    arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 (harg12.unread s) k0_t1_loop.trips).1) = View.canon (outs ⟨x0, x1, x2, x3, x4, x5, x6, x7, x8, x9⟩ w s) := by
  rw [show k0_t1_loop.trips = 3 from by decide, (lists_three 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 _ s (harg12.read_unread s)).1]
  exact View.read_writes_eq_canon _ _ _ (cover_outs _ _ _)

theorem state_read (s : Vec F S2x2x256x128 .f32) :
    arg12.view.read (Elt F) (arg12.view.writes (Elt F) (harg12.unread s) (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 (harg12.unread s) k0_t1_loop.trips).2) = st3 ⟨x0, x1, x2, x3, x4, x5, x6, x7, x8, x9⟩ w s := by
  rw [show k0_t1_loop.trips = 3 from by decide]
  exact (lists_three 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 _ s (harg12.read_unread s)).2

theorem out_zeroed (L : List (View.Piece (Elt F) S2x2x256x128 .f32)) (s : Vec F S2x2x256x128 .f32) (hL : arg12.view.read (Elt F) (arg12.view.writes (Elt F) arg12.view.junk L) = s) :
    arg11.view.read (Elt F) (arg11.view.writes (Elt F) G11 (pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 (arg12.view.writes (Elt F) arg12.view.junk L) k0_t1_loop.trips).1) = View.canon (outs ⟨x0, x1, x2, x3, x4, x5, x6, x7, x8, x9⟩ w s) := by
  rw [show k0_t1_loop.trips = 3 from by decide, (lists_three 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 _ s hL).1]
  exact View.read_writes_eq_canon _ _ _ (cover_outs _ _ _)

theorem state_zeroed (L : List (View.Piece (Elt F) S2x2x256x128 .f32)) (s : Vec F S2x2x256x128 .f32) (hL : arg12.view.read (Elt F) (arg12.view.writes (Elt F) arg12.view.junk L) = s) :
    arg12.view.read (Elt F) (arg12.view.writes (Elt F) arg12.view.junk ((pb_k0_t1 (F := F) 𝒱 c bd i arg1 harg1 arg2 harg2 arg3 harg3 arg4 harg4 arg5 harg5 arg6 harg6 arg7 harg7 arg8 harg8 arg9 harg9 arg10 harg10 arg11 harg11 arg12 harg12 w (harg1.unread x0) (harg2.unread x1) (harg3.unread x2) (harg4.unread x3) (harg5.unread x4) (harg6.unread x5) (harg7.unread x6) (harg8.unread x7) (harg9.unread x8) (harg10.unread x9) G11 (arg12.view.writes (Elt F) arg12.view.junk L) k0_t1_loop.trips).2 ++ L)) = st3 ⟨x0, x1, x2, x3, x4, x5, x6, x7, x8, x9⟩ w s := by
  rw [show k0_t1_loop.trips = 3 from by decide, View.writes_append]
  exact (lists_three 𝒱 c bd i arg1 harg1 arg2 harg2 arg3 harg3 arg4 harg4 arg5 harg5 arg6 harg6 arg7 harg7 arg8 harg8 arg9 harg9 arg10 harg10 arg11 harg11 arg12 harg12 w x0 x1 x2 x3 x4 x5 x6 x7 x8 x9 G11 _ s hL).2
end

/-- A store of the whole state is what the state then holds. -/
theorem zeroed_read (arg12 : Memref sig .tc .vmem S2x2x256x128 .f32) :
    arg12.view.read (Elt F) (arg12.view.writes (Elt F) arg12.view.junk [⟨Rect.unit (s := S2x2x256x128) ![0, 0, 0, 0] S2x2x256x128.size inb_S2x2x256x128_S2x2x256x128_0_0_0_0, k0_pay1 (F := F)⟩]) = k0_pay1 := by
  funext y
  have hy : (Rect.unit (s := S2x2x256x128) ![0, 0, 0, 0] S2x2x256x128.size inb_S2x2x256x128_S2x2x256x128_0_0_0_0).emb y = y := by
    funext a
    apply Fin.ext
    fin_cases a <;> exact (Nat.zero_add _).trans (Nat.one_mul _)
  conv_lhs => rw [← hy]
  exact View.read_writes_cons_emb _ _ _ _ _ _

set_option maxHeartbeats 4000000 in
/-- The body at a later point: it runs the three trips from the state it finds. -/
theorem run_later (c : Dev nD) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S768x256 .f32) (harg4 : arg4.IsWhole) (arg5 : Memref sig .tc .vmem S768x256 .f32) (harg5 : arg5.IsWhole) (arg6 : Memref sig .tc .vmem S4x128x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S1x1x512 .f32) (harg10 : arg10.IsWhole) (arg11 : Memref sig .tc .vmem S2x768x512 .bf16) (harg11 : arg11.IsWhole) (arg12 : Memref sig .tc .vmem S2x2x256x128 .f32) (harg12 : arg12.IsWhole) (hc0 : ¬cond0_0 i) (x0 : Vec F S2x768x1024 .f32) (x1 : Vec F S1x1x1024 .f32) (x2 : Vec F S1x1024x1536 .bf16) (x3 : Vec F S768x256 .f32) (x4 : Vec F S768x256 .f32) (x5 : Vec F S4x128x128 .f32) (x6 : Vec F S128x256 .f32) (x7 : Vec F S128x256 .f32) (x8 : Vec F S1x256 .f32) (x9 : Vec F S1x1x512 .f32) (s : Vec F S2x2x256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ owns (c : Thread nD τ) arg12 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (View.canon (outs ⟨x0, x1, x2, x3, x4, x5, x6, x7, x8, x9⟩ (BitVec.ofNat 32 (i 0).val) s)) ∗ owns (c : Thread nD τ) arg12 fullShare (st3 ⟨x0, x1, x2, x3, x4, x5, x6, x7, x8, x9⟩ (BitVec.ofNat 32 (i 0).val) s)) -∗ K ⟨⟩))
      ⊢ wp frame (wpE (defs₀ (F := F)) Variants.none c none) E (cc0_retention_mixer i arg1 harg1 arg2 harg2 arg3 harg3 arg4 harg4 arg5 harg5 arg6 harg6 arg7 harg7 arg8 harg8 arg9 harg9 arg10 harg10 arg11 harg11 arg12 harg12) K := by
  simp only [cc0_retention_mixer_eq_skeleton]; unfold cc0_retention_mixer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg12.eq_unread hfs
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    exact out_read _ c _ i arg1 harg1 arg2 harg2 arg3 harg3 arg4 harg4 arg5 harg5 arg6 harg6 arg7 harg7 arg8 harg8 arg9 harg9 arg10 harg10 arg11 harg11 arg12 harg12 _ x0 x1 x2 x3 x4 x5 x6 x7 x8 x9 _ s
  iexists _; isplitr
  swap; · iexact HS
  ipureintro
  exact state_read _ c _ i arg1 harg1 arg2 harg2 arg3 harg3 arg4 harg4 arg5 harg5 arg6 harg6 arg7 harg7 arg8 harg8 arg9 harg9 arg10 harg10 arg11 harg11 arg12 harg12 _ x0 x1 x2 x3 x4 x5 x6 x7 x8 x9 _ s

set_option maxHeartbeats 4000000 in
/-- The body at the first point: it zeroes the state, then runs the three trips. -/
theorem run_first (c : Dev nD) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S768x256 .f32) (harg4 : arg4.IsWhole) (arg5 : Memref sig .tc .vmem S768x256 .f32) (harg5 : arg5.IsWhole) (arg6 : Memref sig .tc .vmem S4x128x128 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S1x256 .f32) (harg9 : arg9.IsWhole) (arg10 : Memref sig .tc .vmem S1x1x512 .f32) (harg10 : arg10.IsWhole) (arg11 : Memref sig .tc .vmem S2x768x512 .bf16) (harg11 : arg11.IsWhole) (arg12 : Memref sig .tc .vmem S2x2x256x128 .f32) (harg12 : arg12.IsWhole) (hc0 : cond0_0 i) (x0 : Vec F S2x768x1024 .f32) (x1 : Vec F S1x1x1024 .f32) (x2 : Vec F S1x1024x1536 .bf16) (x3 : Vec F S768x256 .f32) (x4 : Vec F S768x256 .f32) (x5 : Vec F S4x128x128 .f32) (x6 : Vec F S128x256 .f32) (x7 : Vec F S128x256 .f32) (x8 : Vec F S1x256 .f32) (x9 : Vec F S1x1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (View.canon (outs ⟨x0, x1, x2, x3, x4, x5, x6, x7, x8, x9⟩ (BitVec.ofNat 32 (i 0).val) (k0_pay1 (F := F)))) ∗ owns (c : Thread nD τ) arg12 fullShare (st3 ⟨x0, x1, x2, x3, x4, x5, x6, x7, x8, x9⟩ (BitVec.ofNat 32 (i 0).val) (k0_pay1 (F := F)))) -∗ K ⟨⟩))
      ⊢ wp frame (wpE (defs₀ (F := F)) Variants.none c none) E (cc0_retention_mixer i arg1 harg1 arg2 harg2 arg3 harg3 arg4 harg4 arg5 harg5 arg6 harg6 arg7 harg7 arg8 harg8 arg9 harg9 arg10 harg10 arg11 harg11 arg12 harg12) K := by
  simp only [cc0_retention_mixer_eq_skeleton]; unfold cc0_retention_mixer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    exact out_zeroed _ c _ i arg1 harg1 arg2 harg2 arg3 harg3 arg4 harg4 arg5 harg5 arg6 harg6 arg7 harg7 arg8 harg8 arg9 harg9 arg10 harg10 arg11 harg11 arg12 harg12 _ x0 x1 x2 x3 x4 x5 x6 x7 x8 x9 _ _ _ (zeroed_read arg12)
  iexists _; isplitr
  swap; · iexact HS
  ipureintro
  exact state_zeroed _ c _ i arg1 harg1 arg2 harg2 arg3 harg3 arg4 harg4 arg5 harg5 arg6 harg6 arg7 harg7 arg8 harg8 arg9 harg9 arg10 harg10 arg11 harg11 arg12 harg12 _ x0 x1 x2 x3 x4 x5 x6 x7 x8 x9 _ _ _ (zeroed_read arg12)

/-! ## The launch -/

variable (m : (ℓ : Loc nD τ sig) → Buf (Elt F) ℓ) (ρ : Dev nD → PrngReg)

/-- The blocks a grid point reads. -/
def blk (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t⟩

/-- A grid point's number, as the kernel's word. -/
abbrev pt (t : Fin cfg0.N) : BitVec 32 := BitVec.ofNat 32 ((grid0.coords t) 0).val

/-- The state a grid point finds. -/
def stateAt (c : Dev nD) : ℕ → Vec F S2x2x256x128 .f32
  | 0 => k0_pay1
  | n + 1 => if h : n < cfg0.N then st3 (blk m c ⟨n, h⟩) (pt ⟨n, h⟩) (stateAt c n) else stateAt c n

theorem stateAt_succ (c : Dev nD) (t : Fin cfg0.N) : stateAt m c (t.val + 1) = st3 (blk m c t) (pt t) (stateAt m c t.val) := by
  rw [stateAt.eq_2, dif_pos t.isLt]

/-- What is held between points: the state, and the generator's register. -/
def Phi (c : Dev nD) : (n : ℕ) → n ≤ cfg0.N → sProp 𝕄
  | 0, _ => Pipeline.ΦA spec0 c
  | n + 1, _ => iprop(owns (c : Thread nD τ) scM0_0 fullShare (stateAt m c (n + 1)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(owns (c : Thread nD τ) scM0_0 fullShare (stateAt m c n) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => View.canon (outs (blk m c t) (pt t) (stateAt m c t.val))
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = View.canon (outs (blk m c t) (pt t) (stateAt m c t.val)) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, after_0, after_1, after_2, after_3, after_4, after_5, after_6, after_7, after_8, after_9, after_10]
  rw [show (dats m 0 c).Φ t.succ = Phi m c (t.val + 1) t.isLt from rfl, Phi_pos m c _ _ (Nat.succ_ne_zero _), stateAt_succ, Phi_castSucc m c t]
  unfold blk
  have hN : t.val < 11 := lt_of_lt_of_eq t.isLt (show cfg0.N = 11 from N_0)
  by_cases hz : t.val = 0
  · have h0 : t.val % 11 = 0 := by omega
    rw [Phi_zero m c _ _ hz, PhiA0_eq, show stateAt m c t.val = k0_pay1 by rw [hz]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have h0 : ¬t.val % 11 = 0 := by omega
    rw [Phi_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_later c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, H10, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl, Phi_pos m c _ _ (by rw [show cfg0.N = 11 from N_0]; decide), PhiA0_eq]
  iintro ⟨HS, Hg⟩
  isplitl [HS]
  · iexists _; iexact HS
  iexact Hg

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Ret

end
-- ==== Proof.RetFrame.lean ====
/- The retention mixer's printed program: its text is that of the ideal one, so the one run gives its frame. -/
module

public import proofs.«01_k».proof.Defs
public import proofs.«01_k».proof.Proof.Gen.Kernel
public import proofs.«01_k».proof.Proof.Gen.KernelIdeal
public import proofs.«01_k».proof.Proof.RetRun

@[expose] public section

noncomputable section

namespace Cert.Ret

open Idealize.ShloMosaic Idealize.SL.Sem

variable {F : FTy → Type} [FloatOps F]

/-- The two programs have the same body at their one label. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => exact funext fun x => rfl

/-- The two programs have the same table of labels. -/
theorem defs_eq : Cert.Kernel.defs (F := F) = Cert.KernelIdeal.defs (F := F) :=
  congrArg (Pipeline.defs (Cert.KernelIdeal.pcfgs (F := F))) bodies_eq

set_option maxHeartbeats 8000000 in
/-- The two programs have the same host code. -/
theorem main_eq : Cert.Kernel.main (F := F) = Cert.KernelIdeal.main (F := F) := rfl

/-- The printed program's frame. -/
theorem frame_kernel : Cert.quiescent_Kernel := by
  intro m ρ _
  rw [defs_eq, main_eq]
  exact frame (F := Bits) m ρ

end Cert.Ret
-- ==== Proof.RetTab.lean ====
/- The tables the retention mixer's host computes, as terms, and read at an index. -/
module

public import proofs.«01_k».proof.Proof.RetRun
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.Ret

open Cert.KernelIdeal Cert.KernelIdeal.Gen Idealize.ShloMosaic Idealize.ShloMosaic.TcCoe Idealize.ShloMosaic.StableHlo

/-- The kernel's angles of the rotary embedding. -/
def KANG : FVec Ideal S8448x32 .f32 :=
  (mulf (broadcastInDim S8448x32 ![0, 1] bcast_S8448x1_S8448x32_0_1 (broadcastInDim S8448x1 ![0] bcast_S8448_S8448x1_0 (sitofp (F := Ideal) .f32 (subi (iotaInDim S8448 32 0) (broadcastInDim S8448 ![] bcast_S_S8448 (constantI S_ 32 240#32)))))) (broadcastInDim S8448x32 ![0, 1] bcast_S1x32_S8448x32_0_1 (broadcastInDim S1x32 ![1] bcast_S32_S1x32_1 (Host.powf (broadcastInDim S32 ![] bcast_S_S32 (constant (F := Ideal) S_ .f32 0x461C4000#32)) (Host.divf (Host.negf (sitofp (F := Ideal) .f32 (iotaInDim S32 32 0))) (broadcastInDim S32 ![] bcast_S_S32 (constant (F := Ideal) S_ .f32 0x42000000#32)))))))

/-- The cosines, once per head's half. -/
def KCOS : FVec Ideal S8448x256 .f32 :=
  (shapeCast _ (broadcastInDim S1x8448x4x64 ![0, 1, 2, 3] bcast_S1x8448x1x64_S1x8448x4x64_0_1_2_3 (shapeCast _ ((fun a b => concatenate S8448x64 1 [⟨S8448x32, a⟩, ⟨S8448x32, b⟩] concatenates_S8448x32_S8448x32_S8448x64_d1) (Host.cos KANG) (Host.cos KANG)) shapeCasts_S8448x64_S1x8448x1x64)) shapeCasts_S1x8448x4x64_S8448x256)

/-- The sines, the first half of each head negated. -/
def KSIN : FVec Ideal S8448x256 .f32 :=
  (shapeCast _ (broadcastInDim S1x8448x4x64 ![0, 1, 2, 3] bcast_S1x8448x1x64_S1x8448x4x64_0_1_2_3 (shapeCast _ ((fun a b => concatenate S8448x64 1 [⟨S8448x32, a⟩, ⟨S8448x32, b⟩] concatenates_S8448x32_S8448x32_S8448x64_d1) (Host.negf (Host.sin KANG)) (Host.sin KANG)) shapeCasts_S8448x64_S1x8448x1x64)) shapeCasts_S1x8448x4x64_S8448x256)

/-- The logarithms of the heads' decays. -/
def KLG : FVec Ideal S4 .f32 :=
  (Host.log1p (Host.negf (Host.exp (mulf (broadcastInDim S4 ![] bcast_S_S4 (constant (F := Ideal) S_ .f32 0x3F317218#32)) (subf (broadcastInDim S4 ![] bcast_S_S4 (constant (F := Ideal) S_ .f32 0xC0A00000#32)) (sitofp (F := Ideal) .f32 (iotaInDim S4 32 0)))))))

/-- A row's place in its chunk, as a word. -/
def KMOD : IVec S128 32 :=
  (select (andi (cmpi .ne (cmpi .slt (Host.remsi (iotaInDim S128 32 0) (broadcastInDim S128 ![] bcast_S_S128 (select (cmpi .eq (constantI S_ 32 64#32) (constantI S_ 32 0#32)) (constantI S_ 32 1#32) (constantI S_ 32 64#32)))) (broadcastInDim S128 ![] bcast_S_S128 (constantI S_ 32 0#32))) (broadcastInDim S128 ![] bcast_S_S128 (cmpi .slt (select (cmpi .eq (constantI S_ 32 64#32) (constantI S_ 32 0#32)) (constantI S_ 32 1#32) (constantI S_ 32 64#32)) (constantI S_ 32 0#32)))) (cmpi .ne (Host.remsi (iotaInDim S128 32 0) (broadcastInDim S128 ![] bcast_S_S128 (select (cmpi .eq (constantI S_ 32 64#32) (constantI S_ 32 0#32)) (constantI S_ 32 1#32) (constantI S_ 32 64#32)))) (broadcastInDim S128 ![] bcast_S_S128 (constantI S_ 32 0#32)))) (addi (Host.remsi (iotaInDim S128 32 0) (broadcastInDim S128 ![] bcast_S_S128 (select (cmpi .eq (constantI S_ 32 64#32) (constantI S_ 32 0#32)) (constantI S_ 32 1#32) (constantI S_ 32 64#32)))) (broadcastInDim S128 ![] bcast_S_S128 (select (cmpi .eq (constantI S_ 32 64#32) (constantI S_ 32 0#32)) (constantI S_ 32 1#32) (constantI S_ 32 64#32)))) (Host.remsi (iotaInDim S128 32 0) (broadcastInDim S128 ![] bcast_S_S128 (select (cmpi .eq (constantI S_ 32 64#32) (constantI S_ 32 0#32)) (constantI S_ 32 1#32) (constantI S_ 32 64#32)))))

/-- A row's place in its chunk. -/
def KLOC : FVec Ideal S128 .f32 :=
  (sitofp (F := Ideal) .f32 KMOD)

/-- Two rows' distance. -/
def KDIF : FVec Ideal S128x128 .f32 :=
  (sitofp (F := Ideal) .f32 (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))))

/-- A row's chunk. -/
def KFA : IVec S128x1 32 :=
  (select (andi (cmpi .ne (signi (broadcastInDim S128x1 ![0] bcast_S128_S128x1_0 (iotaInDim S128 32 0))) (broadcastInDim S128x1 ![] bcast_S_S128x1 (signi (constantI S_ 32 64#32)))) (cmpi .ne (Host.remsi (broadcastInDim S128x1 ![0] bcast_S128_S128x1_0 (iotaInDim S128 32 0)) (broadcastInDim S128x1 ![] bcast_S_S128x1 (constantI S_ 32 64#32))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (constantI S_ 32 64#32))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (constantI S_ 32 64#32))))

/-- A column's chunk. -/
def KFB : IVec S1x128 32 :=
  (select (andi (cmpi .ne (signi (broadcastInDim S1x128 ![1] bcast_S128_S1x128_1 (iotaInDim S128 32 0))) (broadcastInDim S1x128 ![] bcast_S_S1x128 (signi (constantI S_ 32 64#32)))) (cmpi .ne (Host.remsi (broadcastInDim S1x128 ![1] bcast_S128_S1x128_1 (iotaInDim S128 32 0)) (broadcastInDim S1x128 ![] bcast_S_S1x128 (constantI S_ 32 64#32))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (constantI S_ 32 64#32))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (constantI S_ 32 64#32))))

/-- Which pairs of rows lie in one chunk in causal order. -/
def KOK : IVec S1x128x128 1 :=
  (broadcastInDim S1x128x128 ![1, 2] bcast_S128x128_S1x128x128_1_2 (andi (cmpi .eq (broadcastInDim S128x128 ![0, 1] bcast_S128x1_S128x128_0_1 KFA) (broadcastInDim S128x128 ![0, 1] bcast_S1x128_S128x128_0_1 KFB)) (cmpf .oge KDIF (broadcastInDim S128x128 ![] bcast_S_S128x128 (constant (F := Ideal) S_ .f32 0x00000000#32)))))

/-- The decay between two rows, before its mask. -/
def KDEX : FVec Ideal S4x128x128 .f32 :=
  (Host.exp (mulf (broadcastInDim S4x128x128 ![0, 1, 2] bcast_S4x1x1_S4x128x128_0_1_2 (broadcastInDim S4x1x1 ![0] bcast_S4_S4x1x1_0 KLG)) (broadcastInDim S4x128x128 ![0, 1, 2] bcast_S1x128x128_S4x128x128_0_1_2 (broadcastInDim S1x128x128 ![1, 2] bcast_S128x128_S1x128x128_1_2 (maximumf KDIF (broadcastInDim S128x128 ![] bcast_S_S128x128 (constant (F := Ideal) S_ .f32 0x00000000#32)))))))

/-- The decay between two rows. -/
def KDEC : FVec Ideal S4x128x128 .f32 :=
  (select (broadcastInDim S4x128x128 ![0, 1, 2] bcast_S1x128x128_S4x128x128_0_1_2 KOK) KDEX (broadcastInDim S4x128x128 ![] bcast_S_S4x128x128 (constant (F := Ideal) S_ .f32 0x00000000#32)))

/-- The decay from a chunk's start. -/
def KXI : FVec Ideal S128x256 .f32 :=
  (shapeCast _ (broadcastInDim S128x4x64 ![0, 1] bcast_S128x4_S128x4x64_0_1 (Host.exp (mulf (broadcastInDim S128x4 ![0, 1] bcast_S1x4_S128x4_0_1 (broadcastInDim S1x4 ![1] bcast_S4_S1x4_1 KLG)) (broadcastInDim S128x4 ![0, 1] bcast_S128x1_S128x4_0_1 (addf (broadcastInDim S128x1 ![0] bcast_S128_S128x1_0 KLOC) (broadcastInDim S128x1 ![] bcast_S_S128x1 (constant (F := Ideal) S_ .f32 0x3F800000#32))))))) shapeCasts_S128x4x64_S128x256)

/-- The decay to a chunk's end. -/
def KZE : FVec Ideal S128x256 .f32 :=
  (shapeCast _ (broadcastInDim S128x4x64 ![0, 1] bcast_S128x4_S128x4x64_0_1 (Host.exp (mulf (broadcastInDim S128x4 ![0, 1] bcast_S1x4_S128x4_0_1 (broadcastInDim S1x4 ![1] bcast_S4_S1x4_1 KLG)) (broadcastInDim S128x4 ![0, 1] bcast_S128x1_S128x4_0_1 (subf (broadcastInDim S128x1 ![] bcast_S_S128x1 (constant (F := Ideal) S_ .f32 0x427C0000#32)) (broadcastInDim S128x1 ![0] bcast_S128_S128x1_0 KLOC)))))) shapeCasts_S128x4x64_S128x256)

/-- The decay over a chunk. -/
def KGC : FVec Ideal S1x256 .f32 :=
  (broadcastInDim S1x256 ![1] bcast_S256_S1x256_1 (shapeCast _ (broadcastInDim S4x64 ![0] bcast_S4_S4x64_0 (Host.exp (mulf KLG (broadcastInDim S4 ![] bcast_S_S4 (constant (F := Ideal) S_ .f32 0x42800000#32))))) shapeCasts_S4x64_S256))

variable (m : (ℓ : Loc nD τ sig) → Buf (Elt Ideal) ℓ)

/-- The buffers after each stretch of the host's operations. -/
def T1 (c : Dev nD) : Valuation τ sig (Elt Ideal) := after hostOps0 (fun b => m (c, b))
def T2 (c : Dev nD) : Valuation τ sig (Elt Ideal) := after hostOps0_1 (T1 m c)
def T3 (c : Dev nD) : Valuation τ sig (Elt Ideal) := after hostOps0_2 (T2 m c)
def T4 (c : Dev nD) : Valuation τ sig (Elt Ideal) := after hostOps0_3 (T3 m c)
def T5 (c : Dev nD) : Valuation τ sig (Elt Ideal) := after hostOps0_4 (T4 m c)
def T6 (c : Dev nD) : Valuation τ sig (Elt Ideal) := after hostOps0_5 (T5 m c)
def T7 (c : Dev nD) : Valuation τ sig (Elt Ideal) := after hostOps0_6 (T6 m c)
def T8 (c : Dev nD) : Valuation τ sig (Elt Ideal) := after hostOps0_7 (T7 m c)
def T9 (c : Dev nD) : Valuation τ sig (Elt Ideal) := after hostOps0_8 (T8 m c)

theorem V_eq (c : Dev nD) (b : Ref sig .tc) : V m c b = T9 m c (Proc.devRef .tc b) := by
  show after (List.flatten [hostOps0, hostOps0_1, hostOps0_2, hostOps0_3, hostOps0_4, hostOps0_5, hostOps0_6, hostOps0_7, hostOps0_8]) (fun b => m (c, b)) (Proc.devRef .tc b) = _
  simp only [List.flatten_cons, List.flatten_nil, List.append_nil, after_append]
  rfl

theorem T1_v15 (c : Dev nD) : T1 m c (Proc.devRef .tc main_v15) = KANG := by
  unfold T1
  after_reads_simp
  rfl

theorem T1_v21 (c : Dev nD) : T1 m c (Proc.devRef .tc main_v21) = KCOS := by
  unfold T1
  after_reads_simp
  rw [show upto hostOps0 (fun b => m (c, b)) 21 (Proc.devRef .tc main_v16) = Host.cos KANG from by
      after_reads_simp; rfl]
  rfl

theorem T1_v26 (c : Dev nD) : T1 m c (Proc.devRef .tc main_v26) = KSIN := by
  unfold T1
  after_reads_simp
  rw [show upto hostOps0 (fun b => m (c, b)) 26 (Proc.devRef .tc main_v22) = Host.negf (Host.sin KANG) from by
      after_reads_simp; rfl,
    show upto hostOps0 (fun b => m (c, b)) 26 (Proc.devRef .tc main_v17) = Host.sin KANG from by
      after_reads_simp; rfl]
  rfl

theorem T1_v34 (c : Dev nD) : T1 m c (Proc.devRef .tc main_v34) = KLG := by
  unfold T1
  after_reads_simp
  rfl

theorem T1_v0 (c : Dev nD) : T1 m c (Proc.devRef .tc main_v0) = truncf (F := Ideal) .bf16 (m ((c.tc : Thread nD τ).loc main_arg2)) bitsLt_bf16_f32 := by
  unfold T1
  after_reads_simp
  try rfl

theorem T1_v35 (c : Dev nD) : T1 m c (Proc.devRef .tc main_v35) = iotaInDim S128 32 0 := by
  unfold T1
  after_reads_simp
  try rfl

theorem T1_c3 (c : Dev nD) : T1 m c (Proc.devRef .tc main_c_3) = constantI S_ 32 64#32 := by
  unfold T1
  after_reads_simp
  try rfl

theorem T2_v36 (c : Dev nD) : T2 m c (Proc.devRef .tc main_v36) = KMOD := by
  unfold T2
  after_reads_simp
  simp only [TRef.ofBuf, TRef.toBuf, cast_eq]
  rw [T1_v35, T1_c3]
  rfl

theorem T2_v35 (c : Dev nD) : T2 m c (Proc.devRef .tc main_v35) = iotaInDim S128 32 0 := by
  unfold T2
  after_reads_simp
  exact T1_v35 m c

theorem T3_v37 (c : Dev nD) : T3 m c (Proc.devRef .tc main_v37) = KLOC := by
  unfold T3
  after_reads_simp
  rw [T2_v36]
  rfl

theorem T3_v43 (c : Dev nD) : T3 m c (Proc.devRef .tc main_v43) = KDIF := by
  unfold T3
  after_reads_simp
  rw [T2_v35]
  rfl

theorem T3_v44 (c : Dev nD) : T3 m c (Proc.devRef .tc main_v44) = broadcastInDim S128x1 ![0] bcast_S128_S128x1_0 (iotaInDim S128 32 0) := by
  unfold T3
  after_reads_simp
  rw [T2_v35]

theorem T3_v35 (c : Dev nD) : T3 m c (Proc.devRef .tc main_v35) = iotaInDim S128 32 0 := by
  unfold T3
  after_reads_simp
  exact T2_v35 m c

theorem T3_c4 (c : Dev nD) : T3 m c (Proc.devRef .tc main_c_4) = constantI S_ 32 64#32 := by
  unfold T3
  after_reads_simp
  try rfl

theorem T4_v45 (c : Dev nD) : T4 m c (Proc.devRef .tc main_v45) = KFA := by
  unfold T4
  after_reads_simp
  simp only [TRef.ofBuf, TRef.toBuf, cast_eq]
  rw [T3_v44, T3_c4]
  rfl

theorem T4_v35 (c : Dev nD) : T4 m c (Proc.devRef .tc main_v35) = iotaInDim S128 32 0 := by
  unfold T4
  after_reads_simp
  exact T3_v35 m c

theorem T5_v46 (c : Dev nD) : T5 m c (Proc.devRef .tc main_v46) = broadcastInDim S1x128 ![1] bcast_S128_S1x128_1 (iotaInDim S128 32 0) := by
  unfold T5
  after_reads_simp
  rw [T4_v35]

theorem T5_c5 (c : Dev nD) : T5 m c (Proc.devRef .tc main_c_5) = constantI S_ 32 64#32 := by
  unfold T5
  after_reads_simp
  try rfl

theorem T6_v47 (c : Dev nD) : T6 m c (Proc.devRef .tc main_v47) = KFB := by
  unfold T6
  after_reads_simp
  simp only [TRef.ofBuf, TRef.toBuf, cast_eq]
  rw [T5_v46, T5_c5]
  rfl

theorem T5_v45 (c : Dev nD) : T5 m c (Proc.devRef .tc main_v45) = KFA := by
  unfold T5
  after_reads_simp
  exact T4_v45 m c

theorem T6_v45 (c : Dev nD) : T6 m c (Proc.devRef .tc main_v45) = KFA := by
  unfold T6
  after_reads_simp
  exact T5_v45 m c

theorem T4_v43 (c : Dev nD) : T4 m c (Proc.devRef .tc main_v43) = KDIF := by
  unfold T4
  after_reads_simp
  exact T3_v43 m c

theorem T5_v43 (c : Dev nD) : T5 m c (Proc.devRef .tc main_v43) = KDIF := by
  unfold T5
  after_reads_simp
  exact T4_v43 m c

theorem T6_v43 (c : Dev nD) : T6 m c (Proc.devRef .tc main_v43) = KDIF := by
  unfold T6
  after_reads_simp
  exact T5_v43 m c

theorem T2_v34 (c : Dev nD) : T2 m c (Proc.devRef .tc main_v34) = KLG := by
  unfold T2
  after_reads_simp
  exact T1_v34 m c

theorem T3_v34 (c : Dev nD) : T3 m c (Proc.devRef .tc main_v34) = KLG := by
  unfold T3
  after_reads_simp
  exact T2_v34 m c

theorem T4_v34 (c : Dev nD) : T4 m c (Proc.devRef .tc main_v34) = KLG := by
  unfold T4
  after_reads_simp
  exact T3_v34 m c

theorem T5_v34 (c : Dev nD) : T5 m c (Proc.devRef .tc main_v34) = KLG := by
  unfold T5
  after_reads_simp
  exact T4_v34 m c

theorem T6_v34 (c : Dev nD) : T6 m c (Proc.devRef .tc main_v34) = KLG := by
  unfold T6
  after_reads_simp
  exact T5_v34 m c

theorem T7_v34 (c : Dev nD) : T7 m c (Proc.devRef .tc main_v34) = KLG := by
  unfold T7
  after_reads_simp
  exact T6_v34 m c

theorem T8_v34 (c : Dev nD) : T8 m c (Proc.devRef .tc main_v34) = KLG := by
  unfold T8
  after_reads_simp
  exact T7_v34 m c

theorem T4_v37 (c : Dev nD) : T4 m c (Proc.devRef .tc main_v37) = KLOC := by
  unfold T4
  after_reads_simp
  exact T3_v37 m c

theorem T5_v37 (c : Dev nD) : T5 m c (Proc.devRef .tc main_v37) = KLOC := by
  unfold T5
  after_reads_simp
  exact T4_v37 m c

theorem T6_v37 (c : Dev nD) : T6 m c (Proc.devRef .tc main_v37) = KLOC := by
  unfold T6
  after_reads_simp
  exact T5_v37 m c

theorem T7_v37 (c : Dev nD) : T7 m c (Proc.devRef .tc main_v37) = KLOC := by
  unfold T7
  after_reads_simp
  exact T6_v37 m c

theorem T8_v37 (c : Dev nD) : T8 m c (Proc.devRef .tc main_v37) = KLOC := by
  unfold T8
  after_reads_simp
  exact T7_v37 m c

theorem T7_v54 (c : Dev nD) : T7 m c (Proc.devRef .tc main_v54) = KOK := by
  unfold T7
  after_reads_simp
  rw [T6_v45, T6_v47, T6_v43]
  rfl

theorem T7_v62 (c : Dev nD) : T7 m c (Proc.devRef .tc main_v62) = KDEX := by
  unfold T7
  after_reads_simp
  rw [T6_v34, T6_v43]
  rfl

theorem T7_cst8 (c : Dev nD) : T7 m c (Proc.devRef .tc main_cst_8) = constant (F := Ideal) S_ .f32 0x00000000#32 := by
  unfold T7
  after_reads_simp
  try rfl

theorem T8_v63 (c : Dev nD) : T8 m c (Proc.devRef .tc main_v63) = KDEC := by
  unfold T8
  after_reads_simp
  simp only [TRef.ofBuf, TRef.toBuf, cast_eq]
  rw [T7_v54, T7_v62, T7_cst8]
  rfl

theorem T2_v21 (c : Dev nD) : T2 m c (Proc.devRef .tc main_v21) = KCOS := by
  unfold T2
  after_reads_simp
  exact T1_v21 m c

theorem T3_v21 (c : Dev nD) : T3 m c (Proc.devRef .tc main_v21) = KCOS := by
  unfold T3
  after_reads_simp
  exact T2_v21 m c

theorem T4_v21 (c : Dev nD) : T4 m c (Proc.devRef .tc main_v21) = KCOS := by
  unfold T4
  after_reads_simp
  exact T3_v21 m c

theorem T5_v21 (c : Dev nD) : T5 m c (Proc.devRef .tc main_v21) = KCOS := by
  unfold T5
  after_reads_simp
  exact T4_v21 m c

theorem T6_v21 (c : Dev nD) : T6 m c (Proc.devRef .tc main_v21) = KCOS := by
  unfold T6
  after_reads_simp
  exact T5_v21 m c

theorem T7_v21 (c : Dev nD) : T7 m c (Proc.devRef .tc main_v21) = KCOS := by
  unfold T7
  after_reads_simp
  exact T6_v21 m c

theorem T8_v21 (c : Dev nD) : T8 m c (Proc.devRef .tc main_v21) = KCOS := by
  unfold T8
  after_reads_simp
  exact T7_v21 m c

theorem T2_v26 (c : Dev nD) : T2 m c (Proc.devRef .tc main_v26) = KSIN := by
  unfold T2
  after_reads_simp
  exact T1_v26 m c

theorem T3_v26 (c : Dev nD) : T3 m c (Proc.devRef .tc main_v26) = KSIN := by
  unfold T3
  after_reads_simp
  exact T2_v26 m c

theorem T4_v26 (c : Dev nD) : T4 m c (Proc.devRef .tc main_v26) = KSIN := by
  unfold T4
  after_reads_simp
  exact T3_v26 m c

theorem T5_v26 (c : Dev nD) : T5 m c (Proc.devRef .tc main_v26) = KSIN := by
  unfold T5
  after_reads_simp
  exact T4_v26 m c

theorem T6_v26 (c : Dev nD) : T6 m c (Proc.devRef .tc main_v26) = KSIN := by
  unfold T6
  after_reads_simp
  exact T5_v26 m c

theorem T7_v26 (c : Dev nD) : T7 m c (Proc.devRef .tc main_v26) = KSIN := by
  unfold T7
  after_reads_simp
  exact T6_v26 m c

theorem T8_v26 (c : Dev nD) : T8 m c (Proc.devRef .tc main_v26) = KSIN := by
  unfold T8
  after_reads_simp
  exact T7_v26 m c

theorem T2_v0 (c : Dev nD) : T2 m c (Proc.devRef .tc main_v0) = truncf (F := Ideal) .bf16 (m ((c.tc : Thread nD τ).loc main_arg2)) bitsLt_bf16_f32 := by
  unfold T2
  after_reads_simp
  exact T1_v0 m c

theorem T3_v0 (c : Dev nD) : T3 m c (Proc.devRef .tc main_v0) = truncf (F := Ideal) .bf16 (m ((c.tc : Thread nD τ).loc main_arg2)) bitsLt_bf16_f32 := by
  unfold T3
  after_reads_simp
  exact T2_v0 m c

theorem T4_v0 (c : Dev nD) : T4 m c (Proc.devRef .tc main_v0) = truncf (F := Ideal) .bf16 (m ((c.tc : Thread nD τ).loc main_arg2)) bitsLt_bf16_f32 := by
  unfold T4
  after_reads_simp
  exact T3_v0 m c

theorem T5_v0 (c : Dev nD) : T5 m c (Proc.devRef .tc main_v0) = truncf (F := Ideal) .bf16 (m ((c.tc : Thread nD τ).loc main_arg2)) bitsLt_bf16_f32 := by
  unfold T5
  after_reads_simp
  exact T4_v0 m c

theorem T6_v0 (c : Dev nD) : T6 m c (Proc.devRef .tc main_v0) = truncf (F := Ideal) .bf16 (m ((c.tc : Thread nD τ).loc main_arg2)) bitsLt_bf16_f32 := by
  unfold T6
  after_reads_simp
  exact T5_v0 m c

theorem T7_v0 (c : Dev nD) : T7 m c (Proc.devRef .tc main_v0) = truncf (F := Ideal) .bf16 (m ((c.tc : Thread nD τ).loc main_arg2)) bitsLt_bf16_f32 := by
  unfold T7
  after_reads_simp
  exact T6_v0 m c

theorem T8_v0 (c : Dev nD) : T8 m c (Proc.devRef .tc main_v0) = truncf (F := Ideal) .bf16 (m ((c.tc : Thread nD τ).loc main_arg2)) bitsLt_bf16_f32 := by
  unfold T8
  after_reads_simp
  exact T7_v0 m c

theorem T1_arg0 (c : Dev nD) : T1 m c (Proc.devRef .tc main_arg0) = m ((c.tc : Thread nD τ).loc main_arg0) := by
  unfold T1
  after_reads_simp
  try rfl

theorem T2_arg0 (c : Dev nD) : T2 m c (Proc.devRef .tc main_arg0) = m ((c.tc : Thread nD τ).loc main_arg0) := by
  unfold T2
  after_reads_simp
  exact T1_arg0 m c

theorem T3_arg0 (c : Dev nD) : T3 m c (Proc.devRef .tc main_arg0) = m ((c.tc : Thread nD τ).loc main_arg0) := by
  unfold T3
  after_reads_simp
  exact T2_arg0 m c

theorem T4_arg0 (c : Dev nD) : T4 m c (Proc.devRef .tc main_arg0) = m ((c.tc : Thread nD τ).loc main_arg0) := by
  unfold T4
  after_reads_simp
  exact T3_arg0 m c

theorem T5_arg0 (c : Dev nD) : T5 m c (Proc.devRef .tc main_arg0) = m ((c.tc : Thread nD τ).loc main_arg0) := by
  unfold T5
  after_reads_simp
  exact T4_arg0 m c

theorem T6_arg0 (c : Dev nD) : T6 m c (Proc.devRef .tc main_arg0) = m ((c.tc : Thread nD τ).loc main_arg0) := by
  unfold T6
  after_reads_simp
  exact T5_arg0 m c

theorem T7_arg0 (c : Dev nD) : T7 m c (Proc.devRef .tc main_arg0) = m ((c.tc : Thread nD τ).loc main_arg0) := by
  unfold T7
  after_reads_simp
  exact T6_arg0 m c

theorem T8_arg0 (c : Dev nD) : T8 m c (Proc.devRef .tc main_arg0) = m ((c.tc : Thread nD τ).loc main_arg0) := by
  unfold T8
  after_reads_simp
  exact T7_arg0 m c

theorem T1_arg1 (c : Dev nD) : T1 m c (Proc.devRef .tc main_arg1) = m ((c.tc : Thread nD τ).loc main_arg1) := by
  unfold T1
  after_reads_simp
  try rfl

theorem T2_arg1 (c : Dev nD) : T2 m c (Proc.devRef .tc main_arg1) = m ((c.tc : Thread nD τ).loc main_arg1) := by
  unfold T2
  after_reads_simp
  exact T1_arg1 m c

theorem T3_arg1 (c : Dev nD) : T3 m c (Proc.devRef .tc main_arg1) = m ((c.tc : Thread nD τ).loc main_arg1) := by
  unfold T3
  after_reads_simp
  exact T2_arg1 m c

theorem T4_arg1 (c : Dev nD) : T4 m c (Proc.devRef .tc main_arg1) = m ((c.tc : Thread nD τ).loc main_arg1) := by
  unfold T4
  after_reads_simp
  exact T3_arg1 m c

theorem T5_arg1 (c : Dev nD) : T5 m c (Proc.devRef .tc main_arg1) = m ((c.tc : Thread nD τ).loc main_arg1) := by
  unfold T5
  after_reads_simp
  exact T4_arg1 m c

theorem T6_arg1 (c : Dev nD) : T6 m c (Proc.devRef .tc main_arg1) = m ((c.tc : Thread nD τ).loc main_arg1) := by
  unfold T6
  after_reads_simp
  exact T5_arg1 m c

theorem T7_arg1 (c : Dev nD) : T7 m c (Proc.devRef .tc main_arg1) = m ((c.tc : Thread nD τ).loc main_arg1) := by
  unfold T7
  after_reads_simp
  exact T6_arg1 m c

theorem T8_arg1 (c : Dev nD) : T8 m c (Proc.devRef .tc main_arg1) = m ((c.tc : Thread nD τ).loc main_arg1) := by
  unfold T8
  after_reads_simp
  exact T7_arg1 m c

theorem T1_arg3 (c : Dev nD) : T1 m c (Proc.devRef .tc main_arg3) = m ((c.tc : Thread nD τ).loc main_arg3) := by
  unfold T1
  after_reads_simp
  try rfl

theorem T2_arg3 (c : Dev nD) : T2 m c (Proc.devRef .tc main_arg3) = m ((c.tc : Thread nD τ).loc main_arg3) := by
  unfold T2
  after_reads_simp
  exact T1_arg3 m c

theorem T3_arg3 (c : Dev nD) : T3 m c (Proc.devRef .tc main_arg3) = m ((c.tc : Thread nD τ).loc main_arg3) := by
  unfold T3
  after_reads_simp
  exact T2_arg3 m c

theorem T4_arg3 (c : Dev nD) : T4 m c (Proc.devRef .tc main_arg3) = m ((c.tc : Thread nD τ).loc main_arg3) := by
  unfold T4
  after_reads_simp
  exact T3_arg3 m c

theorem T5_arg3 (c : Dev nD) : T5 m c (Proc.devRef .tc main_arg3) = m ((c.tc : Thread nD τ).loc main_arg3) := by
  unfold T5
  after_reads_simp
  exact T4_arg3 m c

theorem T6_arg3 (c : Dev nD) : T6 m c (Proc.devRef .tc main_arg3) = m ((c.tc : Thread nD τ).loc main_arg3) := by
  unfold T6
  after_reads_simp
  exact T5_arg3 m c

theorem T7_arg3 (c : Dev nD) : T7 m c (Proc.devRef .tc main_arg3) = m ((c.tc : Thread nD τ).loc main_arg3) := by
  unfold T7
  after_reads_simp
  exact T6_arg3 m c

theorem T8_arg3 (c : Dev nD) : T8 m c (Proc.devRef .tc main_arg3) = m ((c.tc : Thread nD τ).loc main_arg3) := by
  unfold T8
  after_reads_simp
  exact T7_arg3 m c

theorem V_x (c : Dev nD) : V m c main_arg0 = m ((c.tc : Thread nD τ).loc main_arg0) := by
  rw [V_eq]
  unfold T9
  after_reads_simp
  exact T8_arg0 m c

theorem V_g (c : Dev nD) : V m c main_v90 = shapeCast S4x1x1024 (m ((c.tc : Thread nD τ).loc main_arg1) : FVec Ideal S4x1024 .f32) shapeCasts_S4x1024_S4x1x1024 := by
  rw [V_eq]
  unfold T9
  after_reads_simp
  rw [T8_arg1]
  try rfl

theorem V_w (c : Dev nD) : V m c main_v0 = truncf (F := Ideal) .bf16 (m ((c.tc : Thread nD τ).loc main_arg2)) bitsLt_bf16_f32 := by
  rw [V_eq]
  unfold T9
  after_reads_simp
  exact T8_v0 m c

theorem V_c (c : Dev nD) : V m c main_v21 = KCOS := by
  rw [V_eq]
  unfold T9
  after_reads_simp
  exact T8_v21 m c

theorem V_s (c : Dev nD) : V m c main_v26 = KSIN := by
  rw [V_eq]
  unfold T9
  after_reads_simp
  exact T8_v26 m c

theorem V_d (c : Dev nD) : V m c main_v63 = KDEC := by
  rw [V_eq]
  unfold T9
  after_reads_simp
  exact T8_v63 m c

theorem V_xi (c : Dev nD) : V m c main_v73 = KXI := by
  rw [V_eq]
  unfold T9
  after_reads_simp
  rw [T8_v34, T8_v37]
  rfl

theorem V_ze (c : Dev nD) : V m c main_v83 = KZE := by
  rw [V_eq]
  unfold T9
  after_reads_simp
  rw [T8_v34, T8_v37]
  rfl

theorem V_gc (c : Dev nD) : V m c main_v89 = KGC := by
  rw [V_eq]
  unfold T9
  after_reads_simp
  rw [T8_v34]
  rfl

theorem V_ng (c : Dev nD) : V m c main_v91 = shapeCast S4x1x512 (m ((c.tc : Thread nD τ).loc main_arg3) : FVec Ideal S4x512 .f32) shapeCasts_S4x512_S4x1x512 := by
  rw [V_eq]
  unfold T9
  after_reads_simp
  rw [T8_arg3]
  try rfl

end Cert.Ret

end
-- ==== Proof.RetRef.lean ====
/- The retention mixer's reference: its result as one term of its arguments, and what its scan leaves after each chunk. -/
module

public import proofs.«01_k».proof.Defs
public import proofs.«01_k».proof.Proof.Gen.ReferenceIdeal.Run
public import Idealize.ShloMosaic.Lib.StableHlo.RunRead
public import Idealize.ShloMosaic.Lib.DynamicIndex
public import Idealize.ShloMosaic.Lib.Pipeline.ValueKit
public import Idealize.ShloMosaic.Lib.Pointwise
public import Idealize.ShloMosaic.Lib.Claim
public import Idealize.ShloMosaic.Lib.WordCmp

@[expose] public section

set_option maxRecDepth 16384

noncomputable section

namespace Cert.RetRef

open Cert.ReferenceIdeal Cert.ReferenceIdeal.Gen Cert.ReferenceIdeal.Value Idealize.ShloMosaic Idealize.ShloMosaic.TcCoe Idealize.ShloMosaic.StableHlo

/-- The reference's normed and masked rows. -/
def HN (X : FVec Ideal S2x8448x1024 .f32) (g : FVec Ideal S4x1024 .f32) : FVec Ideal S2x8448x1024 .f32 :=
  (mulf (mulf (mulf X (broadcastInDim S2x8448x1024 ![0, 1, 2] bcast_S2x8448x1_S2x8448x1024_0_1_2 (Host.rsqrt (addf (Host.divf (broadcastInDim S2x8448x1 ![0, 1] bcast_S2x8448_S2x8448x1_0_1 (Host.reduceAdd (mulf X X) (constant (F := Ideal) S_ .f32 0x00000000#32) reducesTo_S2x8448x1024_S2x8448_d2 h_S_)) (broadcastInDim S2x8448x1 ![] bcast_S_S2x8448x1 (constant (F := Ideal) S_ .f32 0x44800000#32))) (broadcastInDim S2x8448x1 ![] bcast_S_S2x8448x1 (constant (F := Ideal) S_ .f32 0x358637BD#32)))))) (broadcastInDim S2x8448x1024 ![0, 1, 2] bcast_S1x1x1024_S2x8448x1024_0_1_2 (broadcastInDim S1x1x1024 ![2] bcast_S1024_S1x1x1024_2 (shapeCast _ (extractStridedSlice S1x1024 ![1, 0] g slices_S4x1024_S1x1024_1_0) shapeCasts_S1x1024_S1024)))) (broadcastInDim S2x8448x1024 ![0, 1, 2] bcast_S1x8448x1_S2x8448x1024_0_1_2 (broadcastInDim S1x8448x1 ![1, 2] bcast_S8448x1_S1x8448x1_1_2 (broadcastInDim S8448x1 ![0] bcast_S8448_S8448x1_0 (uitofp .f32 (cmpi .sge (iotaInDim S8448 32 0) (broadcastInDim S8448 ![] bcast_S_S8448 (constantI S_ 32 240#32))))))))

/-- The reference's whole input projection. -/
def Z (X : FVec Ideal S2x8448x1024 .f32) (g : FVec Ideal S4x1024 .f32) (W : FVec Ideal S4x1024x9736 .f32) : FVec Ideal S2x8448x9736 .f32 :=
  (Host.dotGeneral dot_S2x8448x1024_S1024x9736_S2x8448x9736_2_0_01_1_n_n none (HN X g) (shapeCast _ (extractStridedSlice S1x1024x9736 ![1, 0, 0] W slices_S4x1024x9736_S1x1024x9736_1_0_0) shapeCasts_S1x1024x9736_S1024x9736))

/-- The rows' positions. -/
def POS  : FVec Ideal S8448 .f32 :=
  (sitofp (F := Ideal) .f32 (subi (iotaInDim S8448 32 0) (broadcastInDim S8448 ![] bcast_S_S8448 (constantI S_ 32 240#32))))

/-- The angles of the rotary embedding. -/
def ANG  : FVec Ideal S8448x32 .f32 :=
  (mulf (broadcastInDim S8448x32 ![0, 1] bcast_S8448x1_S8448x32_0_1 (broadcastInDim S8448x1 ![0] bcast_S8448_S8448x1_0 POS)) (broadcastInDim S8448x32 ![0, 1] bcast_S1x32_S8448x32_0_1 (broadcastInDim S1x32 ![1] bcast_S32_S1x32_1 (Host.powf (broadcastInDim S32 ![] bcast_S_S32 (constant (F := Ideal) S_ .f32 0x461C4000#32)) (Host.divf (Host.negf (sitofp (F := Ideal) .f32 (iotaInDim S32 32 0))) (broadcastInDim S32 ![] bcast_S_S32 (constant (F := Ideal) S_ .f32 0x42000000#32)))))))

/-- The first half of each head under the rotary embedding. -/
def ROTA (x : FVec Ideal S2x8448x4x64 .f32) : FVec Ideal S2x8448x4x32 .f32 :=
  (subf (mulf (extractStridedSlice S2x8448x4x32 ![0, 0, 0, 0] x slices_S2x8448x4x64_S2x8448x4x32_0_0_0_0) (broadcastInDim S2x8448x4x32 ![0, 1, 2, 3] bcast_S1x8448x1x32_S2x8448x4x32_0_1_2_3 (broadcastInDim S1x8448x1x32 ![1, 2, 3] bcast_S8448x1x32_S1x8448x1x32_1_2_3 (broadcastInDim S8448x1x32 ![0, 2] bcast_S8448x32_S8448x1x32_0_2 (Host.cos ANG))))) (mulf (extractStridedSlice S2x8448x4x32 ![0, 0, 0, 32] x slices_S2x8448x4x64_S2x8448x4x32_0_0_0_32) (broadcastInDim S2x8448x4x32 ![0, 1, 2, 3] bcast_S1x8448x1x32_S2x8448x4x32_0_1_2_3 (broadcastInDim S1x8448x1x32 ![1, 2, 3] bcast_S8448x1x32_S1x8448x1x32_1_2_3 (broadcastInDim S8448x1x32 ![0, 2] bcast_S8448x32_S8448x1x32_0_2 (Host.sin ANG))))))

/-- The second half of each head under the rotary embedding. -/
def ROTB (x : FVec Ideal S2x8448x4x64 .f32) : FVec Ideal S2x8448x4x32 .f32 :=
  (addf (mulf (extractStridedSlice S2x8448x4x32 ![0, 0, 0, 0] x slices_S2x8448x4x64_S2x8448x4x32_0_0_0_0) (broadcastInDim S2x8448x4x32 ![0, 1, 2, 3] bcast_S1x8448x1x32_S2x8448x4x32_0_1_2_3 (broadcastInDim S1x8448x1x32 ![1, 2, 3] bcast_S8448x1x32_S1x8448x1x32_1_2_3 (broadcastInDim S8448x1x32 ![0, 2] bcast_S8448x32_S8448x1x32_0_2 (Host.sin ANG))))) (mulf (extractStridedSlice S2x8448x4x32 ![0, 0, 0, 32] x slices_S2x8448x4x64_S2x8448x4x32_0_0_0_32) (broadcastInDim S2x8448x4x32 ![0, 1, 2, 3] bcast_S1x8448x1x32_S2x8448x4x32_0_1_2_3 (broadcastInDim S1x8448x1x32 ![1, 2, 3] bcast_S8448x1x32_S1x8448x1x32_1_2_3 (broadcastInDim S8448x1x32 ![0, 2] bcast_S8448x32_S8448x1x32_0_2 (Host.cos ANG))))))

/-- The rotary embedding of one projection. -/
def ROT (x : FVec Ideal S2x8448x4x64 .f32) : FVec Ideal S2x8448x4x64 .f32 :=
  (concatenate S2x8448x4x64 3 [⟨S2x8448x4x32, (ROTA x)⟩, ⟨S2x8448x4x32, (ROTB x)⟩] concatenates_S2x8448x4x32_S2x8448x4x32_S2x8448x4x64_d3)

/-- The queries' columns, by head. -/
def QZ (z : FVec Ideal S2x8448x9736 .f32) : FVec Ideal S2x8448x4x64 .f32 :=
  (shapeCast _ (extractStridedSlice S2x8448x256 ![0, 0, 1536] z slices_S2x8448x9736_S2x8448x256_0_0_1536) shapeCasts_S2x8448x256_S2x8448x4x64)

/-- The keys' columns, by head. -/
def KZ (z : FVec Ideal S2x8448x9736 .f32) : FVec Ideal S2x8448x4x64 .f32 :=
  (shapeCast _ (extractStridedSlice S2x8448x256 ![0, 0, 1792] z slices_S2x8448x9736_S2x8448x256_0_0_1792) shapeCasts_S2x8448x256_S2x8448x4x64)

/-- The keys, scaled. -/
def KEY (z : FVec Ideal S2x8448x9736 .f32) : FVec Ideal S2x8448x4x64 .f32 :=
  (mulf (ROT (KZ z)) (broadcastInDim S2x8448x4x64 ![] bcast_S_S2x8448x4x64 (constant (F := Ideal) S_ .f32 0x3E000000#32)))

/-- The queries, by chunk. -/
def QC (z : FVec Ideal S2x8448x9736 .f32) : FVec Ideal S132x2x4x64x64 .f32 :=
  (transpose S132x2x4x64x64 [1, 0, 3, 2, 4] (shapeCast _ (ROT (QZ z)) shapeCasts_S2x8448x4x64_S2x132x64x4x64) transposes_S2x132x64x4x64_S132x2x4x64x64_1_0_3_2_4)

/-- The keys, by chunk. -/
def KC (z : FVec Ideal S2x8448x9736 .f32) : FVec Ideal S132x2x4x64x64 .f32 :=
  (transpose S132x2x4x64x64 [1, 0, 3, 2, 4] (shapeCast _ (KEY z) shapeCasts_S2x8448x4x64_S2x132x64x4x64) transposes_S2x132x64x4x64_S132x2x4x64x64_1_0_3_2_4)

/-- The values, by chunk. -/
def VC (z : FVec Ideal S2x8448x9736 .f32) : FVec Ideal S132x2x4x64x128 .f32 :=
  (transpose S132x2x4x64x128 [1, 0, 3, 2, 4] (shapeCast _ (shapeCast _ (extractStridedSlice S2x8448x512 ![0, 0, 2048] z slices_S2x8448x9736_S2x8448x512_0_0_2048) shapeCasts_S2x8448x512_S2x8448x4x128) shapeCasts_S2x8448x4x128_S2x132x64x4x128) transposes_S2x132x64x4x128_S132x2x4x64x128_1_0_3_2_4)

/-- The gate's columns. -/
def GZ (z : FVec Ideal S2x8448x9736 .f32) : FVec Ideal S2x8448x512 .f32 :=
  (extractStridedSlice S2x8448x512 ![0, 0, 2560] z slices_S2x8448x9736_S2x8448x512_0_0_2560)

/-- The layer's gain. -/
def NG (n : FVec Ideal S4x512 .f32) : FVec Ideal S512 .f32 :=
  (shapeCast _ (extractStridedSlice S1x512 ![1, 0] n slices_S4x512_S1x512_1_0) shapeCasts_S1x512_S512)

/-- The logarithms of the heads' decays. -/
def LG  : FVec Ideal S4 .f32 :=
  (Host.log1p (Host.negf (Host.exp (mulf (broadcastInDim S4 ![] bcast_S_S4 (constant (F := Ideal) S_ .f32 0x3F317218#32)) (subf (broadcastInDim S4 ![] bcast_S_S4 (constant (F := Ideal) S_ .f32 0xC0A00000#32)) (sitofp (F := Ideal) .f32 (iotaInDim S4 32 0)))))))

/-- Which pairs of a chunk's rows are in causal order. -/
def DOK : IVec S64x64 1 :=
  (cmpf .oge (subf (broadcastInDim S64x64 ![0, 1] bcast_S64x1_S64x64_0_1 (broadcastInDim S64x1 ![0] bcast_S64_S64x1_0 (sitofp (F := Ideal) .f32 (iotaInDim S64 32 0)))) (broadcastInDim S64x64 ![0, 1] bcast_S1x64_S64x64_0_1 (broadcastInDim S1x64 ![1] bcast_S64_S1x64_1 (sitofp (F := Ideal) .f32 (iotaInDim S64 32 0))))) (broadcastInDim S64x64 ![] bcast_S_S64x64 (constant (F := Ideal) S_ .f32 0x00000000#32)))

/-- The decay between a chunk's rows, before its mask. -/
def DEX  : FVec Ideal S4x64x64 .f32 :=
  (Host.exp (mulf (broadcastInDim S4x64x64 ![0, 1, 2] bcast_S4x1x1_S4x64x64_0_1_2 (broadcastInDim S4x1x1 ![0] bcast_S4_S4x1x1_0 LG)) (broadcastInDim S4x64x64 ![0, 1, 2] bcast_S1x64x64_S4x64x64_0_1_2 (broadcastInDim S1x64x64 ![1, 2] bcast_S64x64_S1x64x64_1_2 (maximumf (subf (broadcastInDim S64x64 ![0, 1] bcast_S64x1_S64x64_0_1 (broadcastInDim S64x1 ![0] bcast_S64_S64x1_0 (sitofp (F := Ideal) .f32 (iotaInDim S64 32 0)))) (broadcastInDim S64x64 ![0, 1] bcast_S1x64_S64x64_0_1 (broadcastInDim S1x64 ![1] bcast_S64_S1x64_1 (sitofp (F := Ideal) .f32 (iotaInDim S64 32 0))))) (broadcastInDim S64x64 ![] bcast_S_S64x64 (constant (F := Ideal) S_ .f32 0x00000000#32)))))))

/-- The decay inside a chunk. -/
def DEC  : FVec Ideal S4x64x64 .f32 :=
  (select (broadcastInDim S4x64x64 ![1, 2] bcast_S64x64_S4x64x64_1_2 DOK) DEX (broadcastInDim S4x64x64 ![] bcast_S_S4x64x64 (constant (F := Ideal) S_ .f32 0x00000000#32)))

/-- The decay from a chunk's start. -/
def XI  : FVec Ideal S4x64x1 .f32 :=
  (broadcastInDim S4x64x1 ![0, 1] bcast_S4x64_S4x64x1_0_1 (Host.exp (mulf (broadcastInDim S4x64 ![0, 1] bcast_S4x1_S4x64_0_1 (broadcastInDim S4x1 ![0] bcast_S4_S4x1_0 LG)) (broadcastInDim S4x64 ![0, 1] bcast_S1x64_S4x64_0_1 (broadcastInDim S1x64 ![1] bcast_S64_S1x64_1 (addf (sitofp (F := Ideal) .f32 (iotaInDim S64 32 0)) (broadcastInDim S64 ![] bcast_S_S64 (constant (F := Ideal) S_ .f32 0x3F800000#32))))))))

/-- The decay to a chunk's end. -/
def ZE  : FVec Ideal S4x64x1 .f32 :=
  (broadcastInDim S4x64x1 ![0, 1] bcast_S4x64_S4x64x1_0_1 (Host.exp (mulf (broadcastInDim S4x64 ![0, 1] bcast_S4x1_S4x64_0_1 (broadcastInDim S4x1 ![0] bcast_S4_S4x1_0 LG)) (broadcastInDim S4x64 ![0, 1] bcast_S1x64_S4x64_0_1 (broadcastInDim S1x64 ![1] bcast_S64_S1x64_1 (subf (broadcastInDim S64 ![] bcast_S_S64 (constant (F := Ideal) S_ .f32 0x427C0000#32)) (sitofp (F := Ideal) .f32 (iotaInDim S64 32 0))))))))

/-- The decay over a chunk. -/
def GC  : FVec Ideal S4x1x1 .f32 :=
  (broadcastInDim S4x1x1 ![0] bcast_S4_S4x1x1_0 (Host.exp (mulf LG (broadcastInDim S4 ![] bcast_S_S4 (constant (F := Ideal) S_ .f32 0x42800000#32)))))

/-- The output from inside the chunks. -/
def ATT (q k : FVec Ideal S132x2x4x64x64 .f32) (v : FVec Ideal S132x2x4x64x128 .f32) : FVec Ideal S132x2x4x64x128 .f32 :=
  (Host.dotGeneral dot_S132x2x4x64x64_S132x2x4x64x128_S132x2x4x64x128_4_3_3_4_012_012 none (mulf (Host.dotGeneral dot_S132x2x4x64x64_S132x2x4x64x64_S132x2x4x64x64_4_4_3_3_012_012 none q k) (broadcastInDim S132x2x4x64x64 ![0, 1, 2, 3, 4] bcast_S1x1x4x64x64_S132x2x4x64x64_0_1_2_3_4 (broadcastInDim S1x1x4x64x64 ![2, 3, 4] bcast_S4x64x64_S1x1x4x64x64_2_3_4 DEC))) v)

/-- A row's output, by head. -/
def OH (a o : FVec Ideal S132x2x4x64x128 .f32) : FVec Ideal S2x8448x4x128 .f32 :=
  (shapeCast _ (transpose S2x132x64x4x128 [1, 0, 3, 2, 4] (addf a o) transposes_S132x2x4x64x128_S2x132x64x4x128_1_0_3_2_4) shapeCasts_S2x132x64x4x128_S2x8448x4x128)

/-- Each head less its mean. -/
def CEN (o : FVec Ideal S2x8448x4x128 .f32) : FVec Ideal S2x8448x4x128 .f32 :=
  (subf o (broadcastInDim S2x8448x4x128 ![0, 1, 2, 3] bcast_S2x8448x4x1_S2x8448x4x128_0_1_2_3 (Host.divf (broadcastInDim S2x8448x4x1 ![0, 1, 2] bcast_S2x8448x4_S2x8448x4x1_0_1_2 (Host.reduceAdd o (constant (F := Ideal) S_ .f32 0x00000000#32) reducesTo_S2x8448x4x128_S2x8448x4_d3 h_S_)) (broadcastInDim S2x8448x4x1 ![] bcast_S_S2x8448x4x1 (constant (F := Ideal) S_ .f32 0x43000000#32)))))

/-- Each head normed. -/
def NRM (o : FVec Ideal S2x8448x4x128 .f32) : FVec Ideal S2x8448x4x128 .f32 :=
  (mulf (CEN o) (broadcastInDim S2x8448x4x128 ![0, 1, 2, 3] bcast_S2x8448x4x1_S2x8448x4x128_0_1_2_3 (Host.rsqrt (addf (Host.divf (broadcastInDim S2x8448x4x1 ![0, 1, 2] bcast_S2x8448x4_S2x8448x4x1_0_1_2 (Host.reduceAdd (mulf (CEN o) (CEN o)) (constant (F := Ideal) S_ .f32 0x00000000#32) reducesTo_S2x8448x4x128_S2x8448x4_d3 h_S_)) (broadcastInDim S2x8448x4x1 ![] bcast_S_S2x8448x4x1 (constant (F := Ideal) S_ .f32 0x43000000#32))) (broadcastInDim S2x8448x4x1 ![] bcast_S_S2x8448x4x1 (constant (F := Ideal) S_ .f32 0x358637BD#32))))))

/-- The smooth gate. -/
def SIL (z : FVec Ideal S2x8448x512 .f32) : FVec Ideal S2x8448x512 .f32 :=
  (mulf z (Host.divf (broadcastInDim S2x8448x512 ![] bcast_S_S2x8448x512 (constant (F := Ideal) S_ .f32 0x3F800000#32)) (addf (broadcastInDim S2x8448x512 ![] bcast_S_S2x8448x512 (constant (F := Ideal) S_ .f32 0x3F800000#32)) (Host.exp (Host.negf z)))))

/-- The result of the normed heads. -/
def GATE (x : FVec Ideal S2x8448x4x128 .f32) (z : FVec Ideal S2x8448x9736 .f32) (n : FVec Ideal S4x512 .f32) : FVec Ideal S2x8448x512 .bf16 :=
  (truncf .bf16 (mulf (mulf (shapeCast _ x shapeCasts_S2x8448x4x128_S2x8448x512) (broadcastInDim S2x8448x512 ![0, 1, 2] bcast_S1x1x512_S2x8448x512_0_1_2 (broadcastInDim S1x1x512 ![2] bcast_S512_S1x1x512_2 (NG n)))) (SIL (GZ z))) bitsLt_bf16_f32)

variable (m : (ℓ : Loc nD τ sig) → Buf (Elt Ideal) ℓ)

/-- The buffers before the loop, stretch by stretch: after the projection, -/
def E1 (c : Dev nD) : Valuation τ sig (Elt Ideal) := after (hostOps0.take 34) (launchContents m c)
/-- after the queries, -/
def E2 (c : Dev nD) : Valuation τ sig (Elt Ideal) := after ((hostOps0.drop 34).take 41) (E1 m c)
/-- after the keys, -/
def E3 (c : Dev nD) : Valuation τ sig (Elt Ideal) := after (((hostOps0.drop 34).drop 41).take 38) (E2 m c)
/-- after the decay table, -/
def E4 (c : Dev nD) : Valuation τ sig (Elt Ideal) := after (((hostOps0.drop 34).drop 41).drop 38) (E3 m c)
def E5 (c : Dev nD) : Valuation τ sig (Elt Ideal) := after hostOps0_1 (E4 m c)
/-- and at the loop's entry. -/
def E6 (c : Dev nD) : Valuation τ sig (Elt Ideal) := after hostOps0_2 (E5 m c)

theorem entry_eq (c : Dev nD) : entryContents preI m c = E6 m c := by
  show after hostOps0_2 (after hostOps0_1 (after hostOps0 (launchContents m c))) = _
  rw [← List.take_append_drop 34 (hostOps0 (F := Ideal)), ← List.take_append_drop 41 ((hostOps0 (F := Ideal)).drop 34),
    ← List.take_append_drop 38 (((hostOps0 (F := Ideal)).drop 34).drop 41), after_append, after_append, after_append]
  rfl

/-- The projection, of the arguments the run starts with. -/
abbrev zM (c : Dev nD) : FVec Ideal S2x8448x9736 .f32 :=
  Z (m ((c.tc : Thread nD τ).loc main_arg0)) (m ((c.tc : Thread nD τ).loc main_arg1)) (m ((c.tc : Thread nD τ).loc main_arg2))

theorem E1_v28 (c : Dev nD) : E1 m c (Proc.devRef .tc main_v28) = zM m c := by
  unfold E1
  after_reads_simp
  rfl

theorem E1_v7 (c : Dev nD) : E1 m c (Proc.devRef .tc main_v7) = POS := by
  unfold E1
  after_reads_simp
  rfl

theorem E1_arg3 (c : Dev nD) : E1 m c (Proc.devRef .tc main_arg3) = m ((c.tc : Thread nD τ).loc main_arg3) := by
  unfold E1
  after_reads_simp

theorem E2_v67 (c : Dev nD) : E2 m c (Proc.devRef .tc main_v67) = ROT (QZ (zM m c)) := by
  unfold E2
  after_reads_simp
  rw [show upto (List.take 41 (List.drop 34 hostOps0)) (E1 m c) 40 (Proc.devRef .tc main_v59) = ROTA (QZ (zM m c)) from by
      after_reads_simp; rw [E1_v28, E1_v7]; rfl,
    show upto (List.take 41 (List.drop 34 hostOps0)) (E1 m c) 40 (Proc.devRef .tc main_v66) = ROTB (QZ (zM m c)) from by
      after_reads_simp; rw [E1_v28, E1_v7]; rfl]
  rfl

theorem E2_v30 (c : Dev nD) : E2 m c (Proc.devRef .tc main_v30) = extractStridedSlice S2x8448x256 ![0, 0, 1792] (zM m c) slices_S2x8448x9736_S2x8448x256_0_0_1792 := by
  unfold E2
  after_reads_simp
  rw [E1_v28]

theorem E2_v31 (c : Dev nD) : E2 m c (Proc.devRef .tc main_v31) = extractStridedSlice S2x8448x512 ![0, 0, 2048] (zM m c) slices_S2x8448x9736_S2x8448x512_0_0_2048 := by
  unfold E2
  after_reads_simp
  rw [E1_v28]

theorem E2_v32 (c : Dev nD) : E2 m c (Proc.devRef .tc main_v32) = GZ (zM m c) := by
  unfold E2
  after_reads_simp
  rw [E1_v28]
  rfl

theorem E2_v34 (c : Dev nD) : E2 m c (Proc.devRef .tc main_v34) = NG (m ((c.tc : Thread nD τ).loc main_arg3)) := by
  unfold E2
  after_reads_simp
  rw [E1_arg3]
  rfl

theorem E2_v7 (c : Dev nD) : E2 m c (Proc.devRef .tc main_v7) = POS := by
  unfold E2
  after_reads_simp
  rw [E1_v7]

theorem E3_v102 (c : Dev nD) : E3 m c (Proc.devRef .tc main_v102) = KEY (zM m c) := by
  unfold E3
  after_reads_simp
  rw [show upto (List.take 38 (List.drop 41 (List.drop 34 hostOps0))) (E2 m c) 34 (Proc.devRef .tc main_v92) = ROTA (KZ (zM m c)) from by
      after_reads_simp; rw [E2_v30, E2_v7]; rfl,
    show upto (List.take 38 (List.drop 41 (List.drop 34 hostOps0))) (E2 m c) 34 (Proc.devRef .tc main_v99) = ROTB (KZ (zM m c)) from by
      after_reads_simp; rw [E2_v30, E2_v7]; rfl]
  rfl

theorem E3_v67 (c : Dev nD) : E3 m c (Proc.devRef .tc main_v67) = ROT (QZ (zM m c)) := by
  unfold E3
  after_reads_simp
  rw [E2_v67]

theorem E3_v31 (c : Dev nD) : E3 m c (Proc.devRef .tc main_v31) = extractStridedSlice S2x8448x512 ![0, 0, 2048] (zM m c) slices_S2x8448x9736_S2x8448x512_0_0_2048 := by
  unfold E3
  after_reads_simp
  rw [E2_v31]

theorem E3_v32 (c : Dev nD) : E3 m c (Proc.devRef .tc main_v32) = GZ (zM m c) := by
  unfold E3
  after_reads_simp
  rw [E2_v32]

theorem E3_v34 (c : Dev nD) : E3 m c (Proc.devRef .tc main_v34) = NG (m ((c.tc : Thread nD τ).loc main_arg3)) := by
  unfold E3
  after_reads_simp
  rw [E2_v34]

theorem E4_v105 (c : Dev nD) : E4 m c (Proc.devRef .tc main_v105) = QC (zM m c) := by
  unfold E4
  after_reads_simp
  rw [E3_v67]
  rfl

theorem E4_v107 (c : Dev nD) : E4 m c (Proc.devRef .tc main_v107) = KC (zM m c) := by
  unfold E4
  after_reads_simp
  rw [E3_v102]
  rfl

theorem E4_v109 (c : Dev nD) : E4 m c (Proc.devRef .tc main_v109) = VC (zM m c) := by
  unfold E4
  after_reads_simp
  rw [E3_v31]
  rfl

theorem E4_v32 (c : Dev nD) : E4 m c (Proc.devRef .tc main_v32) = GZ (zM m c) := by
  unfold E4
  after_reads_simp
  rw [E3_v32]

theorem E4_v34 (c : Dev nD) : E4 m c (Proc.devRef .tc main_v34) = NG (m ((c.tc : Thread nD τ).loc main_arg3)) := by
  unfold E4
  after_reads_simp
  rw [E3_v34]

theorem E4_v117 (c : Dev nD) : E4 m c (Proc.devRef .tc main_v117) = LG := by
  unfold E4
  after_reads_simp
  rfl

theorem E4_v118 (c : Dev nD) : E4 m c (Proc.devRef .tc main_v118) = sitofp (F := Ideal) .f32 (iotaInDim S64 32 0) := by
  unfold E4
  after_reads_simp
  try rfl

theorem E4_v125 (c : Dev nD) : E4 m c (Proc.devRef .tc main_v125) = DOK := by
  unfold E4
  after_reads_simp
  rfl

theorem E4_v133 (c : Dev nD) : E4 m c (Proc.devRef .tc main_v133) = DEX := by
  unfold E4
  after_reads_simp
  rfl

theorem E4_cst (c : Dev nD) : E4 m c (Proc.devRef .tc main_cst_12) = constant (F := Ideal) S_ .f32 0x00000000#32 := by
  unfold E4
  after_reads_simp
  try rfl

theorem E5_v134 (c : Dev nD) : E5 m c (Proc.devRef .tc main_v134) = DEC := by
  unfold E5
  after_reads_simp
  simp only [TRef.ofBuf, TRef.toBuf, cast_eq]
  rw [E4_v125, E4_v133, E4_cst]
  rfl

theorem E5_keep (c : Dev nD) (r : Ref sig .tc) (h : r ∉ hostOps0_1_W) : E5 m c (Proc.devRef .tc r) = E4 m c (Proc.devRef .tc r) :=
  after_of_writes_sub hostOps0_1 _ hostOps0_1_writes h

theorem E6_keep (c : Dev nD) (r : Ref sig .tc) (h : r ∉ hostOps0_2_W) : E6 m c (Proc.devRef .tc r) = E5 m c (Proc.devRef .tc r) :=
  after_of_writes_sub hostOps0_2 _ hostOps0_2_writes h

theorem E6_v139 (c : Dev nD) : E6 m c (Proc.devRef .tc main_v139) = ATT (QC (zM m c)) (KC (zM m c)) (VC (zM m c)) := by
  unfold E6
  after_reads_simp
  rw [E5_v134, E5_keep m c main_v105 (by decide), E5_keep m c main_v107 (by decide), E5_keep m c main_v109 (by decide), E4_v105, E4_v107, E4_v109]
  rfl

theorem E6_0 (c : Dev nD) : E6 m c (Proc.devRef .tc main_v164_0) = QC (zM m c) := by
  unfold E6
  after_reads_simp
  exact (E5_keep m c main_v105 (by decide)).trans (E4_v105 m c)

theorem E6_1 (c : Dev nD) : E6 m c (Proc.devRef .tc main_v164_1) = KC (zM m c) := by
  unfold E6
  after_reads_simp
  exact (E5_keep m c main_v107 (by decide)).trans (E4_v107 m c)

theorem E6_2 (c : Dev nD) : E6 m c (Proc.devRef .tc main_v164_2) = VC (zM m c) := by
  unfold E6
  after_reads_simp
  exact (E5_keep m c main_v109 (by decide)).trans (E4_v109 m c)

theorem E6_3 (c : Dev nD) : E6 m c (Proc.devRef .tc main_v164_3) = XI := by
  unfold E6
  after_reads_simp
  rw [E5_keep m c main_v117 (by decide), E5_keep m c main_v118 (by decide), E4_v117, E4_v118]
  rfl

theorem E6_4 (c : Dev nD) : E6 m c (Proc.devRef .tc main_v164_4) = GC := by
  unfold E6
  after_reads_simp
  rw [E5_keep m c main_v117 (by decide), E4_v117]
  rfl

theorem E6_5 (c : Dev nD) : E6 m c (Proc.devRef .tc main_v164_5) = ZE := by
  unfold E6
  after_reads_simp
  rw [E5_keep m c main_v117 (by decide), E5_keep m c main_v118 (by decide), E4_v117, E4_v118]
  rfl

theorem E6_6 (c : Dev nD) : E6 m c (Proc.devRef .tc main_v164_6) = constantI S_ 32 0#32 := by
  unfold E6
  after_reads_simp
  try rfl

theorem E6_7 (c : Dev nD) : E6 m c (Proc.devRef .tc main_v164_7) = broadcastInDim S2x4x64x128 ![] bcast_S_S2x4x64x128 (constant (F := Ideal) S_ .f32 0x00000000#32) := by
  unfold E6
  after_reads_simp
  try rfl

theorem E6_v32 (c : Dev nD) : E6 m c (Proc.devRef .tc main_v32) = GZ (zM m c) :=
  (E6_keep m c main_v32 (by decide)).trans ((E5_keep m c main_v32 (by decide)).trans (E4_v32 m c))

theorem E6_v34 (c : Dev nD) : E6 m c (Proc.devRef .tc main_v34) = NG (m ((c.tc : Thread nD τ).loc main_arg3)) :=
  (E6_keep m c main_v34 (by decide)).trans ((E5_keep m c main_v34 (by decide)).trans (E4_v34 m c))

/-- A buffer that neither the condition nor the body writes is through any number of trips as at the loop's entry. -/
theorem atK_keep (c : Dev nD) (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) :
    ∀ k, atK m k c (Proc.devRef .tc r) = E6 m c (Proc.devRef .tc r)
  | 0 => congrFun (entry_eq m c) _
  | k + 1 => by
    refine Eq.trans ?_ (atK_keep c r h h0 h1 h2 h3 h4 h5 k)
    show after while0Ops0_5 (after while0Ops0_4 (after while0Ops0_3 (after while0Ops0_2 (after while0Ops0_1 (after while0Ops0 (after condOps (atK m k c))))))) _ = _
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes h]

/-- The buffers after the loop. -/
def X0 (c : Dev nD) : Valuation τ sig (Elt Ideal) := after condOps (atK m 132 c)

theorem X0_keep (c : Dev nD) (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) : X0 m c (Proc.devRef .tc r) = E6 m c (Proc.devRef .tc r) :=
  (after_of_writes_sub condOps _ condOps_writes h).trans (atK_keep m c r h h0 h1 h2 h3 h4 h5 132)

theorem X0_v139 (c : Dev nD) : X0 m c (Proc.devRef .tc main_v139) = ATT (QC (zM m c)) (KC (zM m c)) (VC (zM m c)) :=
  (X0_keep m c main_v139 (by decide) (by decide) (by decide) (by decide) (by decide) (by decide) (by decide)).trans (E6_v139 m c)
theorem X0_v32 (c : Dev nD) : X0 m c (Proc.devRef .tc main_v32) = GZ (zM m c) :=
  (X0_keep m c main_v32 (by decide) (by decide) (by decide) (by decide) (by decide) (by decide) (by decide)).trans (E6_v32 m c)
theorem X0_v34 (c : Dev nD) : X0 m c (Proc.devRef .tc main_v34) = NG (m ((c.tc : Thread nD τ).loc main_arg3)) :=
  (X0_keep m c main_v34 (by decide) (by decide) (by decide) (by decide) (by decide) (by decide) (by decide)).trans (E6_v34 m c)

/-- After the norm of the heads. -/
def X1 (c : Dev nD) : Valuation τ sig (Elt Ideal) := after hostOps0_3 (X0 m c)
def X2 (c : Dev nD) : Valuation τ sig (Elt Ideal) := after hostOps0_4 (X1 m c)
def X3 (c : Dev nD) : Valuation τ sig (Elt Ideal) := after hostOps0_5 (X2 m c)

theorem final_eq (c : Dev nD) : finalContents condOps preI bodyI postI 132 m c = X3 m c := rfl

/-- What the loop leaves in its stack of outputs. -/
def OUTS (c : Dev nD) : FVec Ideal S132x2x4x64x128 .f32 := X0 m c (Proc.devRef .tc main_v164_8)

theorem X1_v187 (c : Dev nD) : X1 m c (Proc.devRef .tc main_v187)
    = mulf (shapeCast _ (NRM (OH (ATT (QC (zM m c)) (KC (zM m c)) (VC (zM m c))) (OUTS m c))) shapeCasts_S2x8448x4x128_S2x8448x512)
        (broadcastInDim S2x8448x512 ![0, 1, 2] bcast_S1x1x512_S2x8448x512_0_1_2 (broadcastInDim S1x1x512 ![2] bcast_S512_S1x1x512_2 (NG (m ((c.tc : Thread nD τ).loc main_arg3))))) := by
  unfold X1
  after_reads_simp
  rw [X0_v139, X0_v34]
  rfl

theorem X1_v32 (c : Dev nD) : X1 m c (Proc.devRef .tc main_v32) = GZ (zM m c) := by
  unfold X1
  after_reads_simp
  rw [X0_v32]

theorem X2_v188 (c : Dev nD) : X2 m c (Proc.devRef .tc main_v188) = SIL (GZ (zM m c)) := by
  unfold X2
  after_reads_simp
  simp only [TRef.ofBuf, TRef.toBuf, cast_eq]
  rw [X1_v32]
  rfl

theorem X2_v187 (c : Dev nD) : X2 m c (Proc.devRef .tc main_v187) = X1 m c (Proc.devRef .tc main_v187) := by
  unfold X2
  after_reads_simp

/-- The result. -/
theorem X3_v190 (c : Dev nD) : X3 m c (Proc.devRef .tc main_v190)
    = GATE (NRM (OH (ATT (QC (zM m c)) (KC (zM m c)) (VC (zM m c))) (OUTS m c))) (zM m c) (m ((c.tc : Thread nD τ).loc main_arg3)) := by
  unfold X3
  after_reads_simp
  rw [X2_v188, X2_v187, X1_v187]
  rfl

end Cert.RetRef

end
-- ==== Proof.RetScan.lean ====
/- The reference's scan over the chunks: the state it carries and the outputs it stacks, and its run. -/
module

public import proofs.«01_k».proof.Proof.RetRef
public import Idealize.ShloMosaic.Lib.Pointwise
public import Idealize.ShloMosaic.Lib.Claim
public import Idealize.ShloMosaic.Lib.WordCmp

@[expose] public section

set_option maxRecDepth 16384

noncomputable section

namespace Cert.RetRef

open Cert.ReferenceIdeal Cert.ReferenceIdeal.Gen Cert.ReferenceIdeal.Value Idealize.ShloMosaic Idealize.ShloMosaic.TcCoe Idealize.ShloMosaic.StableHlo Idealize.SL.Sem

variable (m : (ℓ : Loc nD τ sig) → Buf (Elt Ideal) ℓ)

/-- A chunk of a stack, as a slice. -/
theorem slices5 {r c : ℕ} (n : Fin 132) : (⟨5, ![132, 2, 4, r, c]⟩ : Shape).Slices ![n.val, 0, 0, 0, 0] ⟨5, ![1, 2, 4, r, c]⟩ :=
  ⟨rfl, fun a => by
    have := n.isLt
    fin_cases a
    · show n.val + 1 ≤ 132; omega
    · exact Nat.le_of_eq (Nat.zero_add _)
    · exact Nat.le_of_eq (Nat.zero_add _)
    · exact Nat.le_of_eq (Nat.zero_add _)
    · exact Nat.le_of_eq (Nat.zero_add _)⟩

theorem slicesQ {n : ℕ} (hn : n < 132) : S132x2x4x64x64.Slices ![n, 0, 0, 0, 0] S1x2x4x64x64 := slices5 ⟨n, hn⟩
theorem slicesV {n : ℕ} (hn : n < 132) : S132x2x4x64x128.Slices ![n, 0, 0, 0, 0] S1x2x4x64x128 := slices5 ⟨n, hn⟩

/-- The loop's counter, as the start of a slice. -/
theorem start_at {n : ℕ} (hn : n < 132) (a : Fin 5) : (((![constantI S_ 32 (BitVec.ofNat 32 n), constantI S_ 32 0#32, constantI S_ 32 0#32, constantI S_ 32 0#32, constantI S_ 32 0#32] : Fin 5 → (⟨S_, .i32⟩ : BufTy).Contents (Elt Ideal))) a (Shape.Idx.first h_S_)).toInt
    = ((![n, 0, 0, 0, 0] : Fin 5 → ℕ) a : ℤ) := by
  fin_cases a
  · exact (by decide : ∀ n : Fin 132, (BitVec.ofNat 32 n.val).toInt = (n.val : ℤ)) ⟨n, hn⟩
  all_goals rfl

/-- One trip's new state, of what the trip finds. -/
def stp7 (k : FVec Ideal S132x2x4x64x64 .f32) (v : FVec Ideal S132x2x4x64x128 .f32) (gc : FVec Ideal S4x1x1 .f32) (ze : FVec Ideal S4x64x1 .f32) (w : IVec S_ 32) (st : FVec Ideal S2x4x64x128 .f32) : FVec Ideal S2x4x64x128 .f32 :=
  addf (mulf (broadcastInDim S2x4x64x128 ![0, 1, 2, 3] bcast_S1x4x1x1_S2x4x64x128_0_1_2_3 (broadcastInDim S1x4x1x1 ![1, 2, 3] bcast_S4x1x1_S1x4x1x1_1_2_3 gc)) st) (Host.dotGeneral dot_S2x4x64x64_S2x4x64x128_S2x4x64x128_2_2_3_3_01_01 none (mulf (shapeCast S2x4x64x64 (Host.dynamicSlice S1x2x4x64x64 k (fun a => (((![w, constantI S_ 32 0#32, constantI S_ 32 0#32, constantI S_ 32 0#32, constantI S_ 32 0#32] : Fin 5 → (⟨S_, .i32⟩ : BufTy).Contents (Elt Ideal))) a (Shape.Idx.first h_S_)).toInt) sliceFits_S132x2x4x64x64_S1x2x4x64x64) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 ze))) (shapeCast S2x4x64x128 (Host.dynamicSlice S1x2x4x64x128 v (fun a => (((![w, constantI S_ 32 0#32, constantI S_ 32 0#32, constantI S_ 32 0#32, constantI S_ 32 0#32] : Fin 5 → (⟨S_, .i32⟩ : BufTy).Contents (Elt Ideal))) a (Shape.Idx.first h_S_)).toInt) sliceFits_S132x2x4x64x128_S1x2x4x64x128) shapeCasts_S1x2x4x64x128_S2x4x64x128))

/-- One trip's new stack of outputs. -/
def stp8 (q : FVec Ideal S132x2x4x64x64 .f32) (xi : FVec Ideal S4x64x1 .f32) (w : IVec S_ 32) (st : FVec Ideal S2x4x64x128 .f32) (o : FVec Ideal S132x2x4x64x128 .f32) : FVec Ideal S132x2x4x64x128 .f32 :=
  Host.dynamicUpdateSlice o (broadcastInDim S1x2x4x64x128 ![1, 2, 3, 4] bcast_S2x4x64x128_S1x2x4x64x128_1_2_3_4 (Host.dotGeneral dot_S2x4x64x64_S2x4x64x128_S2x4x64x128_3_2_2_3_01_01 none (mulf (shapeCast S2x4x64x64 (Host.dynamicSlice S1x2x4x64x64 q (fun a => (((![w, constantI S_ 32 0#32, constantI S_ 32 0#32, constantI S_ 32 0#32, constantI S_ 32 0#32] : Fin 5 → (⟨S_, .i32⟩ : BufTy).Contents (Elt Ideal))) a (Shape.Idx.first h_S_)).toInt) sliceFits_S132x2x4x64x64_S1x2x4x64x64) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 xi))) st)) (fun a => (((![w, constantI S_ 32 0#32, constantI S_ 32 0#32, constantI S_ 32 0#32, constantI S_ 32 0#32] : Fin 5 → (⟨S_, .i32⟩ : BufTy).Contents (Elt Ideal))) a (Shape.Idx.first h_S_)).toInt) updateFits_S132x2x4x64x128_S1x2x4x64x128

/-- The state the reference's scan carries into each chunk. -/
def R (z : FVec Ideal S2x8448x9736 .f32) : ℕ → FVec Ideal S2x4x64x128 .f32
  | 0 => broadcastInDim S2x4x64x128 ![] bcast_S_S2x4x64x128 (constant (F := Ideal) S_ .f32 0x00000000#32)
  | n + 1 => if h : n < 132 then addf (mulf (broadcastInDim S2x4x64x128 ![0, 1, 2, 3] bcast_S1x4x1x1_S2x4x64x128_0_1_2_3 (broadcastInDim S1x4x1x1 ![1, 2, 3] bcast_S4x1x1_S1x4x1x1_1_2_3 GC)) (R z n)) (Host.dotGeneral dot_S2x4x64x64_S2x4x64x128_S2x4x64x128_2_2_3_3_01_01 none (mulf (shapeCast S2x4x64x64 (extractStridedSlice S1x2x4x64x64 ![n, 0, 0, 0, 0] (KC z) (slices5 ⟨n, h⟩)) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 ZE))) (shapeCast S2x4x64x128 (extractStridedSlice S1x2x4x64x128 ![n, 0, 0, 0, 0] (VC z) (slices5 ⟨n, h⟩)) shapeCasts_S1x2x4x64x128_S2x4x64x128))
    else R z n

theorem R_succ (z : FVec Ideal S2x8448x9736 .f32) (n : Fin 132) : R z (n.val + 1) = addf (mulf (broadcastInDim S2x4x64x128 ![0, 1, 2, 3] bcast_S1x4x1x1_S2x4x64x128_0_1_2_3 (broadcastInDim S1x4x1x1 ![1, 2, 3] bcast_S4x1x1_S1x4x1x1_1_2_3 GC)) (R z n.val)) (Host.dotGeneral dot_S2x4x64x64_S2x4x64x128_S2x4x64x128_2_2_3_3_01_01 none (mulf (shapeCast S2x4x64x64 (extractStridedSlice S1x2x4x64x64 ![n.val, 0, 0, 0, 0] (KC z) (slices5 n)) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 ZE))) (shapeCast S2x4x64x128 (extractStridedSlice S1x2x4x64x128 ![n.val, 0, 0, 0, 0] (VC z) (slices5 n)) shapeCasts_S1x2x4x64x128_S2x4x64x128)) := by
  rw [R.eq_2, dif_pos n.isLt]

/-- What the loop carries before a trip. -/
theorem carried (c : Dev nD) : ∀ n, n ≤ 132 →
    let S := STEP^[n] (E6 m c)
    S (Proc.devRef .tc main_v164_0) = QC (zM m c) ∧ S (Proc.devRef .tc main_v164_1) = KC (zM m c) ∧ S (Proc.devRef .tc main_v164_2) = VC (zM m c)
      ∧ S (Proc.devRef .tc main_v164_3) = XI ∧ S (Proc.devRef .tc main_v164_4) = GC ∧ S (Proc.devRef .tc main_v164_5) = ZE
      ∧ S (Proc.devRef .tc main_v164_6) = constantI S_ 32 (BitVec.ofNat 32 n) ∧ S (Proc.devRef .tc main_v164_7) = R (zM m c) n
  | 0, _ => ⟨E6_0 m c, E6_1 m c, E6_2 m c, E6_3 m c, E6_4 m c, E6_5 m c, E6_6 m c, E6_7 m c⟩
  | n + 1, h => by
    obtain ⟨h0, h1, h2, h3, h4, h5, h6, h7⟩ := carried c n (by omega)
    intro S
    have hS : S = STEP (STEP^[n] (E6 m c)) := Function.iterate_succ_apply' STEP n (E6 m c)
    have hn : n < 132 := by omega
    rw [hS, STEP_main_v164_0, STEP_main_v164_1, STEP_main_v164_2, STEP_main_v164_3, STEP_main_v164_4, STEP_main_v164_5, STEP_main_v164_6, STEP_main_v164_7]
    refine ⟨h0, h1, h2, h3, h4, h5, ?_, ?_⟩
    · unfold step_main_v164_6
      rw [h6]
      funext i
      exact WordCmp.addi_ofNat n 1
    · refine (show step_main_v164_7 (STEP^[n] (E6 m c)) = stp7 (STEP^[n] (E6 m c) (Proc.devRef .tc main_v164_1)) (STEP^[n] (E6 m c) (Proc.devRef .tc main_v164_2)) (STEP^[n] (E6 m c) (Proc.devRef .tc main_v164_4)) (STEP^[n] (E6 m c) (Proc.devRef .tc main_v164_5)) (STEP^[n] (E6 m c) (Proc.devRef .tc main_v164_6)) (STEP^[n] (E6 m c) (Proc.devRef .tc main_v164_7)) from rfl).trans ?_
      rw [h1, h2, h4, h5, h6, h7]
      unfold stp7
      refine Eq.trans ?_ (R_succ (zM m c) ⟨n, hn⟩).symm
      rw [WordCmp.dynamicSlice_eq_extract _ (KC (zM m c)) _ _ ![n, 0, 0, 0, 0] (slicesQ hn) (start_at hn),
        WordCmp.dynamicSlice_eq_extract _ (VC (zM m c)) _ _ ![n, 0, 0, 0, 0] (slicesV hn) (start_at hn)]

/-- A chunk's output from its queries and the state. -/
def out (q : FVec Ideal S132x2x4x64x64 .f32) (xi : FVec Ideal S4x64x1 .f32) (st : FVec Ideal S2x4x64x128 .f32) (n : Fin 132) : FVec Ideal S2x4x64x128 .f32 :=
  Host.dotGeneral dot_S2x4x64x64_S2x4x64x128_S2x4x64x128_3_2_2_3_01_01 none (mulf (shapeCast S2x4x64x64 (extractStridedSlice S1x2x4x64x64 ![n.val, 0, 0, 0, 0] q (slices5 n)) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 xi))) st

/-- The stack after a trip, at the trip's own chunk and at any other. -/
theorem stp8_at (q : FVec Ideal S132x2x4x64x64 .f32) (xi : FVec Ideal S4x64x1 .f32) (st : FVec Ideal S2x4x64x128 .f32) (o : FVec Ideal S132x2x4x64x128 .f32)
    (n : Fin 132) (j : Fin 132) (b : Fin 2) (h : Fin 4) (s : Fin 64) (e : Fin 128) :
    stp8 q xi (constantI S_ 32 (BitVec.ofNat 32 n.val)) st o (ix5 j b h s e) = if j = n then out q xi st n (ix4 b h s e) else o (ix5 j b h s e) := by
  unfold stp8
  rw [WordCmp.dynamicSlice_eq_extract _ q _ _ ![n.val, 0, 0, 0, 0] (slicesQ n.isLt) (start_at n.isLt)]
  rw [WordCmp.dynamicUpdateSlice_eq_update _ _ _ _ ![n.val, 0, 0, 0, 0] (slicesV n.isLt) (start_at n.isLt)]
  show updateSlice o (broadcastInDim S1x2x4x64x128 ![1, 2, 3, 4] bcast_S2x4x64x128_S1x2x4x64x128_1_2_3_4 (out q xi st n)) ![n.val, 0, 0, 0, 0] (slicesV n.isLt) (ix5 j b h s e) = _
  generalize out q xi st n = O
  pointwise []
  by_cases hj : j = n
  · subst hj
    rw [if_pos rfl, dif_pos ⟨le_refl _, Nat.lt_succ_self _⟩]
  · rw [if_neg hj, dif_neg (fun h => hj (Fin.ext (by omega)))]

theorem step8_eq (V : Valuation τ sig (Elt Ideal)) : step_main_v164_8 V = stp8 (V (Proc.devRef .tc main_v164_0)) (V (Proc.devRef .tc main_v164_3)) (V (Proc.devRef .tc main_v164_6)) (V (Proc.devRef .tc main_v164_7)) (V (Proc.devRef .tc main_v164_8)) := by
  unfold step_main_v164_8 stp8
  exact id_eq _

/-- The outputs stacked before a trip, at the chunks already done. -/
theorem stacked (c : Dev nD) (n : ℕ) : n ≤ 132 → ∀ (j : Fin 132) (b : Fin 2) (h : Fin 4) (s : Fin 64) (e : Fin 128), j.val < n →
    STEP^[n] (E6 m c) (Proc.devRef .tc main_v164_8) (ix5 j b h s e) = out (QC (zM m c)) XI (R (zM m c) j.val) j (ix4 b h s e) := by
  induction n with
  | zero => exact fun _ j b h s e hj => absurd hj (Nat.not_lt_zero _)
  | succ n ih =>
    intro hle j b h s e hj
    obtain ⟨h0, h1, h2, h3, h4, h5, h6, h7⟩ := carried m c n (by omega)
    have hn : n < 132 := by omega
    have hS := Function.iterate_succ_apply' STEP n (E6 m c)
    have ih := ih (by omega) j b h s e
    rw [hS, STEP_main_v164_8, step8_eq, h0, h3, h6, h7]
    refine (stp8_at _ _ _ _ ⟨n, hn⟩ j b h s e).trans ?_
    by_cases hjn : j = ⟨n, hn⟩
    · rw [if_pos hjn, hjn]
    · rw [if_neg hjn]
      have hne : j.val ≠ n := fun e => hjn (Fin.ext e)
      exact ih (by omega)

/-- A chunk's output, read at an index. -/
theorem out_at (q : FVec Ideal S132x2x4x64x64 .f32) (xi : FVec Ideal S4x64x1 .f32) (st : FVec Ideal S2x4x64x128 .f32) (n : Fin 132) (b : Fin 2) (h : Fin 4) (s : Fin 64) (e : Fin 128) :
    out q xi st n (ix4 b h s e) = ∑ d : Fin 64, q (ix5 n b h s d) * xi (ix3 h s 0) * st (ix4 b h d e) := by
  pointwise [out]

theorem stack_eq (c : Dev nD) (N : ℕ) : after condOps (atK m N c) (Proc.devRef .tc main_v164_8) = STEP^[N] (E6 m c) (Proc.devRef .tc main_v164_8) := by
  rw [cond_keeps (atK m N c) main_v164_8 (by decide), atK_agree m c N main_v164_8 (by decide), entry_eq]

theorem stack_at (c : Dev nD) (N : ℕ) (hN : N ≤ 132) (n : Fin 132) (b : Fin 2) (h : Fin 4) (s : Fin 64) (e : Fin 128) (hn : n.val < N) :
    after condOps (atK m N c) (Proc.devRef .tc main_v164_8) (ix5 n b h s e) = ∑ d : Fin 64, QC (zM m c) (ix5 n b h s d) * XI (ix3 h s 0) * R (zM m c) n.val (ix4 b h d e) :=
  (congrFun (stack_eq m c N) (ix5 n b h s e)).trans ((stacked m c N hN n b h s e hn).trans (out_at _ _ _ _ _ _ _ _))

/-- The stacked outputs the loop leaves. -/
theorem outs_at (c : Dev nD) (n : Fin 132) (b : Fin 2) (h : Fin 4) (s : Fin 64) (e : Fin 128) :
    OUTS m c (ix5 n b h s e) = ∑ d : Fin 64, QC (zM m c) (ix5 n b h s d) * XI (ix3 h s 0) * R (zM m c) n.val (ix4 b h d e) := by
  unfold OUTS X0
  exact stack_at m c 132 (Nat.le_refl _) n b h s e n.isLt

/-- The next state from a chunk's keys and values and the state. -/
def nst (k : FVec Ideal S132x2x4x64x64 .f32) (v : FVec Ideal S132x2x4x64x128 .f32) (gc : FVec Ideal S4x1x1 .f32) (ze : FVec Ideal S4x64x1 .f32) (st : FVec Ideal S2x4x64x128 .f32) (n : Fin 132) : FVec Ideal S2x4x64x128 .f32 :=
  addf (mulf (broadcastInDim S2x4x64x128 ![0, 1, 2, 3] bcast_S1x4x1x1_S2x4x64x128_0_1_2_3 (broadcastInDim S1x4x1x1 ![1, 2, 3] bcast_S4x1x1_S1x4x1x1_1_2_3 gc)) st) (Host.dotGeneral dot_S2x4x64x64_S2x4x64x128_S2x4x64x128_2_2_3_3_01_01 none (mulf (shapeCast S2x4x64x64 (extractStridedSlice S1x2x4x64x64 ![n.val, 0, 0, 0, 0] k (slices5 n)) shapeCasts_S1x2x4x64x64_S2x4x64x64) (broadcastInDim S2x4x64x64 ![0, 1, 2, 3] bcast_S1x4x64x1_S2x4x64x64_0_1_2_3 (broadcastInDim S1x4x64x1 ![1, 2, 3] bcast_S4x64x1_S1x4x64x1_1_2_3 ze))) (shapeCast S2x4x64x128 (extractStridedSlice S1x2x4x64x128 ![n.val, 0, 0, 0, 0] v (slices5 n)) shapeCasts_S1x2x4x64x128_S2x4x64x128))

theorem nst_at (k : FVec Ideal S132x2x4x64x64 .f32) (v : FVec Ideal S132x2x4x64x128 .f32) (gc : FVec Ideal S4x1x1 .f32) (ze : FVec Ideal S4x64x1 .f32) (st : FVec Ideal S2x4x64x128 .f32) (n : Fin 132)
    (b : Fin 2) (h : Fin 4) (d : Fin 64) (e : Fin 128) :
    nst k v gc ze st n (ix4 b h d e) = gc (ix3 h 0 0) * st (ix4 b h d e) + ∑ s : Fin 64, k (ix5 n b h s d) * ze (ix3 h s 0) * v (ix5 n b h s e) := by
  pointwise [nst]

/-- The state entering the next chunk. -/
theorem R_at (z : FVec Ideal S2x8448x9736 .f32) (n : Fin 132) (b : Fin 2) (h : Fin 4) (d : Fin 64) (e : Fin 128) :
    R z (n.val + 1) (ix4 b h d e) = GC (ix3 h 0 0) * R z n.val (ix4 b h d e)
      + ∑ s : Fin 64, KC z (ix5 n b h s d) * ZE (ix3 h s 0) * VC z (ix5 n b h s e) :=
  (congrFun (show R z (n.val + 1) = nst (KC z) (VC z) GC ZE (R z n.val) n from R_succ z n) _).trans (nst_at _ _ _ _ _ n b h d e)

theorem R_zero (z : FVec Ideal S2x8448x9736 .f32) (b : Fin 2) (h : Fin 4) (d : Fin 64) (e : Fin 128) : R z 0 (ix4 b h d e) = 0 := by
  pointwise [R]

end Cert.RetRef

end
-- ==== Proof.RetRefRun.lean ====
/- The retention mixer's reference run: its result is one term of its arguments, which it leaves as they are. -/
module

public import proofs.«01_k».proof.Proof.RetScan

@[expose] public section

set_option maxRecDepth 16384

noncomputable section

namespace Cert.RetRef

open Cert.ReferenceIdeal Cert.ReferenceIdeal.Gen Cert.ReferenceIdeal.Value Idealize.ShloMosaic Idealize.ShloMosaic.TcCoe Idealize.ShloMosaic.StableHlo Idealize.SL.Sem

variable (m : (ℓ : Loc nD τ sig) → Buf (Elt Ideal) ℓ)

/-- The chunks' outputs from the states, of the projection. -/
def OUTZ (z : FVec Ideal S2x8448x9736 .f32) : FVec Ideal S132x2x4x64x128 .f32 := fun i =>
  ∑ d : Fin 64, QC z (ix5 (i 0) (i 1) (i 2) (i 3) d) * XI (ix3 (i 2) (i 3) 0) * R z (i 0).val (ix4 (i 1) (i 2) d (i 4))

theorem OUTS_eq (c : Dev nD) : OUTS m c = OUTZ (zM m c) := by
  funext i
  idx_vars i
  exact outs_at m c _ _ _ _ _

/-- The reference's result as one term of its arguments. -/
def REF (X : FVec Ideal S2x8448x1024 .f32) (g : FVec Ideal S4x1024 .f32) (W : FVec Ideal S4x1024x9736 .f32) (n : FVec Ideal S4x512 .f32) : FVec Ideal S2x8448x512 .bf16 :=
  GATE (NRM (OH (ATT (QC (Z X g W)) (KC (Z X g W)) (VC (Z X g W))) (OUTZ (Z X g W)))) (Z X g W) n

theorem X3_res (c : Dev nD) : X3 m c (Proc.devRef .tc main_v190)
    = REF (m ((c.tc : Thread nD τ).loc main_arg0)) (m ((c.tc : Thread nD τ).loc main_arg1)) (m ((c.tc : Thread nD τ).loc main_arg2)) (m ((c.tc : Thread nD τ).loc main_arg3)) := by
  rw [X3_v190, OUTS_eq]
  rfl

theorem E1_arg0 (c : Dev nD) : E1 m c (Proc.devRef .tc main_arg0) = m ((c.tc : Thread nD τ).loc main_arg0) := by
  unfold E1
  after_reads_simp
theorem E1_arg1 (c : Dev nD) : E1 m c (Proc.devRef .tc main_arg1) = m ((c.tc : Thread nD τ).loc main_arg1) := by
  unfold E1
  after_reads_simp
theorem E1_arg2 (c : Dev nD) : E1 m c (Proc.devRef .tc main_arg2) = m ((c.tc : Thread nD τ).loc main_arg2) := by
  unfold E1
  after_reads_simp

theorem E4_keep0 (c : Dev nD) : E4 m c (Proc.devRef .tc main_arg0) = m ((c.tc : Thread nD τ).loc main_arg0) := by
  unfold E4
  after_reads_simp
  unfold E3
  after_reads_simp
  unfold E2
  after_reads_simp
  exact E1_arg0 m c

theorem X3_arg0 (c : Dev nD) : X3 m c (Proc.devRef .tc main_arg0) = m ((c.tc : Thread nD τ).loc main_arg0) := by
  unfold X3
  after_reads_simp
  unfold X2
  after_reads_simp
  unfold X1
  after_reads_simp
  exact (X0_keep m c main_arg0 (by decide) (by decide) (by decide) (by decide) (by decide) (by decide) (by decide)).trans
    ((E6_keep m c main_arg0 (by decide)).trans ((E5_keep m c main_arg0 (by decide)).trans (E4_keep0 m c)))

theorem E4_keep1 (c : Dev nD) : E4 m c (Proc.devRef .tc main_arg1) = m ((c.tc : Thread nD τ).loc main_arg1) := by
  unfold E4
  after_reads_simp
  unfold E3
  after_reads_simp
  unfold E2
  after_reads_simp
  exact E1_arg1 m c

theorem X3_arg1 (c : Dev nD) : X3 m c (Proc.devRef .tc main_arg1) = m ((c.tc : Thread nD τ).loc main_arg1) := by
  unfold X3
  after_reads_simp
  unfold X2
  after_reads_simp
  unfold X1
  after_reads_simp
  exact (X0_keep m c main_arg1 (by decide) (by decide) (by decide) (by decide) (by decide) (by decide) (by decide)).trans
    ((E6_keep m c main_arg1 (by decide)).trans ((E5_keep m c main_arg1 (by decide)).trans (E4_keep1 m c)))

theorem E4_keep2 (c : Dev nD) : E4 m c (Proc.devRef .tc main_arg2) = m ((c.tc : Thread nD τ).loc main_arg2) := by
  unfold E4
  after_reads_simp
  unfold E3
  after_reads_simp
  unfold E2
  after_reads_simp
  exact E1_arg2 m c

theorem X3_arg2 (c : Dev nD) : X3 m c (Proc.devRef .tc main_arg2) = m ((c.tc : Thread nD τ).loc main_arg2) := by
  unfold X3
  after_reads_simp
  unfold X2
  after_reads_simp
  unfold X1
  after_reads_simp
  exact (X0_keep m c main_arg2 (by decide) (by decide) (by decide) (by decide) (by decide) (by decide) (by decide)).trans
    ((E6_keep m c main_arg2 (by decide)).trans ((E5_keep m c main_arg2 (by decide)).trans (E4_keep2 m c)))

theorem E4_keep3 (c : Dev nD) : E4 m c (Proc.devRef .tc main_arg3) = m ((c.tc : Thread nD τ).loc main_arg3) := by
  unfold E4
  after_reads_simp
  unfold E3
  after_reads_simp
  unfold E2
  after_reads_simp
  exact E1_arg3 m c

theorem X3_arg3 (c : Dev nD) : X3 m c (Proc.devRef .tc main_arg3) = m ((c.tc : Thread nD τ).loc main_arg3) := by
  unfold X3
  after_reads_simp
  unfold X2
  after_reads_simp
  unfold X1
  after_reads_simp
  exact (X0_keep m c main_arg3 (by decide) (by decide) (by decide) (by decide) (by decide) (by decide) (by decide)).trans
    ((E6_keep m c main_arg3 (by decide)).trans ((E5_keep m c main_arg3 (by decide)).trans (E4_keep3 m c)))

/-- The reference's run. -/
theorem run (ρ : Dev nD → PrngReg) :
    θ_run defs (onTc (τ := τ) (main (F := Ideal))) ⟨m, fun _ => 0, ρ⟩ fun r => ∀ c : Dev nD,
      r.2.mem ((c.tc : Thread nD τ).loc main_v190)
        = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_fold m ρ)
  exact ⟨(h c main_v190 rfl).trans ((congrFun (final_eq m c) _).trans (X3_res m c)),
    (h c main_arg0 rfl).trans ((congrFun (final_eq m c) _).trans (X3_arg0 m c)),
    (h c main_arg1 rfl).trans ((congrFun (final_eq m c) _).trans (X3_arg1 m c)),
    (h c main_arg2 rfl).trans ((congrFun (final_eq m c) _).trans (X3_arg2 m c)),
    (h c main_arg3 rfl).trans ((congrFun (final_eq m c) _).trans (X3_arg3 m c))⟩

end Cert.RetRef

end
-- ==== Proof.RetRefPt.lean ====
/- The retention mixer's reference, read at an index. -/
module

public import proofs.«01_k».proof.Proof.RetRefRun

@[expose] public section

set_option maxRecDepth 16384

noncomputable section

namespace Cert.RetRef

open Cert.ReferenceIdeal Cert.ReferenceIdeal.Gen Cert.ReferenceIdeal.Value Idealize.ShloMosaic Idealize.ShloMosaic.TcCoe

/-- A row's number from its chunk and its place in it. -/
abbrev grow (c : Fin 132) (s : Fin 64) : Fin 8448 := ⟨c.val * 64 + s.val, by omega⟩
/-- A head's place in a stretch of a row, its halves told apart. -/
abbrev lo (l : Fin 32) : Fin 64 := ⟨l.val, by omega⟩
abbrev hi (l : Fin 32) : Fin 64 := ⟨32 + l.val, by omega⟩

theorem QZ_at (z : FVec Ideal S2x8448x9736 .f32) (b : Fin 2) (g : Fin 8448) (h : Fin 4) (d : Fin 64) :
    QZ z (ix4 b g h d) = z (ix3 b g ⟨1536 + (h.val * 64 + d.val), by omega⟩) := by
  pointwise [QZ]

theorem KZ_at (z : FVec Ideal S2x8448x9736 .f32) (b : Fin 2) (g : Fin 8448) (h : Fin 4) (d : Fin 64) :
    KZ z (ix4 b g h d) = z (ix3 b g ⟨1792 + (h.val * 64 + d.val), by omega⟩) := by
  pointwise [KZ]

theorem ROT_lo (x : FVec Ideal S2x8448x4x64 .f32) (b : Fin 2) (g : Fin 8448) (h : Fin 4) (l : Fin 32) :
    ROT x (ix4 b g h (lo l)) = x (ix4 b g h (lo l)) * Ideal.cos (ANG (ix2 g l)) - x (ix4 b g h (hi l)) * Ideal.sin (ANG (ix2 g l)) := by
  pointwise [ROT, ROTA, ROTB]

theorem ROT_hi (x : FVec Ideal S2x8448x4x64 .f32) (b : Fin 2) (g : Fin 8448) (h : Fin 4) (l : Fin 32) :
    ROT x (ix4 b g h (hi l)) = x (ix4 b g h (lo l)) * Ideal.sin (ANG (ix2 g l)) + x (ix4 b g h (hi l)) * Ideal.cos (ANG (ix2 g l)) := by
  pointwise [ROT, ROTA, ROTB]

/-- Rows in chunks, read at an index. -/
theorem chunk_at (y : FVec Ideal S2x8448x4x64 .f32) (c : Fin 132) (b : Fin 2) (h : Fin 4) (s d : Fin 64) :
    transpose S132x2x4x64x64 [1, 0, 3, 2, 4] (shapeCast _ y shapeCasts_S2x8448x4x64_S2x132x64x4x64) transposes_S2x132x64x4x64_S132x2x4x64x64_1_0_3_2_4 (ix5 c b h s d)
      = y (ix4 b (grow c s) h d) := by
  pointwise []

theorem QC_at (z : FVec Ideal S2x8448x9736 .f32) (c : Fin 132) (b : Fin 2) (h : Fin 4) (s d : Fin 64) :
    QC z (ix5 c b h s d) = ROT (QZ z) (ix4 b (grow c s) h d) := by
  unfold QC
  exact chunk_at _ c b h s d

theorem KEY_at (z : FVec Ideal S2x8448x9736 .f32) (b : Fin 2) (g : Fin 8448) (h : Fin 4) (d : Fin 64) :
    KEY z (ix4 b g h d) = ROT (KZ z) (ix4 b g h d) * Ideal.ofBits .f32 0x3E000000#32 := by
  unfold KEY
  generalize ROT (KZ z) = y
  pointwise []

theorem KC_at (z : FVec Ideal S2x8448x9736 .f32) (c : Fin 132) (b : Fin 2) (h : Fin 4) (s d : Fin 64) :
    KC z (ix5 c b h s d) = ROT (KZ z) (ix4 b (grow c s) h d) * Ideal.ofBits .f32 0x3E000000#32 := by
  unfold KC
  exact (chunk_at _ c b h s d).trans (KEY_at z b _ h d)

theorem VC_at (z : FVec Ideal S2x8448x9736 .f32) (c : Fin 132) (b : Fin 2) (h : Fin 4) (s : Fin 64) (e : Fin 128) :
    VC z (ix5 c b h s e) = z (ix3 b (grow c s) ⟨2048 + (h.val * 128 + e.val), by omega⟩) := by
  pointwise [VC]

theorem ATT_at (q k : FVec Ideal S132x2x4x64x64 .f32) (v : FVec Ideal S132x2x4x64x128 .f32) (c : Fin 132) (b : Fin 2) (h : Fin 4) (s : Fin 64) (e : Fin 128) :
    ATT q k v (ix5 c b h s e) = ∑ s' : Fin 64, (∑ d : Fin 64, q (ix5 c b h s d) * k (ix5 c b h s' d)) * DEC (ix3 h s s') * v (ix5 c b h s' e) := by
  pointwise [ATT]

theorem OH_at (a o : FVec Ideal S132x2x4x64x128 .f32) (c : Fin 132) (b : Fin 2) (h : Fin 4) (s : Fin 64) (e : Fin 128) :
    OH a o (ix4 b (grow c s) h e) = a (ix5 c b h s e) + o (ix5 c b h s e) := by
  have e1 : ∀ p, (⟨(c.val * 64 + s.val) / 64, p⟩ : Fin 132) = c := fun p => Fin.ext (by show (c.val * 64 + s.val) / 64 = c.val; omega)
  have e2 : ∀ p, (⟨(c.val * 64 + s.val) % 64, p⟩ : Fin 64) = s := fun p => Fin.ext (by show (c.val * 64 + s.val) % 64 = s.val; omega)
  pointwise [OH]
  try simp only [e1, e2]

theorem CEN_at (o : FVec Ideal S2x8448x4x128 .f32) (b : Fin 2) (g : Fin 8448) (h : Fin 4) (e : Fin 128) :
    CEN o (ix4 b g h e) = o (ix4 b g h e) - Ideal.div (∑ x : Fin 128, o (ix4 b g h x)) (Ideal.ofBits .f32 0x43000000#32) := by
  pointwise [CEN]

theorem NRM_at (o : FVec Ideal S2x8448x4x128 .f32) (b : Fin 2) (g : Fin 8448) (h : Fin 4) (e : Fin 128) :
    NRM o (ix4 b g h e) = CEN o (ix4 b g h e) * Ideal.rsqrt (Ideal.div (∑ x : Fin 128, CEN o (ix4 b g h x) * CEN o (ix4 b g h x)) (Ideal.ofBits .f32 0x43000000#32) + Ideal.ofBits .f32 0x358637BD#32) := by
  pointwise [NRM]

theorem GATE_at (x : FVec Ideal S2x8448x4x128 .f32) (z : FVec Ideal S2x8448x9736 .f32) (n : FVec Ideal S4x512 .f32) (b : Fin 2) (g : Fin 8448) (h : Fin 4) (e : Fin 128) :
    GATE x z n (ix3 b g ⟨h.val * 128 + e.val, by omega⟩) = x (ix4 b g h e) * n (ix2 1 ⟨h.val * 128 + e.val, by omega⟩)
      * (z (ix3 b g ⟨2560 + (h.val * 128 + e.val), by omega⟩) * Ideal.logistic (z (ix3 b g ⟨2560 + (h.val * 128 + e.val), by omega⟩))) := by
  have e1 : ∀ p, (⟨(h.val * 128 + e.val) / 128, p⟩ : Fin 4) = h := fun p => Fin.ext (by show (h.val * 128 + e.val) / 128 = h.val; omega)
  have e2 : ∀ p, (⟨(h.val * 128 + e.val) % 128, p⟩ : Fin 128) = e := fun p => Fin.ext (by show (h.val * 128 + e.val) % 128 = e.val; omega)
  unfold Ideal.logistic
  pointwise [GATE, SIL, GZ, NG]
  try simp only [e1, e2]

theorem XI_at (h : Fin 4) (s : Fin 64) : XI (ix3 h s 0) = Ideal.exp (LG (ix1 h) * ((FloatOps.sitofp .f32 (BitVec.ofNat 32 s.val) : Ideal .f32) + 1)) := by
  pointwise [XI]

theorem ZE_at (h : Fin 4) (s : Fin 64) : ZE (ix3 h s 0) = Ideal.exp (LG (ix1 h) * (Ideal.ofBits .f32 0x427C0000#32 - (FloatOps.sitofp .f32 (BitVec.ofNat 32 s.val) : Ideal .f32))) := by
  pointwise [ZE]

theorem GC_at (h : Fin 4) : GC (ix3 h 0 0) = Ideal.exp (LG (ix1 h) * Ideal.ofBits .f32 0x42800000#32) := by
  pointwise [GC]

theorem DEC_at (h : Fin 4) (s s' : Fin 64) : DEC (ix3 h s s')
    = if (0 : EReal) ≤ (FloatOps.sitofp .f32 (BitVec.ofNat 32 s.val) : Ideal .f32) - (FloatOps.sitofp .f32 (BitVec.ofNat 32 s'.val) : Ideal .f32)
      then Ideal.exp (LG (ix1 h) * max ((FloatOps.sitofp .f32 (BitVec.ofNat 32 s.val) : Ideal .f32) - (FloatOps.sitofp .f32 (BitVec.ofNat 32 s'.val) : Ideal .f32)) 0) else 0 := by
  pointwise [DEC, DOK, DEX]

theorem HN_at (X : FVec Ideal S2x8448x1024 .f32) (g : FVec Ideal S4x1024 .f32) (b : Fin 2) (r : Fin 8448) (x : Fin 1024) : HN X g (ix3 b r x)
    = X (ix3 b r x) * Ideal.rsqrt (Ideal.div (∑ x : Fin 1024, X (ix3 b r x) * X (ix3 b r x)) (Ideal.ofBits .f32 0x44800000#32) + Ideal.ofBits .f32 0x358637BD#32) * g (ix2 1 x)
      * (FloatOps.uitofp .f32 (IntOp.cmpi .sge (BitVec.ofNat 32 r.val) 240#32) : Ideal .f32) := by
  pointwise [HN]

theorem Z_at (X : FVec Ideal S2x8448x1024 .f32) (g : FVec Ideal S4x1024 .f32) (W : FVec Ideal S4x1024x9736 .f32) (b : Fin 2) (r : Fin 8448) (j : Fin 9736) :
    Z X g W (ix3 b r j) = ∑ x : Fin 1024, HN X g (ix3 b r x) * W (ix3 1 x j) := by
  pointwise [Z]

end Cert.RetRef

end
-- ==== Proof.RetTabPt.lean ====
/- The tables the retention mixer's host computes, read at an index: they are the reference's. -/
module

public import proofs.«01_k».proof.Proof.RetTab
public import proofs.«01_k».proof.Proof.RetRefPt
public import Idealize.ShloMosaic.Lib.Routing.Words

@[expose] public section

set_option maxRecDepth 16384

noncomputable section

namespace Cert.Ret

open Cert.KernelIdeal Cert.KernelIdeal.Gen Idealize.ShloMosaic Idealize.ShloMosaic.TcCoe Cert.RetRef

/-- A column from its head and its place in it. -/
abbrev col (h : Fin 4) (d : Fin 64) : Fin 256 := ⟨h.val * 64 + d.val, by omega⟩
abbrev vcol (h : Fin 4) (e : Fin 128) : Fin 512 := ⟨h.val * 128 + e.val, by omega⟩
/-- A row of two chunks from its chunk and its place in it. -/
abbrev row2 (n : Fin 2) (s : Fin 64) : Fin 128 := ⟨n.val * 64 + s.val, by omega⟩

theorem KANG_eq : KANG = ANG := rfl

theorem KLG_eq : KLG = LG := rfl

theorem div_col (h : Fin 4) (d : Fin 64) (p : (h.val * 64 + d.val) / 64 < 4) : (⟨(h.val * 64 + d.val) / 64, p⟩ : Fin 4) = h := Fin.ext (by show (h.val * 64 + d.val) / 64 = h.val; omega)

theorem KCOS_at (g : Fin 8448) (h : Fin 4) (d : Fin 64) : KCOS (ix2 g (col h d)) = Ideal.cos (ANG (ix2 g ⟨d.val % 32, by omega⟩)) := by
  rw [← KANG_eq]
  pointwise [KCOS]
  split
  · congr 3
    exact Fin.ext (by show (h.val * 64 + d.val) % 64 = d.val % 32; omega)
  · congr 3
    exact Fin.ext (by show (h.val * 64 + d.val) % 64 - 32 = d.val % 32; omega)

theorem KSIN_lo (g : Fin 8448) (h : Fin 4) (l : Fin 32) : KSIN (ix2 g (col h (lo l))) = -Ideal.sin (ANG (ix2 g l)) := by
  rw [← KANG_eq]
  pointwise [KSIN]
  rw [dif_pos (by omega)]
  congr 4
  exact Fin.ext (by show (h.val * 64 + l.val) % 64 = l.val; omega)

theorem KSIN_hi (g : Fin 8448) (h : Fin 4) (l : Fin 32) : KSIN (ix2 g (col h (hi l))) = Ideal.sin (ANG (ix2 g l)) := by
  rw [← KANG_eq]
  pointwise [KSIN]
  rw [dif_neg (by omega)]
  congr 3
  exact Fin.ext (by show (h.val * 64 + (32 + l.val)) % 64 - 32 = l.val; omega)

theorem KMOD_at (y : Fin 128) : KMOD (ix1 y) = BitVec.ofNat 32 (y.val % 64) := by
  pointwise [KMOD]
  revert y
  decide +kernel

theorem KLOC_at (n : Fin 2) (s : Fin 64) : KLOC (ix1 (row2 n s)) = (FloatOps.sitofp .f32 (BitVec.ofNat 32 s.val) : Ideal .f32) := by
  have e : KLOC (ix1 (row2 n s)) = (FloatOps.sitofp .f32 (KMOD (ix1 (row2 n s))) : Ideal .f32) := rfl
  rw [e, KMOD_at]
  congr 2
  show (n.val * 64 + s.val) % 64 = s.val
  omega

theorem KXI_at (n : Fin 2) (s : Fin 64) (h : Fin 4) (d : Fin 64) : KXI (ix2 (row2 n s) (col h d)) = XI (ix3 h s 0) := by
  rw [XI_at, ← KLOC_at n s, ← KLG_eq]
  pointwise [KXI]
  rw [div_col]

theorem KZE_at (n : Fin 2) (s : Fin 64) (h : Fin 4) (d : Fin 64) : KZE (ix2 (row2 n s) (col h d)) = ZE (ix3 h s 0) := by
  rw [ZE_at, ← KLOC_at n s, ← KLG_eq]
  pointwise [KZE]
  rw [div_col]

theorem KGC_at (h : Fin 4) (d : Fin 64) : KGC (ix2 0 (col h d)) = GC (ix3 h 0 0) := by
  rw [GC_at, ← KLG_eq]
  pointwise [KGC]

theorem KFA_at (y : Fin 128) : KFA (ix2 y 0) = BitVec.ofNat 32 (y.val / 64) := by
  pointwise [KFA]
  revert y
  decide +kernel

theorem KFB_at (y : Fin 128) : KFB (ix2 0 y) = BitVec.ofNat 32 (y.val / 64) := by
  pointwise [KFB]
  revert y
  decide +kernel

/-- A small word as a number. -/
theorem sit : ∀ y : Fin 128, (FloatOps.sitofp .f32 (BitVec.ofNat 32 y.val) : Ideal .f32) = ((y.val : ℝ) : EReal) := fun y => by
  show ((((BitVec.ofNat 32 y.val).toInt : ℤ) : ℝ) : EReal) = _
  rw [(by decide +kernel : ∀ y : Fin 128, (BitVec.ofNat 32 y.val).toInt = (y.val : ℤ)) y]
  norm_num

theorem KDIF_at (y y' : Fin 128) : KDIF (ix2 y y') = (((y.val : ℝ) - (y'.val : ℝ) : ℝ) : EReal) := by
  pointwise [KDIF]
  show ((((IntOp.subi (BitVec.ofNat 32 y.val) (BitVec.ofNat 32 y'.val)).toInt : ℤ) : ℝ) : EReal) = _
  rw [(by decide +kernel : ∀ y y' : Fin 128, (IntOp.subi (BitVec.ofNat 32 y.val) (BitVec.ofNat 32 y'.val)).toInt = (y.val : ℤ) - (y'.val : ℤ)) y y']
  norm_num

theorem same_at (n n' : Fin 2) (s s' : Fin 64) : IntOp.cmpi .eq (KFA (ix2 (row2 n s) 0)) (KFB (ix2 0 (row2 n' s'))) = if n = n' then 1#1 else 0#1 := by
  rw [KFA_at, KFB_at]
  have h1 : (row2 n s).val / 64 = n.val := by show (n.val * 64 + s.val) / 64 = n.val; omega
  have h2 : (row2 n' s').val / 64 = n'.val := by show (n'.val * 64 + s'.val) / 64 = n'.val; omega
  rw [h1, h2]
  clear h1 h2
  revert n n'
  decide +kernel

theorem KDEC_at (h : Fin 4) (n n' : Fin 2) (s s' : Fin 64) : KDEC (ix3 h (row2 n s) (row2 n' s')) = if n = n' then DEC (ix3 h s s') else 0 := by
  rw [DEC_at, ← KLG_eq]
  have hs := sit ⟨s.val, by omega⟩
  have hs' := sit ⟨s'.val, by omega⟩
  dsimp only at hs hs'
  rw [hs, hs', ← EReal.coe_sub]
  pointwise [KDEC, KOK, KDEX]
  have hsame := same_at n n' s s'
  have hd := KDIF_at (row2 n s) (row2 n' s')
  rw [hsame, hd]
  by_cases hn : n = n'
  · subst hn
    rw [if_pos rfl, if_pos rfl]
    have e : (((row2 n s).val : ℝ) - ((row2 n s').val : ℝ) : ℝ) = (s.val : ℝ) - (s'.val : ℝ) := by
      push_cast
      ring
    rw [e]
    by_cases hle : (0 : EReal) ≤ (((s.val : ℝ) - (s'.val : ℝ) : ℝ) : EReal)
    · rw [if_pos hle, decide_eq_true hle]
      rfl
    · rw [if_neg hle, decide_eq_false hle]
      rfl
  · rw [if_neg hn, if_neg hn]
    have e : ∀ x : BitVec 1, IntOp.andi 0#1 x = 0#1 := by decide
    rw [e]
    rfl

end Cert.Ret

end
-- ==== Proof.RetProj.lean ====
/- The retention mixer's trip, read at an index: its projections, queries, keys and values are the reference's. -/
module

public import proofs.«01_k».proof.Proof.RetTabPt

@[expose] public section

set_option maxRecDepth 16384

noncomputable section

namespace Cert.Ret

open Cert.KernelIdeal Cert.KernelIdeal.Gen Idealize.ShloMosaic Idealize.ShloMosaic.TcCoe Cert.RetRef

/-- The blocks of grid point `t` are the arguments' and the tables'. -/
structure Holds (B : Blk Ideal) (t : Fin 11) (X : FVec Ideal S2x8448x1024 .f32) (gm : FVec Ideal S4x1024 .f32) (W : FVec Ideal S4x1024x9736 .f32) (ng : FVec Ideal S4x512 .f32) : Prop where
  x : ∀ (b : Fin 2) (y : Fin 768) (j : Fin 1024), B.x (ix3 b y j) = X (ix3 b ⟨t.val * 768 + y.val, by omega⟩ j)
  g : ∀ j : Fin 1024, B.g (ix3 0 0 j) = gm (ix2 1 j)
  w : ∀ (x : Fin 1024) (j : Fin 1536), B.w (ix3 0 x j) = W (ix3 1 x ⟨1536 + j.val, by omega⟩)
  c : ∀ (y : Fin 768) (j : Fin 256), B.c (ix2 y j) = KCOS (ix2 ⟨t.val * 768 + y.val, by omega⟩ j)
  s : ∀ (y : Fin 768) (j : Fin 256), B.s (ix2 y j) = KSIN (ix2 ⟨t.val * 768 + y.val, by omega⟩ j)
  d : ∀ (h : Fin 4) (y y' : Fin 128), B.d (ix3 h y y') = KDEC (ix3 h y y')
  xi : ∀ (y : Fin 128) (j : Fin 256), B.xi (ix2 y j) = KXI (ix2 y j)
  ze : ∀ (y : Fin 128) (j : Fin 256), B.ze (ix2 y j) = KZE (ix2 y j)
  gc : ∀ j : Fin 256, B.gc (ix2 0 j) = KGC (ix2 0 j)
  ng : ∀ j : Fin 512, B.ng (ix3 0 0 j) = ng (ix2 1 j)

theorem off1_eq : ∀ k : Fin k0_t1_loop.trips, k0_off1 k = ![0, k.val * 256, 0] := by decide +kernel
theorem off2_eq : ∀ k : Fin k0_t1_loop.trips, k0_off2 k = ![1, k.val * 256, 0] := by decide +kernel
theorem off3_eq : ∀ k : Fin k0_t1_loop.trips, k0_off3 k = ![k.val * 256, 0] := by decide +kernel
theorem off4_eq : ∀ k : Fin k0_t1_loop.trips, k0_off4 k = ![0, k.val * 256, 0] := by decide +kernel
theorem off5_eq : ∀ k : Fin k0_t1_loop.trips, k0_off5 k = ![1, k.val * 256, 0] := by decide +kernel

theorem rowWord_eq : ∀ (t : Fin 11) (k : Fin k0_t1_loop.trips), rowWord (BitVec.ofNat 32 t.val) k = BitVec.ofNat 32 ((t.val * 3 + k.val) * 256) := by decide +kernel

theorem trips_lt (k : Fin k0_t1_loop.trips) : k.val < 3 := k.isLt

/-- The row mask. -/
theorem mask_at (r : ℕ) (hr : r < 8448) (x : EReal) :
    Scalar.select (IntOp.cmpi .sge (BitVec.ofNat 32 r) 240#32) x 0 = x * (FloatOps.uitofp .f32 (IntOp.cmpi .sge (BitVec.ofNat 32 r) 240#32) : Ideal .f32) := by
  by_cases h : 240 ≤ r
  · rw [(WordCmp.cmpi_sge_ofNat_eq_one_iff (w := 32) (b := 240) (by omega) (by omega)).2 h]
    show x = x * (((1#1 : BitVec 1).toNat : ℝ) : EReal)
    norm_num
  · rw [(WordCmp.cmpi_sge_ofNat_eq_zero_iff (w := 32) (b := 240) (by omega) (by omega)).2 (by omega)]
    show (0 : EReal) = x * (((0#1 : BitVec 1).toNat : ℝ) : EReal)
    norm_num

/-- The normed rows of one sequence. -/
theorem hn_at (X : FVec Ideal S2x8448x1024 .f32) (gm : FVec Ideal S4x1024 .f32) (u : Fin 33) (b : Fin 2) (x : Vec Ideal S1x256x1024 .f32) (g : Vec Ideal S1x1x1024 .f32)
    (hx : ∀ (y : Fin 256) (j : Fin 1024), x (ix3 0 y j) = X (ix3 b ⟨u.val * 256 + y.val, by omega⟩ j)) (hg : ∀ j : Fin 1024, g (ix3 0 0 j) = gm (ix2 1 j))
    (y : Fin 256) (j : Fin 1024) : hn (BitVec.ofNat 32 (u.val * 256)) x g (ix2 y j) = HN X gm (ix3 b ⟨u.val * 256 + y.val, by omega⟩ j) := by
  rw [HN_at]
  pointwise [hn]
  rw [WordCmp.addi_ofNat, mask_at _ (by omega)]
  simp only [hx, hg]

/-- Both sequences' projections. -/
theorem proj_at (X : FVec Ideal S2x8448x1024 .f32) (gm : FVec Ideal S4x1024 .f32) (W : FVec Ideal S4x1024x9736 .f32) (u : Fin 33) (x y : Vec Ideal S1x256x1024 .f32) (g : Vec Ideal S1x1x1024 .f32) (wt : Vec Ideal S1x1024x1536 .bf16)
    (hx : ∀ (r : Fin 256) (j : Fin 1024), x (ix3 0 r j) = X (ix3 0 ⟨u.val * 256 + r.val, by omega⟩ j))
    (hy : ∀ (r : Fin 256) (j : Fin 1024), y (ix3 0 r j) = X (ix3 1 ⟨u.val * 256 + r.val, by omega⟩ j)) (hg : ∀ j : Fin 1024, g (ix3 0 0 j) = gm (ix2 1 j))
    (hw : ∀ (i : Fin 1024) (j : Fin 1536), wt (ix3 0 i j) = W (ix3 1 i ⟨1536 + j.val, by omega⟩))
    (b : Fin 2) (r : Fin 256) (j : Fin 1536) : proj (BitVec.ofNat 32 (u.val * 256)) x y g wt (ix2 ⟨b.val * 256 + r.val, by omega⟩ j)
      = Z X gm W (ix3 b ⟨u.val * 256 + r.val, by omega⟩ ⟨1536 + j.val, by omega⟩) := by
  rw [Z_at]
  have h0 := hn_at X gm u 0 x g hx hg
  have h1 := hn_at X gm u 1 y g hy hg
  unfold proj
  generalize hn (BitVec.ofNat 32 (u.val * 256)) x g = p at h0 ⊢
  generalize hn (BitVec.ofNat 32 (u.val * 256)) y g = q at h1 ⊢
  pointwise []
  refine Finset.sum_congr rfl fun i _ => ?_
  rw [hw]
  obtain rfl | rfl : b = 0 ∨ b = 1 := by omega
  · have e : (0 : Fin 2).val * 256 + r.val < 256 := by show 0 * 256 + r.val < 256; omega
    rw [dif_pos e, ← h0 r i]
    congr 3
    exact Fin.ext (by show 0 * 256 + r.val = r.val; omega)
  · have e : ¬ (1 : Fin 2).val * 256 + r.val < 256 := by show ¬ 1 * 256 + r.val < 256; omega
    rw [dif_neg e, ← h1 r i]
    congr 3
    exact Fin.ext (by show 1 * 256 + r.val - 256 = r.val; omega)

/-- A row of the trip: its sequence, its chunk of the trip and its place in the chunk. -/
abbrev row (b : Fin 2) (n : Fin 4) (s : Fin 64) : Fin 512 := ⟨256 * b.val + 64 * n.val + s.val, by omega⟩

/-- A chunk of the sequence: the trip it lies in and its place in the trip. -/
abbrev chk (u : Fin 33) (n : Fin 4) : Fin 132 := ⟨u.val * 4 + n.val, by omega⟩

/-- The trip's number among all trips of all grid points. -/
abbrev trip (t : Fin 11) (k : Fin k0_t1_loop.trips) : Fin 33 := ⟨t.val * 3 + k.val, by have := trips_lt k; omega⟩

/-- The trip's projections are the reference's at its rows. -/
theorem tZ_at (B : Blk Ideal) (t : Fin 11) (X : FVec Ideal S2x8448x1024 .f32) (gm : FVec Ideal S4x1024 .f32) (W : FVec Ideal S4x1024x9736 .f32) (ng : FVec Ideal S4x512 .f32) (H : Holds B t X gm W ng)
    (k : Fin k0_t1_loop.trips) (b : Fin 2) (n : Fin 4) (s : Fin 64) (j : Fin 1536) :
    tZ B (BitVec.ofNat 32 t.val) k (ix2 (row b n s) j) = Z X gm W (ix3 b (grow (chk (trip t k) n) s) ⟨1536 + j.val, by omega⟩) := by
  have hk := trips_lt k
  have e1 : row b n s = ⟨b.val * 256 + (n.val * 64 + s.val), by omega⟩ := Fin.ext (by show 256 * b.val + 64 * n.val + s.val = b.val * 256 + (n.val * 64 + s.val); omega)
  have e2 : grow (chk (trip t k) n) s = ⟨(trip t k).val * 256 + (n.val * 64 + s.val), by have := (trip t k).isLt; omega⟩ := Fin.ext (by show ((t.val * 3 + k.val) * 4 + n.val) * 64 + s.val = (t.val * 3 + k.val) * 256 + (n.val * 64 + s.val); omega)
  rw [e1, e2]
  unfold tZ
  rw [rowWord_eq]
  refine proj_at X gm W (trip t k) _ _ _ _ ?_ ?_ ?_ ?_ b ⟨n.val * 64 + s.val, by omega⟩ j
  · intro r j
    have h := H.x 0 ⟨k.val * 256 + r.val, by omega⟩ j
    refine (View.ld_unit_apply_of _ _ _ _ _ _ (fun a => ?_)).trans (h.trans ?_)
    · refine Eq.trans ?_ (congrArg (· + _) (congrFun (off1_eq k) a).symm)
      fin_cases a
      · rfl
      · rfl
      · exact (Nat.zero_add _).symm
    · congr 2
      exact Fin.ext (by show t.val * 768 + (k.val * 256 + r.val) = (t.val * 3 + k.val) * 256 + r.val; omega)
  · intro r j
    have h := H.x 1 ⟨k.val * 256 + r.val, by omega⟩ j
    refine (View.ld_unit_apply_of _ _ _ _ _ _ (fun a => ?_)).trans (h.trans ?_)
    · refine Eq.trans ?_ (congrArg (· + _) (congrFun (off2_eq k) a).symm)
      fin_cases a
      · rfl
      · rfl
      · exact (Nat.zero_add _).symm
    · congr 2
      exact Fin.ext (by show t.val * 768 + (k.val * 256 + r.val) = (t.val * 3 + k.val) * 256 + r.val; omega)
  · intro j
    refine (View.ld_unit_apply_of _ _ _ _ _ _ (fun a => ?_)).trans (H.g j)
    fin_cases a
    · rfl
    · rfl
    · exact (Nat.zero_add _).symm
  · intro i j
    refine (View.ld_unit_apply_of _ _ _ _ _ _ (fun a => ?_)).trans (H.w i j)
    fin_cases a
    · rfl
    · exact (Nat.zero_add _).symm
    · exact (Nat.zero_add _).symm

theorem tC_at (B : Blk Ideal) (t : Fin 11) (X : FVec Ideal S2x8448x1024 .f32) (gm : FVec Ideal S4x1024 .f32) (W : FVec Ideal S4x1024x9736 .f32) (ng : FVec Ideal S4x512 .f32) (H : Holds B t X gm W ng)
    (k : Fin k0_t1_loop.trips) (n : Fin 4) (s : Fin 64) (j : Fin 256) :
    tC B k (ix2 ⟨n.val * 64 + s.val, by omega⟩ j) = KCOS (ix2 (grow (chk (trip t k) n) s) j) := by
  have hk := trips_lt k
  refine (View.ld_unit_apply_of _ _ _ _ _ (ix2 ⟨k.val * 256 + (n.val * 64 + s.val), by omega⟩ j) (fun a => ?_)).trans ((H.c _ j).trans ?_)
  · refine Eq.trans ?_ (congrArg (· + _) (congrFun (off3_eq k) a).symm)
    fin_cases a
    · rfl
    · exact (Nat.zero_add _).symm
  · congr 2
    exact Fin.ext (by show t.val * 768 + (k.val * 256 + (n.val * 64 + s.val)) = ((t.val * 3 + k.val) * 4 + n.val) * 64 + s.val; omega)

theorem tS_at (B : Blk Ideal) (t : Fin 11) (X : FVec Ideal S2x8448x1024 .f32) (gm : FVec Ideal S4x1024 .f32) (W : FVec Ideal S4x1024x9736 .f32) (ng : FVec Ideal S4x512 .f32) (H : Holds B t X gm W ng)
    (k : Fin k0_t1_loop.trips) (n : Fin 4) (s : Fin 64) (j : Fin 256) :
    tS B k (ix2 ⟨n.val * 64 + s.val, by omega⟩ j) = KSIN (ix2 (grow (chk (trip t k) n) s) j) := by
  have hk := trips_lt k
  refine (View.ld_unit_apply_of _ _ _ _ _ (ix2 ⟨k.val * 256 + (n.val * 64 + s.val), by omega⟩ j) (fun a => ?_)).trans ((H.s _ j).trans ?_)
  · refine Eq.trans ?_ (congrArg (· + _) (congrFun (off3_eq k) a).symm)
    fin_cases a
    · rfl
    · exact (Nat.zero_add _).symm
  · congr 2
    exact Fin.ext (by show t.val * 768 + (k.val * 256 + (n.val * 64 + s.val)) = ((t.val * 3 + k.val) * 4 + n.val) * 64 + s.val; omega)

theorem twice_at (t : Vec Ideal S256x256 .f32) (b : Fin 2) (n : Fin 4) (s : Fin 64) (j : Fin 256) : twice t (ix2 (row b n s) j) = t (ix2 ⟨n.val * 64 + s.val, by omega⟩ j) := by
  pointwise [twice]
  obtain rfl | rfl : b = 0 ∨ b = 1 := by omega
  · have e : 256 * (0 : Fin 2).val + 64 * n.val + s.val < 256 := by show 256 * 0 + 64 * n.val + s.val < 256; omega
    rw [dif_pos e]
    congr 2
    exact Fin.ext (by show 256 * 0 + 64 * n.val + s.val = n.val * 64 + s.val; omega)
  · have e : ¬ 256 * (1 : Fin 2).val + 64 * n.val + s.val < 256 := by show ¬ 256 * 1 + 64 * n.val + s.val < 256; omega
    rw [dif_neg e]
    congr 2
    exact Fin.ext (by show 256 * 1 + 64 * n.val + s.val - 256 = n.val * 64 + s.val; omega)

theorem lane_lo (h : Fin 4) (l : Fin 32) : IntOp.cmpi .slt (IntOp.andi (BitVec.ofNat 32 (col h (lo l)).val) 63#32) 32#32 = 1#1 :=
  (by decide +kernel : ∀ (h : Fin 4) (l : Fin 32), IntOp.cmpi .slt (IntOp.andi (BitVec.ofNat 32 (col h (lo l)).val) 63#32) 32#32 = 1#1) h l

theorem lane_hi (h : Fin 4) (l : Fin 32) : IntOp.cmpi .slt (IntOp.andi (BitVec.ofNat 32 (col h (hi l)).val) 63#32) 32#32 = 0#1 :=
  (by decide +kernel : ∀ (h : Fin 4) (l : Fin 32), IntOp.cmpi .slt (IntOp.andi (BitVec.ofNat 32 (col h (hi l)).val) 63#32) 32#32 = 0#1) h l

theorem rot_lo (z : FVec Ideal S512x256 .f32) (c s : Vec Ideal S256x256 .f32) (b : Fin 2) (n : Fin 4) (i : Fin 64) (h : Fin 4) (l : Fin 32) : rot z c s (ix2 (row b n i) (col h (lo l)))
    = z (ix2 (row b n i) (col h (lo l))) * c (ix2 ⟨n.val * 64 + i.val, by omega⟩ (col h (lo l))) + z (ix2 (row b n i) (col h (hi l))) * s (ix2 ⟨n.val * 64 + i.val, by omega⟩ (col h (lo l))) := by
  rw [← twice_at c b n i, ← twice_at s b n i]
  unfold rot
  generalize twice c = c'
  generalize twice s = s'
  pointwise []
  have e : ∀ p, (⟨(h.val * 64 + l.val + 256 - 224) % 256, p⟩ : Fin 256) = col h (hi l) := fun p => Fin.ext (by show (h.val * 64 + l.val + 256 - 224) % 256 = h.val * 64 + (32 + l.val); omega)
  rw [e, show IntOp.cmpi .slt (IntOp.andi (BitVec.ofNat 32 (h.val * 64 + l.val)) 63#32) 32#32 = 1#1 from lane_lo h l]
  rfl

theorem rot_hi (z : FVec Ideal S512x256 .f32) (c s : Vec Ideal S256x256 .f32) (b : Fin 2) (n : Fin 4) (i : Fin 64) (h : Fin 4) (l : Fin 32) : rot z c s (ix2 (row b n i) (col h (hi l)))
    = z (ix2 (row b n i) (col h (hi l))) * c (ix2 ⟨n.val * 64 + i.val, by omega⟩ (col h (hi l))) + z (ix2 (row b n i) (col h (lo l))) * s (ix2 ⟨n.val * 64 + i.val, by omega⟩ (col h (hi l))) := by
  rw [← twice_at c b n i, ← twice_at s b n i]
  unfold rot
  generalize twice c = c'
  generalize twice s = s'
  pointwise []
  have e : ∀ p, (⟨(h.val * 64 + (32 + l.val) + 256 - 32) % 256, p⟩ : Fin 256) = col h (lo l) := fun p => Fin.ext (by show (h.val * 64 + (32 + l.val) + 256 - 32) % 256 = h.val * 64 + l.val; omega)
  rw [e, show IntOp.cmpi .slt (IntOp.andi (BitVec.ofNat 32 (h.val * 64 + (32 + l.val))) 63#32) 32#32 = 0#1 from lane_hi h l, WordCmp.select_zero]

/-- The rotated columns are the reference's, wherever the columns and the tables are. -/
theorem rot_at (z : FVec Ideal S512x256 .f32) (c s : Vec Ideal S256x256 .f32) (Q : FVec Ideal Cert.ReferenceIdeal.S2x8448x4x64 .f32) (b : Fin 2) (g : Fin 8448) (n : Fin 4) (i : Fin 64)
    (hz : ∀ (h : Fin 4) (d : Fin 64), z (ix2 (row b n i) (col h d)) = Q (ix4 b g h d)) (hc : ∀ j : Fin 256, c (ix2 ⟨n.val * 64 + i.val, by omega⟩ j) = KCOS (ix2 g j))
    (hs : ∀ j : Fin 256, s (ix2 ⟨n.val * 64 + i.val, by omega⟩ j) = KSIN (ix2 g j)) (h : Fin 4) (d : Fin 64) : rot z c s (ix2 (row b n i) (col h d)) = ROT Q (ix4 b g h d) := by
  by_cases hd : d.val < 32
  · obtain ⟨l, rfl⟩ : ∃ l : Fin 32, d = lo l := ⟨⟨d.val, hd⟩, rfl⟩
    rw [rot_lo, ROT_lo, hz, hz, hc, hs, KCOS_at, KSIN_lo, mul_neg, sub_eq_add_neg]
    rw [show (⟨(lo l).val % 32, by omega⟩ : Fin 32) = l from Fin.ext (Nat.mod_eq_of_lt l.isLt)]
  · obtain ⟨l, rfl⟩ : ∃ l : Fin 32, d = hi l := ⟨⟨d.val - 32, by omega⟩, Fin.ext (by show d.val = 32 + (d.val - 32); omega)⟩
    rw [rot_hi, ROT_hi, hz, hz, hc, hs, KCOS_at, KSIN_hi, add_comm]
    rw [show (⟨(hi l).val % 32, by omega⟩ : Fin 32) = l from Fin.ext (by show (32 + l.val) % 32 = l.val; omega)]

end Cert.Ret

end
-- ==== Proof.RetVal.lean ====
/- The retention mixer's trip, read at an index: its state and its output are the reference's recurrence and its output. -/
module

public import proofs.«01_k».proof.Proof.RetProj
public import proofs.«01_k».proof.Proof.RetRefRun

@[expose] public section

set_option maxRecDepth 16384

noncomputable section

namespace Cert.Ret

open Cert.KernelIdeal Cert.KernelIdeal.Gen Idealize.ShloMosaic Idealize.ShloMosaic.TcCoe Cert.RetRef

/-- The pair a head lies in with its place in the pair, and a row of the state's tile. -/
abbrev head (p a : Fin 2) : Fin 4 := ⟨2 * p.val + a.val, by omega⟩
abbrev srow (a : Fin 2) (e : Fin 128) : Fin 256 := ⟨a.val * 128 + e.val, by omega⟩

/-- A sum over two chunks of which one has only zeros is the other's sum. -/
theorem sum_half (a₀ : Fin 2) (f : Fin 128 → EReal) (h : ∀ (a : Fin 2) (s : Fin 64), a ≠ a₀ → f (row2 a s) = 0) : ∑ y : Fin 128, f y = ∑ s : Fin 64, f (row2 a₀ s) := by
  have e : ∑ y : Fin 128, f y = ∑ s : Fin 64, f (row2 0 s) + ∑ s : Fin 64, f (row2 1 s) := by
    rw [show (∑ y : Fin 128, f y) = ∑ y : Fin (64 + 64), f y from rfl, Fin.sum_univ_add]
    refine congrArg₂ (· + ·) (Finset.sum_congr rfl fun s _ => congrArg f (Fin.ext ?_)) (Finset.sum_congr rfl fun s _ => congrArg f (Fin.ext ?_))
    · show s.val = 0 * 64 + s.val
      omega
    · show 64 + s.val = 1 * 64 + s.val
      omega
  rw [e]
  obtain rfl | rfl : a₀ = 0 ∨ a₀ = 1 := by omega
  · rw [Finset.sum_eq_zero fun s _ => h 1 s (by decide), add_zero]
  · rw [Finset.sum_eq_zero fun s _ => h 0 s (by decide), zero_add]

/-- A table of 128 rows, four times, read at a row of the trip. -/
theorem fourTimes_at (t : Vec Ideal S128x256 .f32) (b : Fin 2) (n : Fin 4) (s : Fin 64) (j : Fin 256) :
    fourTimes t (ix2 (row b n s) j) = t (ix2 (row2 ⟨n.val % 2, by omega⟩ s) j) := by
  pointwise [fourTimes]
  split_ifs <;> first | (exfalso; omega) | (congr 2; refine Fin.ext ?_; show _ = n.val % 2 * 64 + s.val; dsimp only; omega)

theorem dcy_at (q : FVec Ideal S512x256 .f32) (t : Vec Ideal S128x256 .f32) (b : Fin 2) (n : Fin 4) (s : Fin 64) (j : Fin 256) :
    dcy q t (ix2 (row b n s) j) = q (ix2 (row b n s) j) * t (ix2 (row2 ⟨n.val % 2, by omega⟩ s) j) := by
  rw [← fourTimes_at t b n s j]
  unfold dcy
  generalize fourTimes t = t'
  pointwise []

theorem lane_eq : ∀ (a d : Fin 2) (s : Fin 64), IntOp.cmpi .eq (IntOp.shrui .vector (BitVec.ofNat 32 (row2 a s).val) 6#32) (BitVec.ofNat 32 d.val) = if a = d then 1#1 else 0#1 := by
  decide +kernel

/-- One head's queries in a block of 128 rows. -/
theorem qhead_at (kk : Fin 4) (p d : Fin 2) (q : FVec Ideal S512x256 .f32) (y : Fin 128) (a : Fin 2) (s : Fin 64) :
    qhead kk (head p d) q (ix2 y (row2 a s)) = if a = d then q (ix2 ⟨128 * kk.val + y.val, by omega⟩ (col (head p d) s)) else 0 := by
  pointwise [qhead]
  rw [show (2 * p.val + d.val) % 2 = d.val by omega, show IntOp.cmpi .eq (IntOp.shrui .vector (BitVec.ofNat 32 (a.val * 64 + s.val)) 6#32) (BitVec.ofNat 32 d.val) = _ from lane_eq a d s]
  by_cases h : a = d
  · subst h
    rw [if_pos rfl, if_pos rfl]
    refine congrArg (fun i => q (ix2 _ i)) (Fin.ext ?_)
    show 128 * ((2 * p.val + a.val) / 2) + (a.val * 64 + s.val) = (2 * p.val + a.val) * 64 + s.val
    omega
  · rw [if_neg h, if_neg h, WordCmp.select_zero]

/-- The scores of a block of rows. -/
theorem score_at (q k : FVec Ideal S128x128 .bf16) (y x : Fin 128) :
    matmul dot_S128x128_S128x128_S128x128_1_1_0_0_n_n none q k (constant (F := Ideal) S128x128 .f32 0x00000000#32) (ix2 y x) = ∑ z : Fin 128, q (ix2 y z) * k (ix2 x z) := by
  pointwise []

theorem apply_at (q k : FVec Ideal S128x128 .bf16) (y e : Fin 128) :
    matmul dot_S128x128_S128x128_S128x128_1_0_0_1_n_n none q k (constant (F := Ideal) S128x128 .f32 0x00000000#32) (ix2 y e) = ∑ z : Fin 128, q (ix2 y z) * k (ix2 z e) := by
  pointwise []

theorem ksl_at (kk h : Fin 4) (k : FVec Ideal S512x256 .f32) (x z : Fin 128) :
    extractStridedSlice S128x128 ![128 * kk.val, 128 * (h.val / 2)] (truncf .bf16 k bitsLt_bf16_f32 : FVec Ideal S512x256 .bf16) (slices2 (by omega) (by omega)) (ix2 x z)
      = k (ix2 ⟨128 * kk.val + x.val, by omega⟩ ⟨128 * (h.val / 2) + z.val, by omega⟩) := by
  pointwise []

theorem vsl_at (kk h : Fin 4) (v : FVec Ideal S512x512 .bf16) (x z : Fin 128) :
    extractStridedSlice S128x128 ![128 * kk.val, 128 * h.val] v (slices2 (by omega) (by omega)) (ix2 x z)
      = v (ix2 ⟨128 * kk.val + x.val, by omega⟩ ⟨128 * h.val + z.val, by omega⟩) := by
  pointwise []

theorem dcast_at (T : Vec Ideal S1x128x128 .f32) (x z : Fin 128) : shapeCast S128x128 T shapeCasts_S1x128x128_S128x128 (ix2 x z) = T (ix3 0 x z) := by
  pointwise []

theorem dld_at (h : Fin 4) (D : Vec Ideal S4x128x128 .f32) (x z : Fin 128) :
    View.ld D (Rect.unit ![h.val, 0, 0] S1x128x128.size (inb3 h.isLt)) (ix3 0 x z) = D (ix3 h x z) := by
  refine View.ld_unit_apply_of _ _ _ _ _ _ fun a => ?_
  fin_cases a
  · rfl
  · exact (Nat.zero_add _).symm
  · exact (Nat.zero_add _).symm

theorem dsl_at (h : Fin 4) (D : Vec Ideal S4x128x128 .f32) (x z : Fin 128) :
    shapeCast S128x128 (View.ld D (Rect.unit ![h.val, 0, 0] S1x128x128.size (inb3 h.isLt))) shapeCasts_S1x128x128_S128x128 (ix2 x z) = D (ix3 h x z) :=
  (dcast_at _ x z).trans (dld_at h D x z)

theorem mul_at (q k : FVec Ideal S128x128 .f32) (y e : Fin 128) :
    (truncf .bf16 (mulf q k) bitsLt_bf16_f32 : FVec Ideal S128x128 .bf16) (ix2 y e) = q (ix2 y e) * k (ix2 y e) := by
  pointwise []

theorem intra_pt (kk h : Fin 4) (q k : FVec Ideal S512x256 .f32) (v : FVec Ideal S512x512 .bf16) (D : Vec Ideal S4x128x128 .f32) (y e : Fin 128) :
    intra kk h q k v D (ix2 y e) = ∑ x : Fin 128, (∑ z : Fin 128, qhead kk h q (ix2 y z) * k (ix2 ⟨128 * kk.val + x.val, by omega⟩ ⟨128 * (h.val / 2) + z.val, by omega⟩))
      * D (ix3 h y x) * v (ix2 ⟨128 * kk.val + x.val, by omega⟩ ⟨128 * h.val + e.val, by omega⟩) := by
  unfold intra
  refine (apply_at _ _ y e).trans (Finset.sum_congr rfl fun x _ => ?_)
  rw [mul_at, dsl_at, vsl_at, score_at]
  refine congrArg (fun i => i * D (ix3 h y x) * v (ix2 ⟨128 * kk.val + x.val, by omega⟩ ⟨128 * h.val + e.val, by omega⟩)) (Finset.sum_congr rfl fun z _ => ?_)
  rw [ksl_at]

/-- One head's output from inside the chunks of a block. -/
theorem intra_at (kk : Fin 4) (p d : Fin 2) (q k : FVec Ideal S512x256 .f32) (v : FVec Ideal S512x512 .bf16) (D : Vec Ideal S4x128x128 .f32)
    (hD : ∀ (h : Fin 4) (y y' : Fin 128), D (ix3 h y y') = KDEC (ix3 h y y')) (a : Fin 2) (s : Fin 64) (e : Fin 128) :
    intra kk (head p d) q k v D (ix2 (row2 a s) e) = ∑ s' : Fin 64, (∑ x : Fin 64, q (ix2 ⟨128 * kk.val + (row2 a s).val, by omega⟩ (col (head p d) x)) * k (ix2 ⟨128 * kk.val + (row2 a s').val, by omega⟩ (col (head p d) x)))
      * DEC (ix3 (head p d) s s') * v (ix2 ⟨128 * kk.val + (row2 a s').val, by omega⟩ (vcol (head p d) e)) := by
  rw [intra_pt, sum_half a _ fun a' s' h => by rw [hD, KDEC_at, if_neg (Ne.symm h), mul_zero, zero_mul]]
  refine Finset.sum_congr rfl fun s' _ => ?_
  rw [hD, KDEC_at, if_pos rfl, sum_half d _ fun a' s' h => by rw [qhead_at, if_neg h, zero_mul]]
  have e1 : ∀ (x : Fin 64) q, (⟨128 * ((head p d).val / 2) + (row2 d x).val, q⟩ : Fin 256) = col (head p d) x := fun x q => Fin.ext (by show 128 * ((2 * p.val + d.val) / 2) + (d.val * 64 + x.val) = (2 * p.val + d.val) * 64 + x.val; omega)
  have e2 : ∀ q, (⟨128 * (head p d).val + e.val, q⟩ : Fin 512) = vcol (head p d) e := fun q => Fin.ext (by show 128 * (2 * p.val + d.val) + e.val = (2 * p.val + d.val) * 128 + e.val; omega)
  simp only [qhead_at, if_true, e1, e2]

theorem pair_eq : ∀ (a' a : Fin 2) (e : Fin 128) (d : Fin 64), IntOp.cmpi .eq (IntOp.shrui .vector (BitVec.ofNat 32 (srow a' e).val) 7#32) (IntOp.shrui .vector (BitVec.ofNat 32 (row2 a d).val) 6#32) = if a' = a then 1#1 else 0#1 := by
  have h1 : ∀ (a : Fin 2) (e : Fin 128), IntOp.shrui .vector (BitVec.ofNat 32 (srow a e).val) 7#32 = BitVec.ofNat 32 a.val := by decide +kernel
  have h2 : ∀ (a : Fin 2) (e : Fin 64), IntOp.shrui .vector (BitVec.ofNat 32 (row2 a e).val) 6#32 = BitVec.ofNat 32 a.val := by decide +kernel
  intro a' a e d
  rw [h1, h2]
  revert a' a
  decide +kernel

/-- What one chunk adds to a pair's state. -/
theorem kv_at (b : Fin 2) (n : Fin 4) (p : Fin 2) (v : FVec Ideal S512x512 .bf16) (kz : FVec Ideal S512x256 .bf16) (a' : Fin 2) (e : Fin 128) (a : Fin 2) (d : Fin 64) :
    kv b n p v kz (ix2 (srow a' e) (row2 a d)) = if a' = a then ∑ s : Fin 64, v (ix2 (row b n s) (vcol (head p a) e)) * kz (ix2 (row b n s) (col (head p a) d)) else 0 := by
  have e1 : ∀ q, (⟨128 * p.val + (a.val * 64 + d.val), q⟩ : Fin 256) = col (head p a) d := fun q => Fin.ext (by show 128 * p.val + (a.val * 64 + d.val) = (2 * p.val + a.val) * 64 + d.val; omega)
  have e2 : ∀ q, (⟨256 * p.val + (a'.val * 128 + e.val), q⟩ : Fin 512) = vcol (head p a') e := fun q => Fin.ext (by show 256 * p.val + (a'.val * 128 + e.val) = (2 * p.val + a'.val) * 128 + e.val; omega)
  pointwise [kv]
  rw [show IntOp.cmpi .eq (IntOp.shrui .vector (BitVec.ofNat 32 (a'.val * 128 + e.val)) 7#32) (IntOp.shrui .vector (BitVec.ofNat 32 (a.val * 64 + d.val)) 6#32) = _ from pair_eq a' a e d]
  by_cases h : a' = a
  · subst h
    rw [if_pos rfl, if_pos rfl]
    simp only [e1, e2]
    rfl
  · rw [if_neg h, if_neg h, WordCmp.select_zero]

theorem nxt_at (b : Fin 2) (n : Fin 4) (p : Fin 2) (v : FVec Ideal S512x512 .bf16) (kz : FVec Ideal S512x256 .bf16) (gc : Vec Ideal S1x256 .f32) (st : FVec Ideal S256x128 .f32) (y : Fin 256) (a : Fin 2) (d : Fin 64) :
    nxt b n p v kz gc st (ix2 y (row2 a d)) = gc (ix2 0 (col (head p a) d)) * st (ix2 y (row2 a d)) + kv b n p v kz (ix2 y (row2 a d)) := by
  unfold nxt
  generalize kv b n p v kz = w
  have e1 : ∀ q, (⟨128 * p.val + (a.val * 64 + d.val), q⟩ : Fin 256) = col (head p a) d := fun q => Fin.ext (by show 128 * p.val + (a.val * 64 + d.val) = (2 * p.val + a.val) * 64 + d.val; omega)
  pointwise []
  rw [e1]

theorem inter_pt (b : Fin 2) (n : Fin 4) (p : Fin 2) (qx : FVec Ideal S512x256 .bf16) (st : FVec Ideal S256x128 .f32) (s : Fin 64) (y : Fin 256) :
    inter b n p qx st (ix2 s y) = ∑ x : Fin 128, qx (ix2 (row b n s) ⟨128 * p.val + x.val, by omega⟩) * st (ix2 y x) := by
  pointwise [inter]

/-- Four blocks of rows, read at a row. -/
theorem rows4 (A : Fin 4 → FVec Ideal S128x512 .f32) (kk : Fin 4) (y : Fin 128) (j : Fin 512) :
    concatenate S512x512 0 [⟨S128x512, A 0⟩, ⟨S128x512, A 1⟩, ⟨S128x512, A 2⟩, ⟨S128x512, A 3⟩] concatenates_S128x512_S128x512_S128x512_S128x512_S512x512_d0 (ix2 ⟨128 * kk.val + y.val, by omega⟩ j) = A kk (ix2 y j) := by
  obtain rfl | rfl | rfl | rfl : kk = 0 ∨ kk = 1 ∨ kk = 2 ∨ kk = 3 := by omega
  all_goals pointwise []
  all_goals split_ifs <;> first | (exfalso; omega) | (congr 2; refine Fin.ext ?_; dsimp only; omega)

set_option maxHeartbeats 2000000 in
/-- Eight blocks of rows, read at a row. -/
theorem rows8 (A : Fin 2 → Fin 4 → FVec Ideal S64x512 .f32) (b : Fin 2) (n : Fin 4) (s : Fin 64) (j : Fin 512) :
    concatenate S512x512 0 [⟨S64x512, A 0 0⟩, ⟨S64x512, A 0 1⟩, ⟨S64x512, A 0 2⟩, ⟨S64x512, A 0 3⟩, ⟨S64x512, A 1 0⟩, ⟨S64x512, A 1 1⟩, ⟨S64x512, A 1 2⟩, ⟨S64x512, A 1 3⟩] concatenates_S64x512_S64x512_S64x512_S64x512_S64x512_S64x512_S64x512_S64x512_S512x512_d0 (ix2 (row b n s) j) = A b n (ix2 s j) := by
  obtain rfl | rfl : b = 0 ∨ b = 1 := by omega
  all_goals obtain rfl | rfl | rfl | rfl : n = 0 ∨ n = 1 ∨ n = 2 ∨ n = 3 := by omega
  all_goals pointwise []
  all_goals split_ifs <;> first | (exfalso; omega) | (congr 2; refine Fin.ext ?_; dsimp only; omega)

/-- Two pairs' columns, read at a column. -/
theorem cols2 (A : Fin 2 → FVec Ideal S64x256 .f32) (p : Fin 2) (s : Fin 64) (y : Fin 256) :
    concatenate S64x512 1 [⟨S64x256, A 0⟩, ⟨S64x256, A 1⟩] concatenates_S64x256_S64x256_S64x512_d1 (ix2 s ⟨p.val * 256 + y.val, by omega⟩) = A p (ix2 s y) := by
  obtain rfl | rfl : p = 0 ∨ p = 1 := by omega
  all_goals pointwise []
  all_goals split_ifs <;> first | (exfalso; omega) | (congr 2; refine Fin.ext ?_; dsimp only; omega)

/-- Four heads' columns of a block, read at a column. -/
theorem cols4 (A : Fin 4 → FVec Ideal S128x128 .f32) (h : Fin 4) (y e : Fin 128) :
    concatenate S128x512 1 [⟨S128x128, A 0⟩, ⟨S128x128, A 1⟩, ⟨S128x128, A 2⟩, ⟨S128x128, A 3⟩] concatenates_S128x128_S128x128_S128x128_S128x128_S128x512_d1 (ix2 y (vcol h e)) = A h (ix2 y e) := by
  obtain rfl | rfl | rfl | rfl : h = 0 ∨ h = 1 ∨ h = 2 ∨ h = 3 := by omega
  all_goals pointwise []
  all_goals split_ifs <;> first | (exfalso; omega) | (congr 2; refine Fin.ext ?_; dsimp only; omega)

/-- Four heads' columns of the trip, read at a column. -/
theorem heads4 (A : Fin 4 → FVec Ideal S512x128 .f32) (h : Fin 4) (y : Fin 512) (e : Fin 128) :
    concatenate S512x512 1 [⟨S512x128, A 0⟩, ⟨S512x128, A 1⟩, ⟨S512x128, A 2⟩, ⟨S512x128, A 3⟩] concatenates_S512x128_S512x128_S512x128_S512x128_S512x512_d1 (ix2 y (vcol h e)) = A h (ix2 y e) := by
  obtain rfl | rfl | rfl | rfl : h = 0 ∨ h = 1 ∨ h = 2 ∨ h = 3 := by omega
  all_goals pointwise []
  all_goals split_ifs <;> first | (exfalso; omega) | (congr 2; refine Fin.ext ?_; dsimp only; omega)

theorem cent_at (h : Fin 4) (o : FVec Ideal S512x512 .f32) (O : FVec Ideal Cert.ReferenceIdeal.S2x8448x4x128 .f32) (r : Fin 512) (b : Fin 2) (g : Fin 8448)
    (ho : ∀ (h : Fin 4) (e : Fin 128), o (ix2 r (vcol h e)) = O (ix4 b g h e)) (e : Fin 128) : cent h o (ix2 r e) = CEN O (ix4 b g h e) := by
  have e1 : ∀ (x : Fin 128) p, (⟨128 * h.val + x.val, p⟩ : Fin 512) = vcol h x := fun x p => Fin.ext (by show 128 * h.val + x.val = h.val * 128 + x.val; omega)
  rw [CEN_at]
  pointwise [cent]
  simp only [e1, ho]

theorem hnorm_at (h : Fin 4) (o : FVec Ideal S512x512 .f32) (O : FVec Ideal Cert.ReferenceIdeal.S2x8448x4x128 .f32) (r : Fin 512) (b : Fin 2) (g : Fin 8448)
    (ho : ∀ (h : Fin 4) (e : Fin 128), o (ix2 r (vcol h e)) = O (ix4 b g h e)) (e : Fin 128) : hnorm h o (ix2 r e) = NRM O (ix4 b g h e) := by
  rw [NRM_at]
  have hc := cent_at h o O r b g ho
  unfold hnorm
  generalize cent h o = c at hc ⊢
  pointwise []
  simp only [hc]

theorem gated_pt (z : FVec Ideal S512x1536 .f32) (o : FVec Ideal S512x512 .f32) (ng : Vec Ideal S1x1x512 .f32) (r : Fin 512) (h : Fin 4) (e : Fin 128) :
    gated z o ng (ix2 r (vcol h e)) = hnorm h o (ix2 r e) * ng (ix3 0 0 (vcol h e)) * (z (ix2 r ⟨1024 + (vcol h e).val, by omega⟩) * Ideal.logistic (z (ix2 r ⟨1024 + (vcol h e).val, by omega⟩))) := by
  rw [← heads4 (fun h => hnorm h o) h r e]
  unfold gated
  generalize concatenate S512x512 1 [⟨S512x128, hnorm 0 o⟩, ⟨S512x128, hnorm 1 o⟩, ⟨S512x128, hnorm 2 o⟩, ⟨S512x128, hnorm 3 o⟩] concatenates_S512x128_S512x128_S512x128_S512x128_S512x512_d1 = c
  pointwise []

/-- What the trip computes from its blocks are the reference's queries, keys, values and decays at the trip's chunks. -/
structure Tile (z : FVec Ideal Cert.ReferenceIdeal.S2x8448x9736 .f32) (u : Fin 33) (q k : FVec Ideal S512x256 .f32) (v : FVec Ideal S512x512 .bf16) (qx kz : FVec Ideal S512x256 .bf16) (D : Vec Ideal S4x128x128 .f32) (gc : Vec Ideal S1x256 .f32) : Prop where
  q : ∀ (b : Fin 2) (n : Fin 4) (s : Fin 64) (h : Fin 4) (d : Fin 64), q (ix2 (row b n s) (col h d)) = QC z (ix5 (chk u n) b h s d)
  k : ∀ (b : Fin 2) (n : Fin 4) (s : Fin 64) (h : Fin 4) (d : Fin 64), k (ix2 (row b n s) (col h d)) = KC z (ix5 (chk u n) b h s d)
  v : ∀ (b : Fin 2) (n : Fin 4) (s : Fin 64) (h : Fin 4) (e : Fin 128), v (ix2 (row b n s) (vcol h e)) = VC z (ix5 (chk u n) b h s e)
  qx : ∀ (b : Fin 2) (n : Fin 4) (s : Fin 64) (h : Fin 4) (d : Fin 64), qx (ix2 (row b n s) (col h d)) = QC z (ix5 (chk u n) b h s d) * XI (ix3 h s 0)
  kz : ∀ (b : Fin 2) (n : Fin 4) (s : Fin 64) (h : Fin 4) (d : Fin 64), kz (ix2 (row b n s) (col h d)) = KC z (ix5 (chk u n) b h s d) * ZE (ix3 h s 0)
  D : ∀ (h : Fin 4) (y y' : Fin 128), D (ix3 h y y') = KDEC (ix3 h y y')
  gc : ∀ (h : Fin 4) (d : Fin 64), gc (ix2 0 (col h d)) = GC (ix3 h 0 0)

/-- A pair's tile of the state after `c` chunks: the two heads' states on the diagonal, zeros off it. -/
def Inv (z : FVec Ideal Cert.ReferenceIdeal.S2x8448x9736 .f32) (c : ℕ) (b p : Fin 2) (st : FVec Ideal S256x128 .f32) : Prop :=
  ∀ (a' : Fin 2) (e : Fin 128) (a : Fin 2) (d : Fin 64), st (ix2 (srow a' e) (row2 a d)) = if a' = a then R z c (ix4 b (head p a) d e) else 0

variable {z : FVec Ideal Cert.ReferenceIdeal.S2x8448x9736 .f32} {u : Fin 33} {q k : FVec Ideal S512x256 .f32} {v : FVec Ideal S512x512 .bf16} {qx kz : FVec Ideal S512x256 .bf16} {D : Vec Ideal S4x128x128 .f32} {gc : Vec Ideal S1x256 .f32}

/-- One more chunk of the state. -/
theorem nxt_inv (T : Tile z u q k v qx kz D gc) (b : Fin 2) (n : Fin 4) (p : Fin 2) (st : FVec Ideal S256x128 .f32) (h : Inv z (u.val * 4 + n.val) b p st) :
    Inv z (u.val * 4 + n.val + 1) b p (nxt b n p v kz gc st) := by
  intro a' e a d
  rw [nxt_at, kv_at, h a' e a d, T.gc]
  by_cases hh : a' = a
  · subst hh
    rw [if_pos rfl, if_pos rfl, if_pos rfl]
    refine Eq.trans ?_ (R_at z (chk u n) b (head p a') d e).symm
    refine congrArg (_ + ·) (Finset.sum_congr rfl fun s _ => ?_)
    rw [T.v, T.kz, mul_comm]
  · rw [if_neg hh, if_neg hh, if_neg hh, mul_zero, zero_add]

/-- One chunk's output from the state. -/
theorem inter_at (T : Tile z u q k v qx kz D gc) (b : Fin 2) (n : Fin 4) (p : Fin 2) (st : FVec Ideal S256x128 .f32) (h : Inv z (u.val * 4 + n.val) b p st) (s : Fin 64) (a : Fin 2) (e : Fin 128) :
    inter b n p qx st (ix2 s (srow a e)) = OUTZ z (ix5 (chk u n) b (head p a) s e) := by
  rw [inter_pt, sum_half a _ fun a' s' hh => by rw [h a e a' s', if_neg (Ne.symm hh), mul_zero]]
  refine Finset.sum_congr rfl fun d _ => ?_
  have e1 : ∀ q, (⟨128 * p.val + (row2 a d).val, q⟩ : Fin 256) = col (head p a) d := fun q => Fin.ext (by show 128 * p.val + (a.val * 64 + d.val) = (2 * p.val + a.val) * 64 + d.val; omega)
  rw [h a e a d, if_pos rfl, e1, T.qx]
  rfl

theorem inter_row (T : Tile z u q k v qx kz D gc) (b : Fin 2) (n : Fin 4) (st st' : FVec Ideal S256x128 .f32) (h : Inv z (u.val * 4 + n.val) b 0 st) (h' : Inv z (u.val * 4 + n.val) b 1 st') (s : Fin 64) (p a : Fin 2) (e : Fin 128) :
    interRow b n qx st st' (ix2 s (vcol (head p a) e)) = OUTZ z (ix5 (chk u n) b (head p a) s e) := by
  have e1 : vcol (head p a) e = ⟨p.val * 256 + (srow a e).val, by omega⟩ := Fin.ext (by show (2 * p.val + a.val) * 128 + e.val = p.val * 256 + (a.val * 128 + e.val); omega)
  rw [e1]
  have hp : ∀ A : Fin 2 → FVec Ideal S64x256 .f32, A 0 = inter b n 0 qx st → A 1 = inter b n 1 qx st' → interRow b n qx st st' (ix2 s ⟨p.val * 256 + (srow a e).val, by omega⟩) = A p (ix2 s (srow a e)) := by
    intro A h0 h1
    rw [← cols2 A p s (srow a e), h0, h1]
    rfl
  rw [hp (fun p => if p = 0 then inter b n 0 qx st else inter b n 1 qx st') rfl rfl]
  obtain rfl | rfl : p = 0 ∨ p = 1 := by omega
  · exact inter_at T b n 0 st h s a e
  · exact inter_at T b n 1 st' h' s a e

/-- The output from inside the chunks is the reference's. -/
theorem intra_row (T : Tile z u q k v qx kz D gc) (b : Fin 2) (n : Fin 4) (s : Fin 64) (p d : Fin 2) (e : Fin 128) :
    intraRow ⟨2 * b.val + n.val / 2, by omega⟩ q k v D (ix2 (row2 ⟨n.val % 2, by omega⟩ s) (vcol (head p d) e)) = ATT (QC z) (KC z) (VC z) (ix5 (chk u n) b (head p d) s e) := by
  rw [ATT_at]
  unfold intraRow
  refine (cols4 (fun h => intra ⟨2 * b.val + n.val / 2, by omega⟩ h q k v D) (head p d) _ e).trans ?_
  refine (intra_at _ p d q k v D T.D _ s e).trans ?_
  have e1 : ∀ (s : Fin 64) (pm : n.val % 2 < 2) pf, (⟨128 * (2 * b.val + n.val / 2) + (row2 ⟨n.val % 2, pm⟩ s).val, pf⟩ : Fin 512) = row b n s := fun s pm pf => Fin.ext (by show 128 * (2 * b.val + n.val / 2) + (n.val % 2 * 64 + s.val) = 256 * b.val + 64 * n.val + s.val; omega)
  simp only [e1, T.q, T.k, T.v]

/-- The states entering the trip's chunks. -/
def entN (b p : Fin 2) (v : FVec Ideal S512x512 .bf16) (kz : FVec Ideal S512x256 .bf16) (gc : Vec Ideal S1x256 .f32) (s : Vec Ideal S2x2x256x128 .f32) (n : Fin 4) : FVec Ideal S256x128 .f32 :=
  match n with
  | 0 => ent0 b p s
  | 1 => ent1 b p v kz gc s
  | 2 => ent2 b p v kz gc s
  | 3 => ent3 b p v kz gc s

theorem ent_inv (T : Tile z u q k v qx kz D gc) (b p : Fin 2) (s : Vec Ideal S2x2x256x128 .f32) (h : Inv z (u.val * 4) b p (ent0 b p s)) (n : Fin 4) : Inv z (u.val * 4 + n.val) b p (entN b p v kz gc s n) := by
  have h1 : Inv z (u.val * 4 + 1) b p (ent1 b p v kz gc s) := nxt_inv T b 0 p _ h
  have h2 : Inv z (u.val * 4 + 2) b p (ent2 b p v kz gc s) := nxt_inv T b 1 p _ h1
  have h3 : Inv z (u.val * 4 + 3) b p (ent3 b p v kz gc s) := nxt_inv T b 2 p _ h2
  obtain rfl | rfl | rfl | rfl : n = 0 ∨ n = 1 ∨ n = 2 ∨ n = 3 := by omega
  · exact h
  · exact h1
  · exact h2
  · exact h3

theorem ent4_inv (T : Tile z u q k v qx kz D gc) (b p : Fin 2) (s : Vec Ideal S2x2x256x128 .f32) (h : Inv z (u.val * 4) b p (ent0 b p s)) : Inv z ((u.val + 1) * 4) b p (ent4 b p v kz gc s) := by
  have e : (u.val + 1) * 4 = u.val * 4 + (3 : Fin 4).val + 1 := by show (u.val + 1) * 4 = u.val * 4 + 3 + 1; omega
  rw [e]
  exact nxt_inv T b 3 p _ (ent_inv T b p s h 3)

theorem add_pt (x y : FVec Ideal S512x512 .f32) (i : S512x512.Idx) : addf x y i = x i + y i := rfl

/-- The trip's output before its norm is the reference's. -/
theorem ret_at (T : Tile z u q k v qx kz D gc) (st : Vec Ideal S2x2x256x128 .f32) (h : ∀ b p : Fin 2, Inv z (u.val * 4) b p (ent0 b p st)) (b : Fin 2) (n : Fin 4) (s : Fin 64) (hd : Fin 4) (e : Fin 128) :
    ret q k v qx kz D gc st (ix2 (row b n s) (vcol hd e)) = OH (ATT (QC z) (KC z) (VC z)) (OUTZ z) (ix4 b (grow (chk u n) s) hd e) := by
  obtain ⟨p, d, rfl⟩ : ∃ p d : Fin 2, hd = head p d := ⟨⟨hd.val / 2, by omega⟩, ⟨hd.val % 2, by omega⟩, Fin.ext (by show hd.val = 2 * (hd.val / 2) + hd.val % 2; omega)⟩
  rw [OH_at]
  unfold ret
  rw [add_pt]
  refine congrArg₂ (· + ·) ?_ ?_
  · have e1 : row b n s = ⟨128 * (2 * b.val + n.val / 2) + (row2 ⟨n.val % 2, by omega⟩ s).val, by omega⟩ := Fin.ext (by show 256 * b.val + 64 * n.val + s.val = 128 * (2 * b.val + n.val / 2) + (n.val % 2 * 64 + s.val); omega)
    rw [e1]
    exact (rows4 (fun kk => intraRow kk q k v D) ⟨2 * b.val + n.val / 2, by omega⟩ (row2 ⟨n.val % 2, by omega⟩ s) _).trans (intra_row T b n s p d e)
  · exact (rows8 (fun b n => interRow b n qx (entN b 0 v kz gc st n) (entN b 1 v kz gc st n)) b n s _).trans (inter_row T b n _ _ (ent_inv T b 0 st (h b 0) n) (ent_inv T b 1 st (h b 1) n) s p d e)

/-- The trip's result is the reference's. -/
theorem gated_at (zz : FVec Ideal S512x1536 .f32) (o : FVec Ideal S512x512 .f32) (ng : Vec Ideal S1x1x512 .f32) (O : FVec Ideal Cert.ReferenceIdeal.S2x8448x4x128 .f32) (n : FVec Ideal S4x512 .f32) (r : Fin 512) (b : Fin 2) (g : Fin 8448)
    (hz : ∀ j : Fin 1536, zz (ix2 r j) = z (ix3 b g ⟨1536 + j.val, by omega⟩)) (ho : ∀ (h : Fin 4) (e : Fin 128), o (ix2 r (vcol h e)) = O (ix4 b g h e)) (hn : ∀ j : Fin 512, ng (ix3 0 0 j) = n (ix2 1 j))
    (h : Fin 4) (e : Fin 128) : gated zz o ng (ix2 r (vcol h e)) = GATE (NRM O) z n (ix3 b g (vcol h e)) := by
  rw [gated_pt, hn, hnorm_at h o O r b g ho e, hz]
  refine Eq.trans ?_ (GATE_at (NRM O) z n b g h e).symm
  have e1 : ∀ p, (⟨1536 + (1024 + (h.val * 128 + e.val)), p⟩ : Fin 9736) = ⟨2560 + (h.val * 128 + e.val), by omega⟩ := fun p => Fin.ext (by show 1536 + (1024 + (h.val * 128 + e.val)) = 2560 + (h.val * 128 + e.val); omega)
  rw [e1]

end Cert.Ret

end
-- ==== Proof.RetFinal.lean ====
/- The retention mixer: the array the kernel leaves is the reference's composed term of the same arguments. -/
module

public import proofs.«01_k».proof.Defs
public import proofs.«01_k».proof.Proof.RetVal
public import Idealize.ShloMosaic.Lib.Pipeline.ValueKit
public import Idealize.ShloMosaic.Lib.Claim

@[expose] public section

set_option maxRecDepth 16384

noncomputable section

namespace Cert.Ret

open Cert.KernelIdeal Cert.KernelIdeal.Gen Idealize.ShloMosaic Idealize.ShloMosaic.TcCoe Cert.RetRef
open Idealize.ShloMosaic.Pipeline (Dat Cfg Window)

/-- Pieces that all agree with one array leave that array, wherever one of them lies. -/
theorem canon_of {s : Shape} {e : EltTy} (G : s.Idx → Elt Ideal e) (L : List (View.Piece (Elt Ideal) s e)) (h : ∀ p ∈ L, ∀ x, p.2 x = G (p.1.emb x)) (y : s.Idx) (hy : ∃ p ∈ L, y ∈ p.1.set) :
    View.canon L y = G y := by
  induction L with
  | nil =>
    obtain ⟨p, hp, _⟩ := hy
    exact absurd hp (List.not_mem_nil)
  | cons p L ih =>
    by_cases hm : y ∈ p.1.set
    · rw [← Rect.map_emb_univ, Finset.mem_map] at hm
      obtain ⟨x, _, rfl⟩ := hm
      exact (View.canon_cons_emb p.1 p.2 L x).trans (h p List.mem_cons_self x)
    · rw [View.canon_cons_of_not_mem p L hm]
      refine ih (fun p' hp' => h p' (List.mem_cons_of_mem _ hp')) ?_
      obtain ⟨p', hp', hy'⟩ := hy
      rcases List.mem_cons.1 hp' with rfl | hp'
      · exact absurd hy' hm
      · exact ⟨p', hp', hy'⟩

theorem scast_at (T : Vec Ideal S1x1x256x128 .f32) (x : Fin 256) (y : Fin 128) : shapeCast S256x128 T shapeCasts_S1x1x256x128_S256x128 (ix2 x y) = T (ix4 0 0 x y) := by
  pointwise []

theorem tcast_at (T : FVec Ideal S256x128 .f32) (x : S1x1x256x128.Idx) : shapeCast S1x1x256x128 T shapeCasts_S256x128_S1x1x256x128 x = T (ix2 (x 2) (x 3)) := by
  idx_vars x
  pointwise []

theorem ent0_at (b p : Fin 2) (s : Vec Ideal S2x2x256x128 .f32) (x : Fin 256) (y : Fin 128) : ent0 b p s (ix2 x y) = s (ix4 b p x y) := by
  unfold ent0
  refine (scast_at _ x y).trans (View.ld_unit_apply_of _ _ _ _ _ _ fun a => ?_)
  fin_cases a
  · rfl
  · rfl
  · exact (Nat.zero_add _).symm
  · exact (Nat.zero_add _).symm

theorem tile_eq (E : Fin 2 → Fin 2 → FVec Ideal S256x128 .f32) (b p : Fin 2) (x : Fin 256) (y : Fin 128) (i : S2x2x256x128.Idx) (h0 : (i 0).val = b.val) (h1 : (i 1).val = p.val) (h2 : (i 2).val = x.val) (h3 : (i 3).val = y.val) :
    E b p (ix2 x y) = E (i 0) (i 1) (ix2 (i 2) (i 3)) := by
  obtain rfl : i = ix4 b p x y := by
    funext a
    fin_cases a
    · exact Fin.ext h0
    · exact Fin.ext h1
    · exact Fin.ext h2
    · exact Fin.ext h3
  rfl

theorem piece_eq (E : Fin 2 → Fin 2 → FVec Ideal S256x128 .f32) (b p : Fin 2) (inb : ∀ a, (![b.val, p.val, 0, 0] : Fin 4 → ℕ) a + S1x1x256x128.size a ≤ S2x2x256x128.size a) (x : S1x1x256x128.Idx) :
    shapeCast S1x1x256x128 (E b p) shapeCasts_S256x128_S1x1x256x128 x = (fun i : S2x2x256x128.Idx => E (i 0) (i 1) (ix2 (i 2) (i 3))) ((Rect.unit (s := S2x2x256x128) ![b.val, p.val, 0, 0] S1x1x256x128.size inb).emb x) := by
  have x0 : (x 0).val < 1 := (x 0).isLt
  have x1 : (x 1).val < 1 := (x 1).isLt
  refine (tcast_at _ x).trans (tile_eq E b p (x 2) (x 3) ((Rect.unit (s := S2x2x256x128) ![b.val, p.val, 0, 0] S1x1x256x128.size inb).emb x) ?_ ?_ ?_ ?_)
  · refine (ValueKit.rect_emb_unit_val _ _ _ _ _).trans ?_
    show b.val + (x 0).val = b.val
    omega
  · refine (ValueKit.rect_emb_unit_val _ _ _ _ _).trans ?_
    show p.val + (x 1).val = p.val
    omega
  · exact (ValueKit.rect_emb_unit_val _ _ _ _ _).trans (Nat.zero_add _)
  · exact (ValueKit.rect_emb_unit_val _ _ _ _ _).trans (Nat.zero_add _)

/-- The state after a trip holds each pair's tile. -/
theorem stp_at (B : Blk Ideal) (w : BitVec 32) (k : Fin k0_t1_loop.trips) (s : Vec Ideal S2x2x256x128 .f32) (b p : Fin 2) : ent0 b p (stp B w k s) = tE B w k s b p := by
  funext i
  idx_vars i
  rw [ent0_at]
  unfold stp
  refine canon_of (fun i => tE B w k s (i 0) (i 1) (ix2 (i 2) (i 3))) (pcsS B w k s) ?_ (ix4 b p i0 i1) (cover_state B w k s _)
  intro pc hp x
  unfold pcsS at hp
  generalize tE B w k s = E at hp ⊢
  simp only [List.mem_cons, List.not_mem_nil, or_false] at hp
  rcases hp with rfl | rfl | rfl | rfl
  · exact piece_eq E 1 1 inb_S2x2x256x128_S1x1x256x128_1_1_0_0 x
  · exact piece_eq E 1 0 inb_S2x2x256x128_S1x1x256x128_1_0_0_0 x
  · exact piece_eq E 0 1 inb_S2x2x256x128_S1x1x256x128_0_1_0_0 x
  · exact piece_eq E 0 0 inb_S2x2x256x128_S1x1x256x128_0_0_0_0 x

variable {B : Blk Ideal} {t : Fin 11} {X : FVec Ideal S2x8448x1024 .f32} {gm : FVec Ideal S4x1024 .f32} {W : FVec Ideal S4x1024x9736 .f32} {ng : FVec Ideal S4x512 .f32}

theorem qsl_at (z : FVec Ideal S512x1536 .f32) (r : Fin 512) (j : Fin 256) : extractStridedSlice S512x256 ![0, 0] z slices_S512x1536_o0_0_S512x256 (ix2 r j) = z (ix2 r ⟨j.val, by omega⟩) := by
  pointwise []

theorem ksl2_at (z : FVec Ideal S512x1536 .f32) (r : Fin 512) (j : Fin 256) : extractStridedSlice S512x256 ![0, 256] z slices_S512x1536_o0_256_S512x256 (ix2 r j) = z (ix2 r ⟨256 + j.val, by omega⟩) := by
  pointwise []

theorem vlu_at (z : FVec Ideal S512x1536 .f32) (r : Fin 512) (j : Fin 512) : vlu z (ix2 r j) = z (ix2 r ⟨512 + j.val, by omega⟩) := by
  pointwise [vlu]

theorem tQ_at (H : Holds B t X gm W ng) (k : Fin k0_t1_loop.trips) (b : Fin 2) (n : Fin 4) (s : Fin 64) (h : Fin 4) (d : Fin 64) :
    tQ B (BitVec.ofNat 32 t.val) k (ix2 (row b n s) (col h d)) = QC (Z X gm W) (ix5 (chk (trip t k) n) b h s d) := by
  rw [QC_at]
  unfold tQ qry
  refine rot_at _ _ _ (QZ (Z X gm W)) b (grow (chk (trip t k) n) s) n s (fun h d => ?_) (fun j => tC_at B t X gm W ng H k n s j) (fun j => tS_at B t X gm W ng H k n s j) h d
  exact (qsl_at _ _ _).trans ((tZ_at B t X gm W ng H k b n s _).trans (QZ_at _ b _ h d).symm)

theorem tK_at (H : Holds B t X gm W ng) (k : Fin k0_t1_loop.trips) (b : Fin 2) (n : Fin 4) (s : Fin 64) (h : Fin 4) (d : Fin 64) :
    tK B (BitVec.ofNat 32 t.val) k (ix2 (row b n s) (col h d)) = KC (Z X gm W) (ix5 (chk (trip t k) n) b h s d) := by
  rw [KC_at]
  unfold tK key
  refine congrArg (· * Ideal.ofBits .f32 0x3E000000#32) ?_
  refine rot_at _ _ _ (KZ (Z X gm W)) b (grow (chk (trip t k) n) s) n s (fun h d => ?_) (fun j => tC_at B t X gm W ng H k n s j) (fun j => tS_at B t X gm W ng H k n s j) h d
  refine (ksl2_at _ _ _).trans ((tZ_at B t X gm W ng H k b n s _).trans ((congrArg (fun j => Z X gm W (ix3 b (grow (chk (trip t k) n) s) j)) (Fin.ext ?_)).trans (KZ_at _ b _ h d).symm))
  show 1536 + (256 + (h.val * 64 + d.val)) = 1792 + (h.val * 64 + d.val)
  omega

theorem tV_at (H : Holds B t X gm W ng) (k : Fin k0_t1_loop.trips) (b : Fin 2) (n : Fin 4) (s : Fin 64) (h : Fin 4) (e : Fin 128) :
    tV B (BitVec.ofNat 32 t.val) k (ix2 (row b n s) (vcol h e)) = VC (Z X gm W) (ix5 (chk (trip t k) n) b h s e) := by
  rw [VC_at]
  unfold tV
  refine (vlu_at _ _ _).trans ((tZ_at B t X gm W ng H k b n s _).trans (congrArg (fun j => Z X gm W (ix3 b (grow (chk (trip t k) n) s) j)) (Fin.ext ?_)))
  show 1536 + (512 + (h.val * 128 + e.val)) = 2048 + (h.val * 128 + e.val)
  omega

theorem ld2_at (T : Vec Ideal S128x256 .f32) (y : Fin 128) (j : Fin 256) : View.ld T (Rect.unit ![0, 0] S128x256.size inb_S128x256_S128x256_0_0) (ix2 y j) = T (ix2 y j) := by
  refine View.ld_unit_apply_of _ _ _ _ _ _ fun a => ?_
  fin_cases a
  · exact (Nat.zero_add _).symm
  · exact (Nat.zero_add _).symm

/-- The trip's tiles are the reference's. -/
theorem tile_of (H : Holds B t X gm W ng) (k : Fin k0_t1_loop.trips) :
    Tile (Z X gm W) (trip t k) (tQ B (BitVec.ofNat 32 t.val) k) (tK B (BitVec.ofNat 32 t.val) k) (tV B (BitVec.ofNat 32 t.val) k) (tQx B (BitVec.ofNat 32 t.val) k) (tKz B (BitVec.ofNat 32 t.val) k) B.d B.gc := by
  refine ⟨tQ_at H k, tK_at H k, tV_at H k, fun b n s h d => ?_, fun b n s h d => ?_, H.d, fun h d => (H.gc _).trans (KGC_at h d)⟩
  · unfold tQx
    rw [dcy_at, tQ_at H, ld2_at, H.xi, KXI_at]
  · unfold tKz
    rw [dcy_at, tK_at H, ld2_at, H.ze, KZE_at]

/-- The state holds what the reference's recurrence carries after `c` chunks. -/
def Good (z : FVec Ideal Cert.ReferenceIdeal.S2x8448x9736 .f32) (c : ℕ) (s : Vec Ideal S2x2x256x128 .f32) : Prop := ∀ b p : Fin 2, Inv z c b p (ent0 b p s)

theorem good_stp (H : Holds B t X gm W ng) (k : Fin k0_t1_loop.trips) (s : Vec Ideal S2x2x256x128 .f32) (h : Good (Z X gm W) ((t.val * 3 + k.val) * 4) s) :
    Good (Z X gm W) ((t.val * 3 + k.val + 1) * 4) (stp B (BitVec.ofNat 32 t.val) k s) := by
  intro b p
  rw [stp_at]
  exact ent4_inv (tile_of H k) b p s (h b p)

theorem good_st1 (H : Holds B t X gm W ng) (s : Vec Ideal S2x2x256x128 .f32) (h : Good (Z X gm W) (t.val * 12) s) :
    Good (Z X gm W) ((t.val * 3 + 1) * 4) (st1 B (BitVec.ofNat 32 t.val) s) :=
  good_stp H k0 s (by rw [show (t.val * 3 + k0.val) * 4 = t.val * 12 by show (t.val * 3 + 0) * 4 = t.val * 12; omega]; exact h)

theorem good_st2 (H : Holds B t X gm W ng) (s : Vec Ideal S2x2x256x128 .f32) (h : Good (Z X gm W) (t.val * 12) s) :
    Good (Z X gm W) ((t.val * 3 + 2) * 4) (st2 B (BitVec.ofNat 32 t.val) s) :=
  good_stp H k1 _ (good_st1 H s h)

theorem good_st3 (H : Holds B t X gm W ng) (s : Vec Ideal S2x2x256x128 .f32) (h : Good (Z X gm W) (t.val * 12) s) :
    Good (Z X gm W) ((t.val + 1) * 12) (st3 B (BitVec.ofNat 32 t.val) s) := by
  rw [show (t.val + 1) * 12 = (t.val * 3 + k2.val + 1) * 4 by show (t.val + 1) * 12 = (t.val * 3 + 2 + 1) * 4; omega]
  exact good_stp H k2 _ (good_st2 H s h)

theorem good_zero (z : FVec Ideal Cert.ReferenceIdeal.S2x8448x9736 .f32) : Good z 0 (k0_pay1 (F := Ideal)) := by
  intro b p a' e a d
  have e0 : ∀ i, (k0_pay1 (F := Ideal)) i = (0 : EReal) := by
    intro i
    idx_vars i
    pointwise [k0_pay1]
  rw [ent0_at, R_zero]
  exact (e0 _).trans (by split_ifs <;> rfl)

/-- A trip's result is the reference's at the trip's rows. -/
theorem tOut_at (H : Holds B t X gm W ng) (k : Fin k0_t1_loop.trips) (st : Vec Ideal S2x2x256x128 .f32) (hs : Good (Z X gm W) ((t.val * 3 + k.val) * 4) st) (b : Fin 2) (n : Fin 4) (s : Fin 64) (h : Fin 4) (e : Fin 128) :
    tOut B (BitVec.ofNat 32 t.val) k st (ix2 (row b n s) (vcol h e)) = REF X gm W ng (ix3 b (grow (chk (trip t k) n) s) (vcol h e)) := by
  unfold tOut REF
  exact gated_at _ _ _ (OH (ATT (QC (Z X gm W)) (KC (Z X gm W)) (VC (Z X gm W))) (OUTZ (Z X gm W))) ng (row b n s) b (grow (chk (trip t k) n) s)
    (fun j => tZ_at B t X gm W ng H k b n s j) (fun h e => ret_at (tile_of H k) st hs b n s h e) H.ng h e

theorem rows_at (b : Fin 2) (o : FVec Ideal S512x512 .f32) (x : Fin 1) (y : Fin 256) (j : Fin 512) : rows b o (ix3 x y j) = o (ix2 ⟨256 * b.val + y.val, by omega⟩ j) := by
  pointwise [rows]

/-- The same over a whole block of the trip's rows. -/
theorem tRows_at (H : Holds B t X gm W ng) (k : Fin k0_t1_loop.trips) (st : Vec Ideal S2x2x256x128 .f32) (hs : Good (Z X gm W) ((t.val * 3 + k.val) * 4) st) (b : Fin 2) (x : Fin 1) (y : Fin 256) (j : Fin 512) :
    rows b (tOut B (BitVec.ofNat 32 t.val) k st) (ix3 x y j) = REF X gm W ng (ix3 b ⟨t.val * 768 + (k.val * 256 + y.val), by have := trips_lt k; omega⟩ j) := by
  have hk := trips_lt k
  obtain ⟨n, s, rfl⟩ : ∃ (n : Fin 4) (s : Fin 64), y = ⟨64 * n.val + s.val, by omega⟩ := ⟨⟨y.val / 64, by omega⟩, ⟨y.val % 64, by omega⟩, Fin.ext (by show y.val = 64 * (y.val / 64) + y.val % 64; omega)⟩
  obtain ⟨h, e, rfl⟩ : ∃ (h : Fin 4) (e : Fin 128), j = vcol h e := ⟨⟨j.val / 128, by omega⟩, ⟨j.val % 128, by omega⟩, Fin.ext (by show j.val = j.val / 128 * 128 + j.val % 128; omega)⟩
  rw [rows_at]
  refine Eq.trans ?_ ((tOut_at H k st hs b n s h e).trans ?_)
  · refine congrArg (fun r => tOut B (BitVec.ofNat 32 t.val) k st (ix2 r (vcol h e))) (Fin.ext ?_)
    show 256 * b.val + (64 * n.val + s.val) = 256 * b.val + 64 * n.val + s.val
    omega
  · refine congrArg (fun r => REF X gm W ng (ix3 b r (vcol h e))) (Fin.ext ?_)
    show ((t.val * 3 + k.val) * 4 + n.val) * 64 + s.val = t.val * 768 + (k.val * 256 + (64 * n.val + s.val))
    omega

theorem rect_eq (Y : FVec Ideal S2x8448x512 .bf16) (O : FVec Ideal S512x512 .f32) (b : Fin 2) (k : Fin k0_t1_loop.trips) (off : Fin 3 → ℕ) (ho : off = ![b.val, k.val * 256, 0]) (inb : ∀ a, off a + S1x256x512.size a ≤ S2x768x512.size a)
    (hr : ∀ (x : Fin 1) (y : Fin 256) (j : Fin 512), rows b O (ix3 x y j) = Y (ix3 b ⟨t.val * 768 + (k.val * 256 + y.val), by have := trips_lt k; omega⟩ j)) (x : S1x256x512.Idx) :
    rows b O x = (fun i : S2x768x512.Idx => Y (ix3 (i 0) ⟨t.val * 768 + (i 1).val, by have : (i 1).val < 768 := (i 1).isLt; omega⟩ (i 2))) ((Rect.unit (s := S2x768x512) off S1x256x512.size inb).emb x) := by
  subst ho
  have x0 : (x 0).val < 1 := (x 0).isLt
  have e : (Rect.unit (s := S2x768x512) ![b.val, k.val * 256, 0] S1x256x512.size inb).emb x = ix3 b ⟨k.val * 256 + (x 1).val, by have := trips_lt k; have : (x 1).val < 256 := (x 1).isLt; omega⟩ (x 2) := by
    funext a
    refine Fin.ext ((ValueKit.rect_emb_unit_val _ _ _ _ _).trans ?_)
    fin_cases a
    · show b.val + (x 0).val = b.val
      omega
    · rfl
    · exact Nat.zero_add _
  rw [e]
  idx_vars x
  exact hr _ _ _

/-- What a grid point leaves in its block of the result. -/
theorem outs_eq (H : Holds B t X gm W ng) (s : Vec Ideal S2x2x256x128 .f32) (h : Good (Z X gm W) (t.val * 12) s) (b : Fin 2) (y : Fin 768) (j : Fin 512) :
    View.canon (outs B (BitVec.ofNat 32 t.val) s) (ix3 b y j) = REF X gm W ng (ix3 b ⟨t.val * 768 + y.val, by omega⟩ j) := by
  have h0 := good_st1 H s h
  have h2 := good_st2 H s h
  refine canon_of (fun i : S2x768x512.Idx => REF X gm W ng (ix3 (i 0) ⟨t.val * 768 + (i 1).val, by have : (i 1).val < 768 := (i 1).isLt; omega⟩ (i 2))) (outs B (BitVec.ofNat 32 t.val) s) ?_ (ix3 b y j) (cover_outs B _ s _)
  have key : ∀ (k : Fin k0_t1_loop.trips) (st : Vec Ideal S2x2x256x128 .f32), Good (Z X gm W) ((t.val * 3 + k.val) * 4) st → ∀ p ∈ pcsO B (BitVec.ofNat 32 t.val) k st, ∀ x,
      p.2 x = REF X gm W ng (ix3 (p.1.emb x 0) ⟨t.val * 768 + (p.1.emb x 1).val, by have : (p.1.emb x 1).val < 768 := (p.1.emb x 1).isLt; omega⟩ (p.1.emb x 2)) := by
    intro k st hs p hp
    have hr := tRows_at H k st hs
    unfold pcsO at hp
    generalize tOut B (BitVec.ofNat 32 t.val) k st = O at hp hr
    simp only [List.mem_cons, List.not_mem_nil, or_false] at hp
    rcases hp with rfl | rfl
    · exact fun x => rect_eq (REF X gm W ng) O 1 k _ (off5_eq k) (k0_off5_inb k) (hr 1) x
    · exact fun x => rect_eq (REF X gm W ng) O 0 k _ (off4_eq k) (k0_off4_inb k) (hr 0) x
  intro p hp
  unfold outs at hp
  rcases List.mem_append.1 hp with hp | hp
  · rcases List.mem_append.1 hp with hp | hp
    · exact key k2 _ h2 p hp
    · exact key k1 _ h0 p hp
  · exact key k0 _ (by rw [show (t.val * 3 + k0.val) * 4 = t.val * 12 by show (t.val * 3 + 0) * 4 = t.val * 12; omega]; exact h) p hp

variable (m : (ℓ : Loc nD τ sig) → Buf (Elt Ideal) ℓ)

theorem idx : ∀ t : Fin cfg0.N, win0_0.index t = ![0, t.val, 0] ∧ win0_1.index t = ![1, 0, 0] ∧ win0_2.index t = ![1, 0, 1536]
    ∧ win0_3.index t = ![t.val, 0] ∧ win0_4.index t = ![t.val, 0] ∧ win0_5.index t = ![0, 0, 0]
    ∧ win0_6.index t = ![0, 0] ∧ win0_7.index t = ![0, 0] ∧ win0_8.index t = ![0, 0]
    ∧ win0_9.index t = ![1, 0, 0] ∧ win0_10.index t = ![0, t.val, 0] :=
  (by decide +kernel : ∀ t : Fin grid0.N, _)

theorem lt_N (t : Fin cfg0.N) : t.val < 11 := (by decide +kernel : ∀ t : Fin grid0.N, t.val < 11) t

theorem pt_eq : ∀ t : Fin cfg0.N, pt t = BitVec.ofNat 32 t.val := (by decide +kernel : ∀ t : Fin grid0.N, _)

theorem emb2 (t : Fin cfg0.N) (y : S1x1024x1536.Idx) (a : Fin 3) :
    ((((View.whole main_v0).slice (win0_2.rect t)).emb y a : Fin _) : ℕ) = win0_2.index t a + (y a).val :=
  ValueKit.view_emb_slice_whole_unit_val main_v0 _ _ _ y a

theorem gcast_at (g : FVec Ideal S4x1024 .f32) (j : Fin 1024) : shapeCast S4x1x1024 g shapeCasts_S4x1024_S4x1x1024 (ix3 1 0 j) = g (ix2 1 j) := by
  pointwise []

theorem ncast_at (g : FVec Ideal S4x512 .f32) (j : Fin 512) : shapeCast S4x1x512 g shapeCasts_S4x512_S4x1x512 (ix3 1 0 j) = g (ix2 1 j) := by
  pointwise []

theorem blk_x (c : Dev nD) (t : Fin cfg0.N) (b : Fin 2) (y : Fin 768) (j : Fin 1024) : iblk m c 0 t (ix3 b y j) = V m c main_arg0 (ix3 b ⟨t.val * 768 + y.val, by have := lt_N t; omega⟩ j) := by
  blk_point [iblk, idx t]

theorem blk_g (c : Dev nD) (t : Fin cfg0.N) (j : Fin 1024) : iblk m c 1 t (ix3 0 0 j) = V m c main_v90 (ix3 1 0 j) := by
  blk_point [iblk, idx t]

theorem blk_w (c : Dev nD) (t : Fin cfg0.N) (x : Fin 1024) (j : Fin 1536) : iblk m c 2 t (ix3 0 x j) = V m c main_v0 (ix3 1 x ⟨1536 + j.val, by omega⟩) := by
  blk_point [iblk, idx t]
  · exact (emb2 t _ 0).trans (by rw [(idx t).2.2.1]; rfl)
  · exact (emb2 t _ 1).trans (by rw [(idx t).2.2.1]; exact Nat.zero_add _)
  · exact (emb2 t _ 2).trans (by rw [(idx t).2.2.1]; rfl)

theorem blk_c (c : Dev nD) (t : Fin cfg0.N) (y : Fin 768) (j : Fin 256) : iblk m c 3 t (ix2 y j) = V m c main_v21 (ix2 ⟨t.val * 768 + y.val, by have := lt_N t; omega⟩ j) := by
  blk_point [iblk, idx t]

theorem blk_s (c : Dev nD) (t : Fin cfg0.N) (y : Fin 768) (j : Fin 256) : iblk m c 4 t (ix2 y j) = V m c main_v26 (ix2 ⟨t.val * 768 + y.val, by have := lt_N t; omega⟩ j) := by
  blk_point [iblk, idx t]

theorem blk_d (c : Dev nD) (t : Fin cfg0.N) (h : Fin 4) (y y' : Fin 128) : iblk m c 5 t (ix3 h y y') = V m c main_v63 (ix3 h y y') := by
  blk_point [iblk, idx t]

theorem blk_xi (c : Dev nD) (t : Fin cfg0.N) (y : Fin 128) (j : Fin 256) : iblk m c 6 t (ix2 y j) = V m c main_v73 (ix2 y j) := by
  blk_point [iblk, idx t]

theorem blk_ze (c : Dev nD) (t : Fin cfg0.N) (y : Fin 128) (j : Fin 256) : iblk m c 7 t (ix2 y j) = V m c main_v83 (ix2 y j) := by
  blk_point [iblk, idx t]

theorem blk_gc (c : Dev nD) (t : Fin cfg0.N) (j : Fin 256) : iblk m c 8 t (ix2 0 j) = V m c main_v89 (ix2 0 j) := by
  blk_point [iblk, idx t]

theorem blk_ng (c : Dev nD) (t : Fin cfg0.N) (j : Fin 512) : iblk m c 9 t (ix3 0 0 j) = V m c main_v91 (ix3 1 0 j) := by
  blk_point [iblk, idx t]

theorem val_x (c : Dev nD) (t : Fin cfg0.N) (b : Fin 2) (y : Fin 768) (j : Fin 1024) : (blk m c t).x (ix3 b y j) = m ((c.tc : Thread nD τ).loc main_arg0) (ix3 b ⟨t.val * 768 + y.val, by have := lt_N t; omega⟩ j) := by
  refine (blk_x m c t b y j).trans ?_
  rw [V_x]

theorem val_g (c : Dev nD) (t : Fin cfg0.N) (j : Fin 1024) : (blk m c t).g (ix3 0 0 j) = m ((c.tc : Thread nD τ).loc main_arg1) (ix2 1 j) := by
  refine (blk_g m c t j).trans ?_
  rw [V_g]
  exact gcast_at _ j

theorem val_w (c : Dev nD) (t : Fin cfg0.N) (x : Fin 1024) (j : Fin 1536) : (blk m c t).w (ix3 0 x j) = m ((c.tc : Thread nD τ).loc main_arg2) (ix3 1 x ⟨1536 + j.val, by omega⟩) := by
  refine (blk_w m c t x j).trans ?_
  rw [V_w]
  rfl

theorem val_c (c : Dev nD) (t : Fin cfg0.N) (y : Fin 768) (j : Fin 256) : (blk m c t).c (ix2 y j) = KCOS (ix2 ⟨t.val * 768 + y.val, by have := lt_N t; omega⟩ j) := by
  refine (blk_c m c t y j).trans ?_
  rw [V_c]

theorem val_s (c : Dev nD) (t : Fin cfg0.N) (y : Fin 768) (j : Fin 256) : (blk m c t).s (ix2 y j) = KSIN (ix2 ⟨t.val * 768 + y.val, by have := lt_N t; omega⟩ j) := by
  refine (blk_s m c t y j).trans ?_
  rw [V_s]

theorem val_d (c : Dev nD) (t : Fin cfg0.N) (h : Fin 4) (y y' : Fin 128) : (blk m c t).d (ix3 h y y') = KDEC (ix3 h y y') := by
  refine (blk_d m c t h y y').trans ?_
  rw [V_d]

theorem val_xi (c : Dev nD) (t : Fin cfg0.N) (y : Fin 128) (j : Fin 256) : (blk m c t).xi (ix2 y j) = KXI (ix2 y j) := by
  refine (blk_xi m c t y j).trans ?_
  rw [V_xi]

theorem val_ze (c : Dev nD) (t : Fin cfg0.N) (y : Fin 128) (j : Fin 256) : (blk m c t).ze (ix2 y j) = KZE (ix2 y j) := by
  refine (blk_ze m c t y j).trans ?_
  rw [V_ze]

theorem val_gc (c : Dev nD) (t : Fin cfg0.N) (j : Fin 256) : (blk m c t).gc (ix2 0 j) = KGC (ix2 0 j) := by
  refine (blk_gc m c t j).trans ?_
  rw [V_gc]

theorem val_ng (c : Dev nD) (t : Fin cfg0.N) (j : Fin 512) : (blk m c t).ng (ix3 0 0 j) = m ((c.tc : Thread nD τ).loc main_arg3) (ix2 1 j) := by
  refine (blk_ng m c t j).trans ?_
  rw [V_ng]
  exact ncast_at _ j

/-- The blocks of a grid point hold the arguments and the tables. -/
theorem holds_blk (c : Dev nD) (t : Fin cfg0.N) : Holds (blk m c t) ⟨t.val, lt_N t⟩ (m ((c.tc : Thread nD τ).loc main_arg0)) (m ((c.tc : Thread nD τ).loc main_arg1)) (m ((c.tc : Thread nD τ).loc main_arg2)) (m ((c.tc : Thread nD τ).loc main_arg3)) := by
  exact ⟨val_x m c t, val_g m c t, val_w m c t, val_c m c t, val_s m c t, val_d m c t, val_xi m c t, val_ze m c t, val_gc m c t, val_ng m c t⟩

/-- The state every grid point finds. -/
theorem good_at (c : Dev nD) (n : ℕ) (hn : n ≤ cfg0.N) :
    Good (Z (m ((c.tc : Thread nD τ).loc main_arg0)) (m ((c.tc : Thread nD τ).loc main_arg1)) (m ((c.tc : Thread nD τ).loc main_arg2))) (n * 12) (stateAt m c n) := by
  induction n with
  | zero => exact good_zero _
  | succ n ih =>
    have h := ih (Nat.le_of_succ_le hn)
    have hs := stateAt_succ m c ⟨n, hn⟩
    have hg := good_st3 (holds_blk m c ⟨n, hn⟩) _ h
    rw [pt_eq] at hs
    rw [show stateAt m c (n + 1) = _ from hs]
    exact hg

/-- The result's array after the run. -/
theorem final (c : Dev nD) : (dats m 0 c).arrAt 10 (cfgs 0).N
    = REF (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 10 _ (by decide +kernel) fun t _ y => ?_
  have ho := fun b y j => outs_eq (holds_blk m c t) _ (good_at m c t.val (Nat.le_of_lt t.isLt)) b y j
  rw [← pt_eq] at ho
  generalize REF (m ((c.tc : Thread nD τ).loc main_arg0)) (m ((c.tc : Thread nD τ).loc main_arg1)) (m ((c.tc : Thread nD τ).loc main_arg2)) (m ((c.tc : Thread nD τ).loc main_arg3)) = Y at ho ⊢
  have ha := after_10 m c t
  blk_simp
  rw [ha]
  idx_vars y
  refine (ho y0 y1 y2).trans ?_
  blk_point [idx t]

/-- From agreeing arguments the two programs end with the same result. -/
theorem algebraic : Cert.algebraic_KernelIdeal_ReferenceIdeal := by
  pair_intro
  · run_from Cert.Ret.run_main m g
    · exact V_main_arg1 m c
    · exact V_main_arg2 m c
    · exact V_main_arg3 m c
  · run_from Cert.RetRef.run m' g'
    refine Eq.trans ?_ (final m c).symm
    simp only [hagree c]

end Cert.Ret

end
-- ==== Proof.Merge.lean ====
/- The merge of the four branches: the array the kernel leaves is the reference's composed term of the same arguments. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Claim
public import Idealize.ShloMosaic.Lib.WordCmp
public import Idealize.ShloMosaic.Lib.Routing.Words

@[expose] public section

set_option maxRecDepth 16384

noncomputable section

namespace Cert.Merge

section
open Cert.Reference2Ideal Cert.Reference2Ideal.Gen Idealize.ShloMosaic Idealize.ShloMosaic.TcCoe

/-- The reference's row mask: one from the first real row of each sequence on, zero on the padding before it. -/
def MASK : FVec Ideal S16896 .f32 :=
  uitofp .f32 (cmpi .sge (select (andi (cmpi .ne (cmpi .slt (Host.remsi (iotaInDim S16896 32 0) (broadcastInDim S16896 ![] bcast_S_S16896 (select (cmpi .eq (id (constantI S_ 32 8448#32)) (constantI S_ 32 0#32)) (constantI S_ 32 1#32) (id (constantI S_ 32 8448#32))))) (broadcastInDim S16896 ![] bcast_S_S16896 (constantI S_ 32 0#32))) (broadcastInDim S16896 ![] bcast_S_S16896 (cmpi .slt (select (cmpi .eq (id (constantI S_ 32 8448#32)) (constantI S_ 32 0#32)) (constantI S_ 32 1#32) (id (constantI S_ 32 8448#32))) (constantI S_ 32 0#32)))) (cmpi .ne (Host.remsi (iotaInDim S16896 32 0) (broadcastInDim S16896 ![] bcast_S_S16896 (select (cmpi .eq (id (constantI S_ 32 8448#32)) (constantI S_ 32 0#32)) (constantI S_ 32 1#32) (id (constantI S_ 32 8448#32))))) (broadcastInDim S16896 ![] bcast_S_S16896 (constantI S_ 32 0#32)))) (addi (Host.remsi (iotaInDim S16896 32 0) (broadcastInDim S16896 ![] bcast_S_S16896 (select (cmpi .eq (id (constantI S_ 32 8448#32)) (constantI S_ 32 0#32)) (constantI S_ 32 1#32) (id (constantI S_ 32 8448#32))))) (broadcastInDim S16896 ![] bcast_S_S16896 (select (cmpi .eq (id (constantI S_ 32 8448#32)) (constantI S_ 32 0#32)) (constantI S_ 32 1#32) (id (constantI S_ 32 8448#32))))) (Host.remsi (iotaInDim S16896 32 0) (broadcastInDim S16896 ![] bcast_S_S16896 (select (cmpi .eq (id (constantI S_ 32 8448#32)) (constantI S_ 32 0#32)) (constantI S_ 32 1#32) (id (constantI S_ 32 8448#32)))))) (broadcastInDim S16896 ![] bcast_S_S16896 (constantI S_ 32 240#32)))

/-- The reference's normed and masked rows. -/
def HN (X : FVec Ideal S16896x1024 .f32) (g : FVec Ideal S4x1024 .f32) : FVec Ideal S16896x1024 .f32 :=
  mulf (mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 (shapeCast _ (extractStridedSlice S1x1024 ![1, 0] g slices_S4x1024_S1x1024_1_0) shapeCasts_S1x1024_S1024)))) (broadcastInDim S16896x1024 ![0, 1] bcast_S16896x1_S16896x1024_0_1 (broadcastInDim S16896x1 ![0] bcast_S16896_S16896x1_0 MASK))

/-- The reference's whole input projection. -/
def Z (X : FVec Ideal S16896x1024 .f32) (g : FVec Ideal S4x1024 .f32) (Win : FVec Ideal S4x1024x9736 .f32) :
    FVec Ideal S16896x9736 .f32 :=
  Host.dotGeneral dot_S16896x1024_S1024x9736_S16896x9736_1_0_0_1_n_n none (HN X g) (shapeCast _ (extractStridedSlice S1x1024x9736 ![1, 0, 0] Win slices_S4x1024x9736_S1x1024x9736_1_0_0) shapeCasts_S1x1024x9736_S1024x9736)

/-- The reference's smooth rectifier of the third branch. -/
def GE (Y5 : FVec Ideal S16896x512 .f32) : FVec Ideal S16896x512 .f32 :=
  mulf Y5 (mulf (broadcastInDim S16896x512 ![] bcast_S_S16896x512 (constant S_ .f32 0x3F000000#32)) (addf (broadcastInDim S16896x512 ![] bcast_S_S16896x512 (constant S_ .f32 0x3F800000#32)) (Host.tanh (mulf (broadcastInDim S16896x512 ![] bcast_S_S16896x512 (constant S_ .f32 0x3F4C422A#32)) (addf Y5 (mulf (broadcastInDim S16896x512 ![] bcast_S_S16896x512 (constant S_ .f32 0x3D372713#32)) (mulf (mulf Y5 Y5) Y5)))))))

/-- The reference's result as one term of its arguments. -/
def REF (X : FVec Ideal S16896x1024 .f32) (B0 B1 : FVec Ideal S16896x512 .bf16) (Y5 : FVec Ideal S16896x512 .f32)
    (B3 : FVec Ideal S16896x512 .bf16) (g : FVec Ideal S4x1024 .f32) (Win : FVec Ideal S4x1024x9736 .f32)
    (Wglu : FVec Ideal S4x512x512 .f32) (Wb : FVec Ideal S4x4x512x1024 .f32) (Wo : FVec Ideal S4x1024x1024 .f32) :
    FVec Ideal S16896x1024 .f32 :=
  addf X (Host.dotGeneral dot_S16896x1024_S1024x1024_S16896x1024_1_0_0_1_n_n none (addf (addf (addf (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 0] (extractStridedSlice S16896x4096 ![0, 5640] (Z X g Win) slices_S16896x9736_S16896x4096_0_5640) slices_S16896x4096_S16896x1024_0_0))))) (Host.dotGeneral dot_S16896x512_S512x1024_S16896x1024_1_0_0_1_n_n none (extf .f32 B0 bitsLt_bf16_f32) (shapeCast _ (extractStridedSlice S1x1x512x1024 ![1, 0, 0, 0] Wb slices_S4x4x512x1024_S1x1x512x1024_1_0_0_0) shapeCasts_S1x1x512x1024_S512x1024))) (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 1024] (extractStridedSlice S16896x4096 ![0, 5640] (Z X g Win) slices_S16896x9736_S16896x4096_0_5640) slices_S16896x4096_S16896x1024_0_1024))))) (Host.dotGeneral dot_S16896x512_S512x1024_S16896x1024_1_0_0_1_n_n none (extf .f32 B1 bitsLt_bf16_f32) (shapeCast _ (extractStridedSlice S1x1x512x1024 ![1, 1, 0, 0] Wb slices_S4x4x512x1024_S1x1x512x1024_1_1_0_0) shapeCasts_S1x1x512x1024_S512x1024)))) (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 2048] (extractStridedSlice S16896x4096 ![0, 5640] (Z X g Win) slices_S16896x9736_S16896x4096_0_5640) slices_S16896x4096_S16896x1024_0_2048))))) (Host.dotGeneral dot_S16896x512_S512x1024_S16896x1024_1_0_0_1_n_n none (mulf (GE Y5) (Host.divf (broadcastInDim S16896x512 ![] bcast_S_S16896x512 (constant S_ .f32 0x3F800000#32)) (addf (broadcastInDim S16896x512 ![] bcast_S_S16896x512 (constant S_ .f32 0x3F800000#32)) (Host.exp (Host.negf (Host.dotGeneral dot_S16896x512_S512x512_S16896x512_1_0_0_1_n_n none (GE Y5) (shapeCast _ (extractStridedSlice S1x512x512 ![1, 0, 0] Wglu slices_S4x512x512_S1x512x512_1_0_0) shapeCasts_S1x512x512_S512x512))))))) (shapeCast _ (extractStridedSlice S1x1x512x1024 ![1, 2, 0, 0] Wb slices_S4x4x512x1024_S1x1x512x1024_1_2_0_0) shapeCasts_S1x1x512x1024_S512x1024)))) (mulf (Host.divf (broadcastInDim S16896x1024 ![] bcast_S_S16896x1024 (constant S_ .f32 0x3F800000#32)) (addf (broadcastInDim S16896x1024 ![] bcast_S_S16896x1024 (constant S_ .f32 0x3F800000#32)) (Host.exp (Host.negf (extractStridedSlice S16896x1024 ![0, 3072] (extractStridedSlice S16896x4096 ![0, 5640] (Z X g Win) slices_S16896x9736_S16896x4096_0_5640) slices_S16896x4096_S16896x1024_0_3072))))) (Host.dotGeneral dot_S16896x512_S512x1024_S16896x1024_1_0_0_1_n_n none (extf .f32 B3 bitsLt_bf16_f32) (shapeCast _ (extractStridedSlice S1x1x512x1024 ![1, 3, 0, 0] Wb slices_S4x4x512x1024_S1x1x512x1024_1_3_0_0) shapeCasts_S1x1x512x1024_S512x1024)))) (shapeCast _ (extractStridedSlice S1x1024x1024 ![1, 0, 0] Wo slices_S4x1024x1024_S1x1024x1024_1_0_0) shapeCasts_S1x1024x1024_S1024x1024))

/-- The row mask, read at a row. -/
theorem mask_at (r : Fin 16896) : MASK (ix1 r) = if 240 ≤ r.val % 8448 then (1 : EReal) else 0 := by
  have hr := r.isLt
  have hlt : r.val % 8448 < 2 ^ 31 := by omega
  have e1 : Scalar.select (IntOp.cmpi .eq (8448#32) (0#32)) (1#32) (8448#32) = 8448#32 := by decide
  have e2 : IntOp.cmpi .slt (8448#32) (0#32) = 0#1 := by decide
  have e3 : IntOp.remsi .host (BitVec.ofNat 32 r.val) (8448#32) = BitVec.ofNat 32 (r.val % 8448) :=
    Routing.remsi_word .host (by omega) (by omega) (by omega)
  have e4 : IntOp.cmpi .slt (BitVec.ofNat 32 (r.val % 8448)) (0#32) = 0#1 :=
    (WordCmp.cmpi_slt_ofNat_eq_zero_iff (w := 32) (b := 0) hlt (by omega)).2 (by omega)
  have e5 (x : BitVec 1) : IntOp.andi (IntOp.cmpi .ne (0#1) (0#1)) x = 0#1 := by
    revert x; decide
  have e6 : id (constantI S_ 32 8448#32) ix0 = 8448#32 := rfl
  pointwise [MASK]
  rw [e6, e1, e2, e3, e4, e5, WordCmp.select_zero]
  by_cases h : 240 ≤ r.val % 8448
  · rw [if_pos h, (WordCmp.cmpi_sge_ofNat_eq_one_iff (w := 32) (b := 240) hlt (by omega)).2 h]
    show (((1#1 : BitVec 1).toNat : ℝ) : EReal) = 1
    norm_num
  · rw [if_neg h, (WordCmp.cmpi_sge_ofNat_eq_zero_iff (w := 32) (b := 240) hlt (by omega)).2 (by omega)]
    show (((0#1 : BitVec 1).toNat : ℝ) : EReal) = 0
    norm_num
end

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The kernel's first row of a tile, as a word. -/
theorem row0_at : ∀ t : Fin cfg0.N, Scalar.muli (Scalar.remsi (BitVec.ofNat 32 (grid0.coords t 0).val) 11#32) 768#32
    = BitVec.ofNat 32 (t.val % 11 * 768) := (by decide +kernel : ∀ t : Fin grid0.N, _)

/-- The kernel's row mask, read at a row of a tile. -/
theorem kmask_at (t : Fin cfg0.N) (r : Fin 768) (x : EReal) :
    Scalar.select (IntOp.cmpi .sge (IntOp.addi (Scalar.muli (Scalar.remsi (BitVec.ofNat 32 (grid0.coords t 0).val) 11#32) 768#32)
      (BitVec.ofNat 32 r.val)) 240#32) x 0 = x * (if 240 ≤ (t.val * 768 + r.val) % 8448 then 1 else 0) := by
  have hr := r.isLt
  have ht : t.val < 22 := t.isLt
  have e : (t.val * 768 + r.val) % 8448 = t.val % 11 * 768 + r.val := by omega
  rw [row0_at t, WordCmp.addi_ofNat, e]
  by_cases h : 240 ≤ t.val % 11 * 768 + r.val
  · rw [if_pos h, (WordCmp.cmpi_sge_ofNat_eq_one_iff (w := 32) (b := 240) (by omega) (by omega)).2 h, mul_one]
    rfl
  · rw [if_neg h, (WordCmp.cmpi_sge_ofNat_eq_zero_iff (w := 32) (b := 240) (by omega) (by omega)).2 (by omega), mul_zero]
    rfl

/-- Where each window's block stands at each point. -/
theorem idx : ∀ t : Fin cfg0.N, win0_0.index t = ![t.val, 0] ∧ win0_1.index t = ![1, 0, 0] ∧ win0_2.index t = ![t.val, 0]
    ∧ win0_3.index t = ![t.val, 0] ∧ win0_4.index t = ![t.val, 0] ∧ win0_5.index t = ![t.val, 0]
    ∧ win0_6.index t = ![1, 0, 512] ∧ win0_7.index t = ![1, 0, 0] ∧ win0_8.index t = ![1, 0, 0, 0]
    ∧ win0_9.index t = ![1, 0, 0] ∧ win0_10.index t = ![t.val, 0] :=
  (by decide +kernel : ∀ t : Fin grid0.N, _)

/-- The kernel's normed and masked tile is the reference's rows. -/
theorem hn_at (c : Dev nD) (t : Fin cfg0.N) (y0 : Fin 768) (r : Fin 16896) (hr : r.val = t.val * 768 + y0.val) (x : Fin 1024) :
    k0_pay8 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix2 y0 x)
      = HN (m ((c : Thread nD τ).loc main_arg0)) (m ((c : Thread nD τ).loc main_arg5)) (ix2 r x) := by
  pointwise [k0_pay8, k0_pay2, HN]
  rw [mask_at, hr]
  refine (kmask_at t y0 _).trans ?_
  blk_point [iblk, V, idx t]

/-- The kernel's smooth rectifier is the reference's. -/
theorem ge_at (c : Dev nD) (t : Fin cfg0.N) (y0 : Fin 768) (r : Fin 16896) (hr : r.val = t.val * 768 + y0.val) (x : Fin 512) :
    k0_pay3 (iblk m c 4 t) (ix2 y0 x) = GE (m ((c : Thread nD τ).loc main_arg3)) (ix2 r x) := by
  pointwise [k0_pay3, GE]
  rw [mul_comm (Ideal.ofBits FTy.f32 1056964608#32), mul_assoc]
  blk_point [iblk, V, idx t]

/-- Where an index of the element-offset window's block lands in the gates' columns. -/
theorem emb6 (t : Fin cfg0.N) (y : S1x1024x4096.Idx) (a : Fin 3) :
    ((((View.whole main_v1).slice (win0_6.rect t)).emb y a : Fin _) : ℕ) = win0_6.index t a + (y a).val :=
  ValueKit.view_emb_slice_whole_unit_val main_v1 _ _ _ y a

theorem emb6_0 (t : Fin cfg0.N) (j : Fin 1) (x : Fin 1024) (k : Fin 4096) :
    ((((View.whole main_v1).slice (win0_6.rect t)).emb (ix3 j x k) 0 : Fin _) : ℕ) = 1 :=
  (emb6 t _ 0).trans (by rw [(idx t).2.2.2.2.2.2.1]; show 1 + j.val = 1; omega)

theorem emb6_1 (t : Fin cfg0.N) (j : Fin 1) (x : Fin 1024) (k : Fin 4096) :
    ((((View.whole main_v1).slice (win0_6.rect t)).emb (ix3 j x k) 1 : Fin _) : ℕ) = x.val :=
  (emb6 t _ 1).trans (by rw [(idx t).2.2.2.2.2.2.1]; exact Nat.zero_add _)

theorem emb6_2 (t : Fin cfg0.N) (j : Fin 1) (x : Fin 1024) (k : Fin 4096) :
    ((((View.whole main_v1).slice (win0_6.rect t)).emb (ix3 j x k) 2 : Fin _) : ℕ) = 512 + k.val :=
  (emb6 t _ 2).trans (by rw [(idx t).2.2.2.2.2.2.1]; rfl)

/-- The result's array after the run. -/
theorem final (c : Dev nD) : (dats m 0 c).arrAt 10 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t _ y => ?_
  blk_simp
  rw [after0_10]; frame_out
  idx_vars y
  obtain ⟨r, hr⟩ : ∃ r : Fin 16896, r = (((cfg0.win 10).blk t).view.emb (ix2 y0 y1) 0) := ⟨_, rfl⟩
  have hv : r.val = t.val * 768 + y0.val := by
    rw [hr]; blk_point [idx t]
  pointwise [k0_pay1, k0_pay4, k0_pay5, k0_pay6, k0_pay7, REF, Z]
  simp only [← show r = (((View.whole main_v6).slice (win0_10.rect t)).emb (ix2 y0 y1) 0) from hr,
    hn_at m c t y0 r hv, ge_at m c t y0 r hv, Ideal.logistic]
  blk_point [iblk, V, idx t]
  all_goals first
    | exact emb6_0 t _ _ _
    | exact emb6_1 t _ _ _
    | (refine (congrArg (5128 + ·) (emb6_2 t _ _ _)).trans ?_
       dsimp only
       omega)

/-- From agreeing arguments the two programs end with the same result. -/
theorem algebraic : Cert.algebraic_Kernel2Ideal_Reference2Ideal := by
  pair_intro
  · run_from Cert.Kernel2Ideal.Gen.run_main m g
  · run_from Cert.Reference2Ideal.Value.run m' g'
    refine Eq.trans ?_ (final m c).symm
    unfold Cert.Reference2Ideal.Value.res_main_v103
    simp only [hagree c]
    rfl

end Cert.Merge

end
-- ==== Proof.Ffn.lean ====
/- The SwiGLU feed-forward block: the array the kernel leaves is the reference's composed term of the same arguments. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Ffn

section
open Cert.Reference3Ideal Cert.Reference3Ideal.Gen Idealize.ShloMosaic Idealize.ShloMosaic.TcCoe

/-- The reference's normed rows. -/
def HN (X : FVec Ideal S16896x1024 .f32) (g : FVec Ideal S4x1024 .f32) : FVec Ideal S16896x1024 .f32 :=
  mulf (mulf X (broadcastInDim S16896x1024 ![0, 1] bcast_S16896x1_S16896x1024_0_1 (Host.rsqrt (addf (Host.divf (broadcastInDim S16896x1 ![0] bcast_S16896_S16896x1_0 (Host.reduceAdd (mulf X X) (constant S_ .f32 0x00000000#32) reducesTo_S16896x1024_S16896_d1 h_S_)) (broadcastInDim S16896x1 ![] bcast_S_S16896x1 (constant S_ .f32 0x44800000#32))) (broadcastInDim S16896x1 ![] bcast_S_S16896x1 (constant S_ .f32 0x358637BD#32)))))) (broadcastInDim S16896x1024 ![0, 1] bcast_S1x1024_S16896x1024_0_1 (broadcastInDim S1x1024 ![1] bcast_S1024_S1x1024_1 (shapeCast _ (extractStridedSlice S1x1024 ![1, 0] g slices_S4x1024_S1x1024_1_0) shapeCasts_S1x1024_S1024)))

/-- The reference's gate and up projections, side by side. -/
def GU (X : FVec Ideal S16896x1024 .f32) (g : FVec Ideal S4x1024 .f32) (Wgu : FVec Ideal S4x1024x5632 .f32) :
    FVec Ideal S16896x5632 .f32 :=
  Host.dotGeneral dot_S16896x1024_S1024x5632_S16896x5632_1_0_0_1_n_n none (HN X g) (shapeCast _ (extractStridedSlice S1x1024x5632 ![1, 0, 0] Wgu slices_S4x1024x5632_S1x1024x5632_1_0_0) shapeCasts_S1x1024x5632_S1024x5632)

/-- The reference's result as one term of its arguments. -/
def REF (X : FVec Ideal S16896x1024 .f32) (g : FVec Ideal S4x1024 .f32) (Wgu : FVec Ideal S4x1024x5632 .f32)
    (Wd : FVec Ideal S4x2816x1024 .f32) : FVec Ideal S16896x1024 .f32 :=
  addf X (Host.dotGeneral dot_S16896x2816_S2816x1024_S16896x1024_1_0_0_1_n_n none (mulf (mulf (extractStridedSlice S16896x2816 ![0, 0] (GU X g Wgu) slices_S16896x5632_S16896x2816_0_0) (Host.divf (broadcastInDim S16896x2816 ![] bcast_S_S16896x2816 (constant S_ .f32 0x3F800000#32)) (addf (broadcastInDim S16896x2816 ![] bcast_S_S16896x2816 (constant S_ .f32 0x3F800000#32)) (Host.exp (Host.negf (extractStridedSlice S16896x2816 ![0, 0] (GU X g Wgu) slices_S16896x5632_S16896x2816_0_0)))))) (extractStridedSlice S16896x2816 ![0, 2816] (GU X g Wgu) slices_S16896x5632_S16896x2816_0_2816)) (shapeCast _ (extractStridedSlice S1x2816x1024 ![1, 0, 0] Wd slices_S4x2816x1024_S1x2816x1024_1_0_0) shapeCasts_S1x2816x1024_S2816x1024))
end

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at each point. -/
theorem idx : ∀ t : Fin cfg0.N, win0_0.index t = ![t.val, 0] ∧ win0_1.index t = ![1, 0, 0] ∧ win0_2.index t = ![1, 0, 0]
    ∧ win0_3.index t = ![1, 0, 0] ∧ win0_4.index t = ![t.val, 0] :=
  (by decide +kernel : ∀ t : Fin grid0.N, _)

/-- The result's array after the run. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  idx_vars y
  pointwise [k0_pay1, k0_pay2, k0_pay3, k0_pay4, REF, GU, HN]
  simp only [Ideal.logistic]
  rw [Fin.sum_univ_two_halves 1536 1280 rfl, ← add_assoc]
  blk_point [iblk, V, idx t]

/-- From agreeing arguments the two programs end with the same result. -/
theorem algebraic : Cert.algebraic_Kernel3Ideal_Reference3Ideal := by
  pair_intro
  · run_from Cert.Kernel3Ideal.Gen.run_main m g
  · run_from Cert.Reference3Ideal.Value.run m' g'
    exact (final m c).symm

end Cert.Ffn

end
-- ==== Proof.FinalNorm.lean ====
/- The last norm: the array the kernel leaves is the reference's composed term of the same arguments. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

namespace Cert.FinalNorm

section
open Cert.Reference4Ideal Cert.Reference4Ideal.Gen Idealize.ShloMosaic Idealize.ShloMosaic.TcCoe

/-- The reference's result as one term of the rows `X` and the gain `g`. -/
def REF (X : FVec Ideal S16896x1024 .f32) (g : FVec Ideal S1024 .f32) : FVec Ideal S16384x1024 .f32 :=
  shapeCast _ (extractStridedSlice S2x8192x1024 ![0, 256, 0] (mulf (mulf (shapeCast _ X shapeCasts_S16896x1024_S2x8448x1024) (broadcastInDim S2x8448x1024 ![0, 1, 2] bcast_S2x8448x1_S2x8448x1024_0_1_2 (Host.rsqrt (addf (Host.divf (broadcastInDim S2x8448x1 ![0, 1] bcast_S2x8448_S2x8448x1_0_1 (Host.reduceAdd (mulf (shapeCast _ X shapeCasts_S16896x1024_S2x8448x1024) (shapeCast _ X shapeCasts_S16896x1024_S2x8448x1024)) (constant S_ .f32 0x00000000#32) reducesTo_S2x8448x1024_S2x8448_d2 h_S_)) (broadcastInDim S2x8448x1 ![] bcast_S_S2x8448x1 (constant S_ .f32 0x44800000#32))) (broadcastInDim S2x8448x1 ![] bcast_S_S2x8448x1 (constant S_ .f32 0x358637BD#32)))))) (broadcastInDim S2x8448x1024 ![0, 1, 2] bcast_S1x1x1024_S2x8448x1024_0_1_2 (broadcastInDim S1x1x1024 ![2] bcast_S1024_S1x1x1024_2 g))) slices_S2x8448x1024_S2x8192x1024_0_256_0) shapeCasts_S2x8192x1024_S16384x1024
end

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Where each window's block stands at each point. -/
theorem idx : ∀ t : Fin cfg0.N, win0_0.index t = ![((t.val / 8) * 1056 + 32 + (t.val % 8) * 128) * 8, 0] ∧ win0_1.index t = ![0, 0] ∧ win0_2.index t = ![t.val, 0] :=
  (by decide +kernel : ∀ t : Fin grid0.N, _)

/-- Where an index of the element-offset window's block lands in the rows' array. -/
theorem emb0 (t : Fin cfg0.N) (y : S1024x1024.Idx) (a : Fin 2) :
    ((((View.whole main_arg0).slice (win0_0.rect t)).emb y a : Fin _) : ℕ) = win0_0.index t a + (y a).val :=
  ValueKit.view_emb_slice_whole_unit_val main_arg0 _ _ _ y a

/-- What a point stores at an index of its block is the reference's term at the place that index has in the result. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]
  · refine (emb0 t y 0).trans ?_
    rw [(idx t).1]
    show (t.val / 8 * 1056 + 32 + t.val % 8 * 128) * 8 + (y 0).val = _
    omega
  · refine (emb0 t y 1).trans ?_
    rw [(idx t).1]
    exact Nat.zero_add _
  · refine (emb0 t _ 0).trans ?_
    rw [(idx t).1]
    show (t.val / 8 * 1056 + 32 + t.val % 8 * 128) * 8 + (y 0).val = _
    omega
  · refine (emb0 t _ 1).trans ?_
    rw [(idx t).1]
    exact Nat.zero_add _

/-- The result's array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- From agreeing arguments the two programs end with the same result. -/
theorem algebraic : Cert.algebraic_Kernel4Ideal_Reference4Ideal := by
  pair_intro
  · run_from Cert.Kernel4Ideal.Gen.run_main m g
  · run_from Cert.Reference4Ideal.Value.run m' g'
    exact (final m c).symm

end Cert.FinalNorm

end
-- ==== Proof.HgRun.lean ====
/- The first result's kernel, HGRN2 over the sequence: what one grid point leaves in its two results and in the state it carries
   to the next, for any values. Its second result, the input of the state-space branch, is given in full; the first result and the
   state are named by the pieces the trips of the loop write. -/
module

public import proofs.«01_k».proof.Proof.Gen.Kernel5Ideal.Frame.Runs
public import Idealize.ShloMosaic.Lib.Claim

@[expose] public section

set_option maxRecDepth 16384

noncomputable section

namespace Cert.Hg

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One trip -/

/-- The number of a trip's first row, as the kernel's word. -/
def rowWord (w : BitVec 32) (k : Fin k0_t1_loop.trips) : BitVec 32 :=
  Scalar.muli (Scalar.addi (Scalar.muli w 3#32) (Scf.iv 0#32 1#32 k)) 256#32

/-- The normed rows of one sequence, the rows before the first real one set to zero. -/
def hn (w : BitVec 32) (x : Vec F S1x256x1024 .f32) (g : Vec F S1x1x1024 .f32) : FVec F S256x1024 .bf16 :=
  truncf .bf16 (select (cmpi .sge (addi (broadcast S256x1024 w) (iota .tc S256x1024 32 [0] iota_S256x1024_d0_w32)) (broadcast S256x1024 240#32))
    (mulf (mulf (shapeCast S256x1024 x shapeCasts_S1x256x1024_S256x1024)
        (broadcastTo S256x1024 (rsqrt (addf (divf (shapeCast S256x1 (multiReduction .add [1] S256 (mulf (shapeCast S256x1024 x shapeCasts_S1x256x1024_S256x1024) (shapeCast S256x1024 x shapeCasts_S1x256x1024_S256x1024)) 0x00000000#32 reduces_S256x1024_S256 (.inl rfl) rfl) shapeCasts_S256_S256x1)
            (broadcast S256x1 (Scalar.ofBits .f32 0x44800000#32))) (broadcast S256x1 (Scalar.ofBits .f32 0x358637BD#32)))) broadcasts_S256x1_S256x1024))
      (broadcastTo S256x1024 (shapeCast S1x1024 g shapeCasts_S1x1x1024_S1x1024) broadcasts_S1x1024_S256x1024))
    (broadcast S256x1024 (Scalar.ofBits .f32 0x00000000#32))) bitsLt_bf16_f32

/-- Both sequences' projections onto the state-space branch's input, one under the other. -/
def proj (w : BitVec 32) (x y : Vec F S1x256x1024 .f32) (g : Vec F S1x1x1024 .f32) (wt : Vec F S1x1024x512 .bf16) : FVec F S512x512 .f32 :=
  matmul dot_S512x1024_S1024x512_S512x512_1_0_0_1_n_n none
    (concatenate S512x1024 0 [⟨S256x1024, hn w x g⟩, ⟨S256x1024, hn w y g⟩] concatenates_S256x1024_S256x1024_S512x1024_d0)
    (shapeCast S1024x512 wt shapeCasts_S1x1024x512_S1024x512) (constant S512x512 .f32 0x00000000#32)

/-- Each sequence's rows of it. -/
def rowsA (o : FVec F S512x512 .f32) : FVec F S1x256x512 .f32 :=
  shapeCast S1x256x512 (extractStridedSlice S256x512 ![0, 0] o slices_S512x512_o0_0_S256x512) shapeCasts_S256x512_S1x256x512
def rowsB (o : FVec F S512x512 .f32) : FVec F S1x256x512 .f32 :=
  shapeCast S1x256x512 (extractStridedSlice S256x512 ![256, 0] o slices_S512x512_o256_0_S256x512) shapeCasts_S256x512_S1x256x512

section
variable (x0 : Vec F S2x768x1024 .f32) (x1 : Vec F S1x1x1024 .f32) (x3 : Vec F S1x1024x512 .bf16) (w : BitVec 32) (k : Fin k0_t1_loop.trips)

/-- The trip's projections, of a grid point's blocks. -/
def tU : FVec F S512x512 .f32 :=
  proj (rowWord w k) (View.ld x0 (Rect.unit (k0_off1 k) S1x256x1024.size (k0_off1_inb k))) (View.ld x0 (Rect.unit (k0_off2 k) S1x256x1024.size (k0_off2_inb k)))
    (View.ld x1 (Rect.unit ![0, 0, 0] S1x1x1024.size inb_S1x1x1024_S1x1x1024_0_0_0)) (View.ld x3 (Rect.unit ![0, 0, 0] S1x1024x512.size inb_S1x1024x512_S1x1024x512_0_0_0))

/-- What the trip writes into the second result: two blocks of its rows. -/
def pcsU : List (View.Piece (Elt F) S2x768x512 .f32) :=
  [⟨Rect.unit (k0_off4 k) S1x256x512.size (k0_off4_inb k), rowsB (tU x0 x1 x3 w k)⟩,
   ⟨Rect.unit (k0_off3 k) S1x256x512.size (k0_off3_inb k), rowsA (tU x0 x1 x3 w k)⟩]

/-- The three trips. -/
abbrev k0 : Fin k0_t1_loop.trips := ⟨0, by decide⟩
abbrev k1 : Fin k0_t1_loop.trips := ⟨1, by decide⟩
abbrev k2 : Fin k0_t1_loop.trips := ⟨2, by decide⟩

/-- What they write into it, the last first. -/
def outsU : List (View.Piece (Elt F) S2x768x512 .f32) := pcsU x0 x1 x3 w k2 ++ pcsU x0 x1 x3 w k1 ++ pcsU x0 x1 x3 w k0

/-- These pieces cover it. -/
theorem cover_outsU (y : S2x768x512.Idx) : ∃ pc ∈ outsU x0 x1 x3 w, y ∈ pc.1.set :=
  View.cover_of_tiledL (outsU x0 x1 x3 w) S1x256x512.size (by sl_kernel_rfl) y
end

section
variable (𝒱 : Variants) (c : Dev nD) (bd : Option 𝒱.V) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S1x1024x512 .bf16) (harg4 : arg4.IsWhole) (arg5 : Memref sig .tc .vmem S1x8x256 .f32) (harg5 : arg5.IsWhole) (arg6 : Memref sig .tc .vmem S1x1x512 .f32) (harg6 : arg6.IsWhole) (arg7 : Memref sig .tc .vmem S2x768x512 .bf16) (harg7 : arg7.IsWhole) (arg8 : Memref sig .tc .vmem S2x768x512 .f32) (harg8 : arg8.IsWhole) (arg9 : Memref sig .tc .vmem S2x2x256x128 .f32) (harg9 : arg9.IsWhole) (w : BitVec 32)

section
variable (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f7 : BufTy.Contents (Elt F) arg7.view.ty) (f8 : BufTy.Contents (Elt F) arg8.view.ty) (f9 : BufTy.Contents (Elt F) arg9.view.ty)

/-- The generated trip writes these pieces into the second result. -/
theorem trip_u : (trip_k0_t1 (F := F) 𝒱 c bd i arg1 harg1 arg2 harg2 arg3 harg3 arg4 harg4 arg5 harg5 arg6 harg6 arg7 harg7 arg8 harg8 arg9 harg9 w X_arg1 X_arg2 X_arg3 X_arg4 X_arg5 X_arg6 k).2.1 f7 f8 f9
    = pcsU (arg1.view.read (Elt F) X_arg1) (arg2.view.read (Elt F) X_arg2) (arg4.view.read (Elt F) X_arg4) w k := by
  unfold trip_k0_t1
  rfl

/-- What it writes elsewhere does not depend on what it finds in the two results. -/
theorem trip_out : (trip_k0_t1 (F := F) 𝒱 c bd i arg1 harg1 arg2 harg2 arg3 harg3 arg4 harg4 arg5 harg5 arg6 harg6 arg7 harg7 arg8 harg8 arg9 harg9 w X_arg1 X_arg2 X_arg3 X_arg4 X_arg5 X_arg6 k).1 f7 f8 f9
    = (trip_k0_t1 (F := F) 𝒱 c bd i arg1 harg1 arg2 harg2 arg3 harg3 arg4 harg4 arg5 harg5 arg6 harg6 arg7 harg7 arg8 harg8 arg9 harg9 w X_arg1 X_arg2 X_arg3 X_arg4 X_arg5 X_arg6 k).1 arg7.view.junk arg8.view.junk f9 := by
  unfold trip_k0_t1
  rfl

theorem trip_state : (trip_k0_t1 (F := F) 𝒱 c bd i arg1 harg1 arg2 harg2 arg3 harg3 arg4 harg4 arg5 harg5 arg6 harg6 arg7 harg7 arg8 harg8 arg9 harg9 w X_arg1 X_arg2 X_arg3 X_arg4 X_arg5 X_arg6 k).2.2.1 f7 f8 f9
    = (trip_k0_t1 (F := F) 𝒱 c bd i arg1 harg1 arg2 harg2 arg3 harg3 arg4 harg4 arg5 harg5 arg6 harg6 arg7 harg7 arg8 harg8 arg9 harg9 w X_arg1 X_arg2 X_arg3 X_arg4 X_arg5 X_arg6 k).2.2.1 arg7.view.junk arg8.view.junk f9 := by
  unfold trip_k0_t1
  rfl
end

variable (x0 : Vec F S2x768x1024 .f32) (x1 : Vec F S1x1x1024 .f32) (x2 : Vec F S1x1024x1536 .bf16) (x3 : Vec F S1x1024x512 .bf16) (x4 : Vec F S1x8x256 .f32) (x5 : Vec F S1x1x512 .f32) (k : Fin k0_t1_loop.trips) (s : Vec F S2x2x256x128 .f32)

/-- What a trip writes into the first result and into the state, from the state it finds. -/
def pcsO : List (View.Piece (Elt F) S2x768x512 .bf16) := (trip_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) k).1 arg7.view.junk arg8.view.junk (harg9.unread s)
def pcsS : List (View.Piece (Elt F) S2x2x256x128 .f32) := (trip_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) k).2.2.1 arg7.view.junk arg8.view.junk (harg9.unread s)

/-- The state after one trip. -/
def stp : Vec F S2x2x256x128 .f32 := View.canon (pcsS 𝒱 c bd i arg1 harg1 arg2 harg2 arg3 harg3 arg4 harg4 arg5 harg5 arg6 harg6 arg7 harg7 arg8 harg8 arg9 harg9 w x0 x1 x2 x3 x4 x5 k s)
/-- The state after one, two and three trips. -/
def st1 : Vec F S2x2x256x128 .f32 := stp 𝒱 c bd i arg1 harg1 arg2 harg2 arg3 harg3 arg4 harg4 arg5 harg5 arg6 harg6 arg7 harg7 arg8 harg8 arg9 harg9 w x0 x1 x2 x3 x4 x5 k0 s
def st2 : Vec F S2x2x256x128 .f32 := stp 𝒱 c bd i arg1 harg1 arg2 harg2 arg3 harg3 arg4 harg4 arg5 harg5 arg6 harg6 arg7 harg7 arg8 harg8 arg9 harg9 w x0 x1 x2 x3 x4 x5 k1 (st1 𝒱 c bd i arg1 harg1 arg2 harg2 arg3 harg3 arg4 harg4 arg5 harg5 arg6 harg6 arg7 harg7 arg8 harg8 arg9 harg9 w x0 x1 x2 x3 x4 x5 s)
def st3 : Vec F S2x2x256x128 .f32 := stp 𝒱 c bd i arg1 harg1 arg2 harg2 arg3 harg3 arg4 harg4 arg5 harg5 arg6 harg6 arg7 harg7 arg8 harg8 arg9 harg9 w x0 x1 x2 x3 x4 x5 k2 (st2 𝒱 c bd i arg1 harg1 arg2 harg2 arg3 harg3 arg4 harg4 arg5 harg5 arg6 harg6 arg7 harg7 arg8 harg8 arg9 harg9 w x0 x1 x2 x3 x4 x5 s)

/-- What the three trips write into the first result, the last first. -/
def outs : List (View.Piece (Elt F) S2x768x512 .bf16) := pcsO 𝒱 c bd i arg1 harg1 arg2 harg2 arg3 harg3 arg4 harg4 arg5 harg5 arg6 harg6 arg7 harg7 arg8 harg8 arg9 harg9 w x0 x1 x2 x3 x4 x5 k2 (st2 𝒱 c bd i arg1 harg1 arg2 harg2 arg3 harg3 arg4 harg4 arg5 harg5 arg6 harg6 arg7 harg7 arg8 harg8 arg9 harg9 w x0 x1 x2 x3 x4 x5 s) ++ pcsO 𝒱 c bd i arg1 harg1 arg2 harg2 arg3 harg3 arg4 harg4 arg5 harg5 arg6 harg6 arg7 harg7 arg8 harg8 arg9 harg9 w x0 x1 x2 x3 x4 x5 k1 (st1 𝒱 c bd i arg1 harg1 arg2 harg2 arg3 harg3 arg4 harg4 arg5 harg5 arg6 harg6 arg7 harg7 arg8 harg8 arg9 harg9 w x0 x1 x2 x3 x4 x5 s) ++ pcsO 𝒱 c bd i arg1 harg1 arg2 harg2 arg3 harg3 arg4 harg4 arg5 harg5 arg6 harg6 arg7 harg7 arg8 harg8 arg9 harg9 w x0 x1 x2 x3 x4 x5 k0 s

/-- The four pieces of the state cover it. -/
theorem cover_state (y : S2x2x256x128.Idx) : ∃ pc ∈ pcsS 𝒱 c bd i arg1 harg1 arg2 harg2 arg3 harg3 arg4 harg4 arg5 harg5 arg6 harg6 arg7 harg7 arg8 harg8 arg9 harg9 w x0 x1 x2 x3 x4 x5 k s, y ∈ pc.1.set := by
  unfold pcsS trip_k0_t1
  exact View.cover_of_tiledL (s := S2x2x256x128) _ S1x1x256x128.size (by sl_kernel_rfl) y

/-- The six pieces of the first result cover it. -/
theorem cover_outs (y : S2x768x512.Idx) : ∃ pc ∈ outs 𝒱 c bd i arg1 harg1 arg2 harg2 arg3 harg3 arg4 harg4 arg5 harg5 arg6 harg6 arg7 harg7 arg8 harg8 arg9 harg9 w x0 x1 x2 x3 x4 x5 s, y ∈ pc.1.set := by
  unfold outs pcsO trip_k0_t1
  exact View.cover_of_tiledL (s := S2x768x512) _ S1x256x512.size (by sl_kernel_rfl) y

variable (G7 : BufTy.Contents (Elt F) arg7.view.ty) (G8 : BufTy.Contents (Elt F) arg8.view.ty) (G9 : BufTy.Contents (Elt F) arg9.view.ty)

/-- One more trip of the generated lists. -/
theorem lists_succ (hs : arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k.val).2.2) = s) :
    (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 (k.val + 1)).1 = pcsO 𝒱 c bd i arg1 harg1 arg2 harg2 arg3 harg3 arg4 harg4 arg5 harg5 arg6 harg6 arg7 harg7 arg8 harg8 arg9 harg9 w x0 x1 x2 x3 x4 x5 k s ++ (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k.val).1
    ∧ (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 (k.val + 1)).2.1 = pcsU x0 x1 x3 w k ++ (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k.val).2.1
    ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 (k.val + 1)).2.2) = stp 𝒱 c bd i arg1 harg1 arg2 harg2 arg3 harg3 arg4 harg4 arg5 harg5 arg6 harg6 arg7 harg7 arg8 harg8 arg9 harg9 w x0 x1 x2 x3 x4 x5 k s := by
  have he := harg9.eq_unread hs
  rw [pb_k0_t1_succ]
  dsimp only
  rw [trip_out, trip_state, trip_u, View.writes_append]
  simp only [Memref.IsWhole.read_unread]
  rw [he]
  exact ⟨rfl, trivial, View.read_writes_eq_canon _ _ _ (cover_state 𝒱 c bd i arg1 harg1 arg2 harg2 arg3 harg3 arg4 harg4 arg5 harg5 arg6 harg6 arg7 harg7 arg8 harg8 arg9 harg9 w x0 x1 x2 x3 x4 x5 k s)⟩

/-- The generated lists after the three trips. -/
theorem lists_three (hs : arg9.view.read (Elt F) G9 = s) :
    (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 3).1 = outs 𝒱 c bd i arg1 harg1 arg2 harg2 arg3 harg3 arg4 harg4 arg5 harg5 arg6 harg6 arg7 harg7 arg8 harg8 arg9 harg9 w x0 x1 x2 x3 x4 x5 s ∧ (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 3).2.1 = outsU x0 x1 x3 w
    ∧ arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 3).2.2) = st3 𝒱 c bd i arg1 harg1 arg2 harg2 arg3 harg3 arg4 harg4 arg5 harg5 arg6 harg6 arg7 harg7 arg8 harg8 arg9 harg9 w x0 x1 x2 x3 x4 x5 s := by
  obtain ⟨h1, u1, e1⟩ := lists_succ 𝒱 c bd i arg1 harg1 arg2 harg2 arg3 harg3 arg4 harg4 arg5 harg5 arg6 harg6 arg7 harg7 arg8 harg8 arg9 harg9 w x0 x1 x2 x3 x4 x5 k0 s G7 G8 G9 hs
  obtain ⟨h2, u2, e2⟩ := lists_succ 𝒱 c bd i arg1 harg1 arg2 harg2 arg3 harg3 arg4 harg4 arg5 harg5 arg6 harg6 arg7 harg7 arg8 harg8 arg9 harg9 w x0 x1 x2 x3 x4 x5 k1 _ G7 G8 G9 e1
  obtain ⟨h3, u3, e3⟩ := lists_succ 𝒱 c bd i arg1 harg1 arg2 harg2 arg3 harg3 arg4 harg4 arg5 harg5 arg6 harg6 arg7 harg7 arg8 harg8 arg9 harg9 w x0 x1 x2 x3 x4 x5 k2 _ G7 G8 G9 e2
  refine ⟨h3.trans ?_, u3.trans ?_, e3⟩
  · rw [show (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k2.val).1 = _ from h2, show (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k1.val).1 = _ from h1]
    simp only [pb_k0_t1, List.append_nil]
    unfold outs st2 st1
    rw [List.append_assoc]
  · rw [show (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k2.val).2.1 = _ from u2, show (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k1.val).2.1 = _ from u1]
    simp only [pb_k0_t1, List.append_nil]
    unfold outsU
    rw [List.append_assoc]

theorem trips_eq : k0_t1_loop.trips = 3 := by decide

/-- What the loop leaves, from any contents of the state it starts from. -/
theorem out_read (hs : arg9.view.read (Elt F) G9 = s) :
    arg7.view.read (Elt F) (arg7.view.writes (Elt F) G7 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k0_t1_loop.trips).1) = View.canon (outs 𝒱 c bd i arg1 harg1 arg2 harg2 arg3 harg3 arg4 harg4 arg5 harg5 arg6 harg6 arg7 harg7 arg8 harg8 arg9 harg9 w x0 x1 x2 x3 x4 x5 s) := by
  rw [trips_eq, (lists_three 𝒱 c bd i arg1 harg1 arg2 harg2 arg3 harg3 arg4 harg4 arg5 harg5 arg6 harg6 arg7 harg7 arg8 harg8 arg9 harg9 w x0 x1 x2 x3 x4 x5 s G7 G8 G9 hs).1]
  exact View.read_writes_eq_canon _ _ _ (cover_outs 𝒱 c bd i arg1 harg1 arg2 harg2 arg3 harg3 arg4 harg4 arg5 harg5 arg6 harg6 arg7 harg7 arg8 harg8 arg9 harg9 w x0 x1 x2 x3 x4 x5 s)

theorem u_read (hs : arg9.view.read (Elt F) G9 = s) :
    arg8.view.read (Elt F) (arg8.view.writes (Elt F) G8 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k0_t1_loop.trips).2.1) = View.canon (outsU x0 x1 x3 w) := by
  rw [trips_eq, (lists_three 𝒱 c bd i arg1 harg1 arg2 harg2 arg3 harg3 arg4 harg4 arg5 harg5 arg6 harg6 arg7 harg7 arg8 harg8 arg9 harg9 w x0 x1 x2 x3 x4 x5 s G7 G8 G9 hs).2.1]
  exact View.read_writes_eq_canon _ _ _ (cover_outsU _ _ _ _)

theorem state_read (hs : arg9.view.read (Elt F) G9 = s) :
    arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 G9 k0_t1_loop.trips).2.2) = st3 𝒱 c bd i arg1 harg1 arg2 harg2 arg3 harg3 arg4 harg4 arg5 harg5 arg6 harg6 arg7 harg7 arg8 harg8 arg9 harg9 w x0 x1 x2 x3 x4 x5 s := by
  rw [trips_eq]
  exact (lists_three 𝒱 c bd i arg1 harg1 arg2 harg2 arg3 harg3 arg4 harg4 arg5 harg5 arg6 harg6 arg7 harg7 arg8 harg8 arg9 harg9 w x0 x1 x2 x3 x4 x5 s G7 G8 G9 hs).2.2

theorem state_zeroed (L : List (View.Piece (Elt F) S2x2x256x128 .f32)) (hL : arg9.view.read (Elt F) (arg9.view.writes (Elt F) arg9.view.junk L) = s) :
    arg9.view.read (Elt F) (arg9.view.writes (Elt F) arg9.view.junk ((pb_k0_t1 (F := F) 𝒱 c bd i arg1 harg1 arg2 harg2 arg3 harg3 arg4 harg4 arg5 harg5 arg6 harg6 arg7 harg7 arg8 harg8 arg9 harg9 w (harg1.unread x0) (harg2.unread x1) (harg3.unread x2) (harg4.unread x3) (harg5.unread x4) (harg6.unread x5) G7 G8 (arg9.view.writes (Elt F) arg9.view.junk L) k0_t1_loop.trips).2.2 ++ L)) = st3 𝒱 c bd i arg1 harg1 arg2 harg2 arg3 harg3 arg4 harg4 arg5 harg5 arg6 harg6 arg7 harg7 arg8 harg8 arg9 harg9 w x0 x1 x2 x3 x4 x5 s := by
  rw [View.writes_append]
  exact state_read 𝒱 c bd i arg1 harg1 arg2 harg2 arg3 harg3 arg4 harg4 arg5 harg5 arg6 harg6 arg7 harg7 arg8 harg8 arg9 harg9 w x0 x1 x2 x3 x4 x5 s G7 G8 _ hL
end

/-- A store of the whole state is what the state then holds. -/
theorem zeroed_read (arg9 : Memref sig .tc .vmem S2x2x256x128 .f32) :
    arg9.view.read (Elt F) (arg9.view.writes (Elt F) arg9.view.junk [⟨Rect.unit (s := S2x2x256x128) ![0, 0, 0, 0] S2x2x256x128.size inb_S2x2x256x128_S2x2x256x128_0_0_0_0, k0_pay1 (F := F)⟩]) = k0_pay1 := by
  funext y
  have hy : (Rect.unit (s := S2x2x256x128) ![0, 0, 0, 0] S2x2x256x128.size inb_S2x2x256x128_S2x2x256x128_0_0_0_0).emb y = y := by
    funext a
    apply Fin.ext
    fin_cases a <;> exact (Nat.zero_add _).trans (Nat.one_mul _)
  conv_lhs => rw [← hy]
  exact View.read_writes_cons_emb _ _ _ _ _ _

set_option maxHeartbeats 4000000 in
/-- The body at a later point: it runs the three trips from the state it finds. -/
theorem run_later (c : Dev nD) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S1x1024x512 .bf16) (harg4 : arg4.IsWhole) (arg5 : Memref sig .tc .vmem S1x8x256 .f32) (harg5 : arg5.IsWhole) (arg6 : Memref sig .tc .vmem S1x1x512 .f32) (harg6 : arg6.IsWhole) (arg7 : Memref sig .tc .vmem S2x768x512 .bf16) (harg7 : arg7.IsWhole) (arg8 : Memref sig .tc .vmem S2x768x512 .f32) (harg8 : arg8.IsWhole) (arg9 : Memref sig .tc .vmem S2x2x256x128 .f32) (harg9 : arg9.IsWhole) (hc0 : ¬cond0_0 i) (x0 : Vec F S2x768x1024 .f32) (x1 : Vec F S1x1x1024 .f32) (x2 : Vec F S1x1024x1536 .bf16) (x3 : Vec F S1x1024x512 .bf16) (x4 : Vec F S1x8x256 .f32) (x5 : Vec F S1x1x512 .f32) (s : Vec F S2x2x256x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon (outs Variants.none c none i arg1 harg1 arg2 harg2 arg3 harg3 arg4 harg4 arg5 harg5 arg6 harg6 arg7 harg7 arg8 harg8 arg9 harg9 (BitVec.ofNat 32 (i 0).val) x0 x1 x2 x3 x4 x5 s)) ∗ owns (c : Thread nD τ) arg8 fullShare (View.canon (outsU x0 x1 x3 (BitVec.ofNat 32 (i 0).val))) ∗ owns (c : Thread nD τ) arg9 fullShare (st3 Variants.none c none i arg1 harg1 arg2 harg2 arg3 harg3 arg4 harg4 arg5 harg5 arg6 harg6 arg7 harg7 arg8 harg8 arg9 harg9 (BitVec.ofNat 32 (i 0).val) x0 x1 x2 x3 x4 x5 s)) -∗ K ⟨⟩))
      ⊢ wp frame (wpE (defs₀ (F := F)) Variants.none c none) E (cc0_hgrn2_mixer i arg1 harg1 arg2 harg2 arg3 harg3 arg4 harg4 arg5 harg5 arg6 harg6 arg7 harg7 arg8 harg8 arg9 harg9) K := by
  simp only [cc0_hgrn2_mixer_eq_skeleton]; unfold cc0_hgrn2_mixer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    exact out_read Variants.none c _ i arg1 harg1 arg2 harg2 arg3 harg3 arg4 harg4 arg5 harg5 arg6 harg6 arg7 harg7 arg8 harg8 arg9 harg9 _ x0 x1 x2 x3 x4 x5 _ _ _ _ (harg9.read_unread s)
  isplitl [H7]
  · iexists _; isplitr
    swap; · iexact H7
    ipureintro
    exact u_read Variants.none c _ i arg1 harg1 arg2 harg2 arg3 harg3 arg4 harg4 arg5 harg5 arg6 harg6 arg7 harg7 arg8 harg8 arg9 harg9 _ x0 x1 x2 x3 x4 x5 s _ _ _ (harg9.read_unread s)
  iexists _; isplitr
  swap; · iexact HS
  ipureintro
  exact state_read Variants.none c _ i arg1 harg1 arg2 harg2 arg3 harg3 arg4 harg4 arg5 harg5 arg6 harg6 arg7 harg7 arg8 harg8 arg9 harg9 _ x0 x1 x2 x3 x4 x5 _ _ _ _ (harg9.read_unread s)

set_option maxHeartbeats 4000000 in
/-- The body at the first point: it zeroes the state, then runs the three trips. -/
theorem run_first (c : Dev nD) (i : grid0.Coords) (arg1 : Memref sig .tc .vmem S2x768x1024 .f32) (harg1 : arg1.IsWhole) (arg2 : Memref sig .tc .vmem S1x1x1024 .f32) (harg2 : arg2.IsWhole) (arg3 : Memref sig .tc .vmem S1x1024x1536 .bf16) (harg3 : arg3.IsWhole) (arg4 : Memref sig .tc .vmem S1x1024x512 .bf16) (harg4 : arg4.IsWhole) (arg5 : Memref sig .tc .vmem S1x8x256 .f32) (harg5 : arg5.IsWhole) (arg6 : Memref sig .tc .vmem S1x1x512 .f32) (harg6 : arg6.IsWhole) (arg7 : Memref sig .tc .vmem S2x768x512 .bf16) (harg7 : arg7.IsWhole) (arg8 : Memref sig .tc .vmem S2x768x512 .f32) (harg8 : arg8.IsWhole) (arg9 : Memref sig .tc .vmem S2x2x256x128 .f32) (harg9 : arg9.IsWhole) (hc0 : cond0_0 i) (x0 : Vec F S2x768x1024 .f32) (x1 : Vec F S1x1x1024 .f32) (x2 : Vec F S1x1024x1536 .bf16) (x3 : Vec F S1x1024x512 .bf16) (x4 : Vec F S1x8x256 .f32) (x5 : Vec F S1x1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (View.canon (outs Variants.none c none i arg1 harg1 arg2 harg2 arg3 harg3 arg4 harg4 arg5 harg5 arg6 harg6 arg7 harg7 arg8 harg8 arg9 harg9 (BitVec.ofNat 32 (i 0).val) x0 x1 x2 x3 x4 x5 (k0_pay1 (F := F)))) ∗ owns (c : Thread nD τ) arg8 fullShare (View.canon (outsU x0 x1 x3 (BitVec.ofNat 32 (i 0).val))) ∗ owns (c : Thread nD τ) arg9 fullShare (st3 Variants.none c none i arg1 harg1 arg2 harg2 arg3 harg3 arg4 harg4 arg5 harg5 arg6 harg6 arg7 harg7 arg8 harg8 arg9 harg9 (BitVec.ofNat 32 (i 0).val) x0 x1 x2 x3 x4 x5 (k0_pay1 (F := F)))) -∗ K ⟨⟩))
      ⊢ wp frame (wpE (defs₀ (F := F)) Variants.none c none) E (cc0_hgrn2_mixer i arg1 harg1 arg2 harg2 arg3 harg3 arg4 harg4 arg5 harg5 arg6 harg6 arg7 harg7 arg8 harg8 arg9 harg9) K := by
  simp only [cc0_hgrn2_mixer_eq_skeleton]; unfold cc0_hgrn2_mixer_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    exact out_read Variants.none c _ i arg1 harg1 arg2 harg2 arg3 harg3 arg4 harg4 arg5 harg5 arg6 harg6 arg7 harg7 arg8 harg8 arg9 harg9 _ x0 x1 x2 x3 x4 x5 _ _ _ _ (zeroed_read arg9)
  isplitl [H7]
  · iexists _; isplitr
    swap; · iexact H7
    ipureintro
    exact u_read Variants.none c _ i arg1 harg1 arg2 harg2 arg3 harg3 arg4 harg4 arg5 harg5 arg6 harg6 arg7 harg7 arg8 harg8 arg9 harg9 _ x0 x1 x2 x3 x4 x5 (k0_pay1 (F := F)) _ _ _ (zeroed_read arg9)
  iexists _; isplitr
  swap; · iexact HS
  ipureintro
  exact state_zeroed Variants.none c _ i arg1 harg1 arg2 harg2 arg3 harg3 arg4 harg4 arg5 harg5 arg6 harg6 arg7 harg7 arg8 harg8 arg9 harg9 _ x0 x1 x2 x3 x4 x5 _ _ _ _ (zeroed_read arg9)

/-! ## The launch -/

variable (m : (ℓ : Loc nD τ sig) → Buf (Elt F) ℓ) (ρ : Dev nD → PrngReg)

/-- A grid point's number, as the kernel's word. -/
abbrev pt (t : Fin cfg0.N) : BitVec 32 := BitVec.ofNat 32 ((grid0.coords t) 0).val

/-- What a grid point leaves in the state and in the two results, from the state it finds. -/
def next (c : Dev nD) (t : Fin cfg0.N) (s : Vec F S2x2x256x128 .f32) : Vec F S2x2x256x128 .f32 := st3 Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (pt t) (iblk m c 0 t) (iblk m c 1 t) (iblk m c 2 t) (iblk m c 3 t) (iblk m c 4 t) (iblk m c 5 t) s
def left (c : Dev nD) (t : Fin cfg0.N) (s : Vec F S2x2x256x128 .f32) : Vec F S2x768x512 .bf16 := View.canon (outs Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (pt t) (iblk m c 0 t) (iblk m c 1 t) (iblk m c 2 t) (iblk m c 3 t) (iblk m c 4 t) (iblk m c 5 t) s)
def leftU (c : Dev nD) (t : Fin cfg0.N) : Vec F S2x768x512 .f32 := View.canon (outsU (iblk m c 0 t) (iblk m c 1 t) (iblk m c 3 t) (pt t))

/-- The state a grid point finds. -/
def stateAt (c : Dev nD) : ℕ → Vec F S2x2x256x128 .f32
  | 0 => k0_pay1
  | n + 1 => if h : n < cfg0.N then next m c ⟨n, h⟩ (stateAt c n) else stateAt c n

theorem stateAt_succ (c : Dev nD) (t : Fin cfg0.N) : stateAt m c (t.val + 1) = next m c t (stateAt m c t.val) := by
  rw [stateAt.eq_2, dif_pos t.isLt]

/-- What is held between points: the state, and the generator's register. -/
def Phi (c : Dev nD) : (n : ℕ) → n ≤ cfg0.N → sProp 𝕄
  | 0, _ => Pipeline.ΦA spec0 c
  | n + 1, _ => iprop(owns (c : Thread nD τ) scM0_0 fullShare (stateAt m c (n + 1)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(owns (c : Thread nD τ) scM0_0 fullShare (stateAt m c n) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left m c t (stateAt m c t.val)
    | ⟨7, _⟩ => leftU m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = left m c t (stateAt m c t.val) := by dsimp only [dats]
theorem after_7 (c : Dev nD) (t : Fin cfg0.N) : (dats m 0 c).after 7 t = leftU m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl, after_0, after_1, after_2, after_3, after_4, after_5, after_6, after_7]
  rw [show (dats m 0 c).Φ t.succ = Phi m c (t.val + 1) t.isLt from rfl, Phi_pos m c _ _ (Nat.succ_ne_zero _), stateAt_succ, Phi_castSucc m c t]
  unfold next left leftU
  have hN : t.val < 11 := lt_of_lt_of_eq t.isLt (show cfg0.N = 11 from N_0)
  by_cases hz : t.val = 0
  · have h0 : t.val % 11 = 0 := by omega
    rw [Phi_zero m c _ _ hz, PhiA0_eq, show stateAt m c t.val = k0_pay1 by rw [hz]; rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h0 : ¬t.val % 11 = 0 := by omega
    rw [Phi_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl, Phi_pos m c _ _ (by rw [show cfg0.N = 11 from N_0]; decide), PhiA0_eq]
  iintro ⟨HS, Hg⟩
  isplitl [HS]
  · iexists _; iexact HS
  iexact Hg

set_option backward.isDefEq.respectTransparency.types false in
/-- The launch, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => by dsimp only [dats])
    (howed := fun _ _ => rfl) (V := V m) (hmain := hmain m Variants.none) (hA := A_eq m) (hin := hin m) (hout := hout m)

/-- The launch. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Hg

end
-- ==== Proof.HgFrame.lean ====
/- The HGRN2 kernel's printed program: its text is that of the ideal one, so the one run gives its frame. -/
module

public import proofs.«01_k».proof.Defs
public import proofs.«01_k».proof.Proof.Gen.Kernel5
public import proofs.«01_k».proof.Proof.Gen.Kernel5Ideal
public import proofs.«01_k».proof.Proof.HgRun

@[expose] public section

noncomputable section

namespace Cert.Hg

open Idealize.ShloMosaic Idealize.SL.Sem

variable {F : FTy → Type} [FloatOps F]

/-- The two programs have the same body at their one label. -/
theorem bodies_eq : Cert.Kernel5.defs₀ (F := F) = Cert.Kernel5Ideal.defs₀ (F := F) := by
  unfold Cert.Kernel5.defs₀ Cert.Kernel5Ideal.defs₀
  refine congrArg Defs.onTc (funext fun l => ?_)
  match l with
  | 0 => exact funext fun x => rfl

/-- The two programs have the same table of labels. -/
theorem defs_eq : Cert.Kernel5.defs (F := F) = Cert.Kernel5Ideal.defs (F := F) :=
  congrArg (Pipeline.defs (Cert.Kernel5Ideal.pcfgs (F := F))) bodies_eq

set_option maxHeartbeats 8000000 in
/-- The two programs have the same host code. -/
theorem main_eq : Cert.Kernel5.main (F := F) = Cert.Kernel5Ideal.main (F := F) := rfl

/-- The printed program's frame. -/
theorem frame_kernel : Cert.quiescent_Kernel5 := by
  intro m ρ _
  rw [defs_eq, main_eq]
  exact frame (F := Bits) m ρ

end Cert.Hg
-- ==== Proof.HgVal.lean ====
/- The HGRN2 kernel's second result, the input of the state-space branch: the array the kernel leaves is the reference's composed
   term of the same arguments. -/
module

public import proofs.«01_k».proof.Defs
public import proofs.«01_k».proof.Proof.HgRun
public import proofs.«01_k».proof.Proof.RetFinal
public import proofs.«01_k».proof.Proof.Gen.Reference5Ideal.Run
public import Idealize.ShloMosaic.Lib.Pipeline.ValueKit
public import Idealize.ShloMosaic.Lib.Pointwise
public import Idealize.ShloMosaic.Lib.Claim

@[expose] public section

set_option maxRecDepth 16384

noncomputable section

namespace Cert.Hg

section
open Cert.Reference5Ideal Cert.Reference5Ideal.Gen Idealize.ShloMosaic Idealize.ShloMosaic.TcCoe

/-- The reference's normed rows. -/
def HN (X : FVec Ideal S2x8448x1024 .f32) (gm : FVec Ideal S4x1024 .f32) : FVec Ideal S2x8448x1024 .f32 :=
  (mulf (mulf (mulf X (broadcastInDim S2x8448x1024 ![0, 1, 2] bcast_S2x8448x1_S2x8448x1024_0_1_2 (Host.rsqrt (addf (Host.divf (broadcastInDim S2x8448x1 ![0, 1] bcast_S2x8448_S2x8448x1_0_1 (Host.reduceAdd (mulf X X) (constant (F := Ideal) S_ .f32 0x00000000#32) reducesTo_S2x8448x1024_S2x8448_d2 h_S_)) (broadcastInDim S2x8448x1 ![] bcast_S_S2x8448x1 (constant (F := Ideal) S_ .f32 0x44800000#32))) (broadcastInDim S2x8448x1 ![] bcast_S_S2x8448x1 (constant (F := Ideal) S_ .f32 0x358637BD#32)))))) (broadcastInDim S2x8448x1024 ![0, 1, 2] bcast_S1x1x1024_S2x8448x1024_0_1_2 (broadcastInDim S1x1x1024 ![2] bcast_S1024_S1x1x1024_2 (shapeCast _ (extractStridedSlice S1x1024 ![1, 0] gm slices_S4x1024_S1x1024_1_0) shapeCasts_S1x1024_S1024)))) (broadcastInDim S2x8448x1024 ![0, 1, 2] bcast_S1x8448x1_S2x8448x1024_0_1_2 (broadcastInDim S1x8448x1 ![1, 2] bcast_S8448x1_S1x8448x1_1_2 (broadcastInDim S8448x1 ![0] bcast_S8448_S8448x1_0 (uitofp .f32 (cmpi .sge (iotaInDim S8448 32 0) (broadcastInDim S8448 ![] bcast_S_S8448 (constantI S_ 32 240#32))))))))

/-- The reference's result as one term of the rows `X`, the gains `gm` and the weights `W`. -/
def REF (X : FVec Ideal S2x8448x1024 .f32) (gm : FVec Ideal S4x1024 .f32) (W : FVec Ideal S4x1024x9736 .f32) : FVec Ideal S2x8448x512 .f32 :=
  extractStridedSlice S2x8448x512 ![0, 0, 3072] (Host.dotGeneral dot_S2x8448x1024_S1024x9736_S2x8448x9736_2_0_01_1_n_n none (HN X gm) (shapeCast _ (extractStridedSlice S1x1024x9736 ![1, 0, 0] W slices_S4x1024x9736_S1x1024x9736_1_0_0) shapeCasts_S1x1024x9736_S1024x9736)) slices_S2x8448x9736_S2x8448x512_0_0_3072

theorem REF_at (X : FVec Ideal S2x8448x1024 .f32) (gm : FVec Ideal S4x1024 .f32) (W : FVec Ideal S4x1024x9736 .f32) (b : Fin 2) (r : Fin 8448) (j : Fin 512) :
    REF X gm W (ix3 b r j) = ∑ x : Fin 1024, HN X gm (ix3 b r x) * W (ix3 1 x ⟨3072 + j.val, by omega⟩) := by
  unfold REF
  generalize HN X gm = Y
  pointwise []
end

open Cert.Kernel5Ideal Cert.Kernel5Ideal.Gen Idealize.ShloMosaic Idealize.ShloMosaic.TcCoe Idealize.SL.Sem
open Idealize.ShloMosaic.Pipeline (Dat Cfg Window)

/-- The blocks of grid point `t` are the arguments'. -/
structure Holds (x0 : Vec Ideal S2x768x1024 .f32) (x1 : Vec Ideal S1x1x1024 .f32) (x3 : Vec Ideal S1x1024x512 .bf16) (t : Fin 11) (X : FVec Ideal S2x8448x1024 .f32) (gm : FVec Ideal S4x1024 .f32) (W : FVec Ideal S4x1024x9736 .f32) : Prop where
  x : ∀ (b : Fin 2) (y : Fin 768) (j : Fin 1024), x0 (ix3 b y j) = X (ix3 b ⟨t.val * 768 + y.val, by omega⟩ j)
  g : ∀ j : Fin 1024, x1 (ix3 0 0 j) = gm (ix2 1 j)
  w : ∀ (x : Fin 1024) (j : Fin 512), x3 (ix3 0 x j) = W (ix3 1 x ⟨3072 + j.val, by omega⟩)

theorem off1_eq : ∀ k : Fin k0_t1_loop.trips, k0_off1 k = ![0, k.val * 256, 0] := by decide +kernel
theorem off2_eq : ∀ k : Fin k0_t1_loop.trips, k0_off2 k = ![1, k.val * 256, 0] := by decide +kernel
theorem off3_eq : ∀ k : Fin k0_t1_loop.trips, k0_off3 k = ![0, k.val * 256, 0] := by decide +kernel
theorem off4_eq : ∀ k : Fin k0_t1_loop.trips, k0_off4 k = ![1, k.val * 256, 0] := by decide +kernel

theorem rowWord_eq : ∀ (t : Fin 11) (k : Fin k0_t1_loop.trips), rowWord (BitVec.ofNat 32 t.val) k = BitVec.ofNat 32 ((t.val * 3 + k.val) * 256) := by decide +kernel

theorem trips_lt (k : Fin k0_t1_loop.trips) : k.val < 3 := k.isLt

/-- The trip's number among all trips of all grid points. -/
abbrev trip (t : Fin 11) (k : Fin k0_t1_loop.trips) : Fin 33 := ⟨t.val * 3 + k.val, by have := trips_lt k; omega⟩

/-- The normed rows of one sequence. -/
theorem hn_at (X : FVec Ideal S2x8448x1024 .f32) (gm : FVec Ideal S4x1024 .f32) (u : Fin 33) (b : Fin 2) (x : Vec Ideal S1x256x1024 .f32) (g : Vec Ideal S1x1x1024 .f32)
    (hx : ∀ (y : Fin 256) (j : Fin 1024), x (ix3 0 y j) = X (ix3 b ⟨u.val * 256 + y.val, by omega⟩ j)) (hg : ∀ j : Fin 1024, g (ix3 0 0 j) = gm (ix2 1 j))
    (y : Fin 256) (j : Fin 1024) : hn (BitVec.ofNat 32 (u.val * 256)) x g (ix2 y j) = HN X gm (ix3 b ⟨u.val * 256 + y.val, by omega⟩ j) := by
  pointwise [hn, HN]
  rw [WordCmp.addi_ofNat, Cert.Ret.mask_at _ (by omega)]
  simp only [hx, hg]

/-- Both sequences' projections. -/
theorem proj_at (X : FVec Ideal S2x8448x1024 .f32) (gm : FVec Ideal S4x1024 .f32) (W : FVec Ideal S4x1024x9736 .f32) (u : Fin 33) (x y : Vec Ideal S1x256x1024 .f32) (g : Vec Ideal S1x1x1024 .f32) (wt : Vec Ideal S1x1024x512 .bf16)
    (hx : ∀ (r : Fin 256) (j : Fin 1024), x (ix3 0 r j) = X (ix3 0 ⟨u.val * 256 + r.val, by omega⟩ j))
    (hy : ∀ (r : Fin 256) (j : Fin 1024), y (ix3 0 r j) = X (ix3 1 ⟨u.val * 256 + r.val, by omega⟩ j)) (hg : ∀ j : Fin 1024, g (ix3 0 0 j) = gm (ix2 1 j))
    (hw : ∀ (i : Fin 1024) (j : Fin 512), wt (ix3 0 i j) = W (ix3 1 i ⟨3072 + j.val, by omega⟩))
    (b : Fin 2) (r : Fin 256) (j : Fin 512) : proj (BitVec.ofNat 32 (u.val * 256)) x y g wt (ix2 ⟨b.val * 256 + r.val, by omega⟩ j)
      = REF X gm W (ix3 b ⟨u.val * 256 + r.val, by omega⟩ j) := by
  rw [REF_at]
  have h0 := hn_at X gm u 0 x g hx hg
  have h1 := hn_at X gm u 1 y g hy hg
  unfold proj
  generalize hn (BitVec.ofNat 32 (u.val * 256)) x g = p at h0 ⊢
  generalize hn (BitVec.ofNat 32 (u.val * 256)) y g = q at h1 ⊢
  pointwise []
  refine Finset.sum_congr rfl fun i _ => ?_
  rw [hw]
  obtain rfl | rfl : b = 0 ∨ b = 1 := by omega
  · have e : (0 : Fin 2).val * 256 + r.val < 256 := by show 0 * 256 + r.val < 256; omega
    rw [dif_pos e, ← h0 r i]
    congr 3
    exact Fin.ext (by show 0 * 256 + r.val = r.val; omega)
  · have e : ¬ (1 : Fin 2).val * 256 + r.val < 256 := by show ¬ 1 * 256 + r.val < 256; omega
    rw [dif_neg e, ← h1 r i]
    congr 3
    exact Fin.ext (by show 1 * 256 + r.val - 256 = r.val; omega)

variable {x0 : Vec Ideal S2x768x1024 .f32} {x1 : Vec Ideal S1x1x1024 .f32} {x3 : Vec Ideal S1x1024x512 .bf16} {t : Fin 11} {X : FVec Ideal S2x8448x1024 .f32} {gm : FVec Ideal S4x1024 .f32} {W : FVec Ideal S4x1024x9736 .f32}

/-- The trip's projections are the reference's at its rows. -/
theorem tU_at (H : Holds x0 x1 x3 t X gm W) (k : Fin k0_t1_loop.trips) (b : Fin 2) (r : Fin 256) (j : Fin 512) :
    tU x0 x1 x3 (BitVec.ofNat 32 t.val) k (ix2 ⟨b.val * 256 + r.val, by omega⟩ j) = REF X gm W (ix3 b ⟨t.val * 768 + (k.val * 256 + r.val), by have := trips_lt k; omega⟩ j) := by
  have hk := trips_lt k
  have e (r : Fin 256) : (⟨t.val * 768 + (k.val * 256 + r.val), by omega⟩ : Fin 8448) = ⟨(trip t k).val * 256 + r.val, by have := (trip t k).isLt; omega⟩ := Fin.ext (by show t.val * 768 + (k.val * 256 + r.val) = (t.val * 3 + k.val) * 256 + r.val; omega)
  rw [e]
  unfold tU
  rw [rowWord_eq]
  refine proj_at X gm W (trip t k) _ _ _ _ ?_ ?_ ?_ ?_ b r j
  · intro r j
    refine (View.ld_unit_apply_of _ _ _ _ _ _ (fun a => ?_)).trans ((H.x 0 ⟨k.val * 256 + r.val, by omega⟩ j).trans (by rw [← e]))
    refine Eq.trans ?_ (congrArg (· + _) (congrFun (off1_eq k) a).symm)
    fin_cases a
    · rfl
    · rfl
    · exact (Nat.zero_add _).symm
  · intro r j
    refine (View.ld_unit_apply_of _ _ _ _ _ _ (fun a => ?_)).trans ((H.x 1 ⟨k.val * 256 + r.val, by omega⟩ j).trans (by rw [← e]))
    refine Eq.trans ?_ (congrArg (· + _) (congrFun (off2_eq k) a).symm)
    fin_cases a
    · rfl
    · rfl
    · exact (Nat.zero_add _).symm
  · intro j
    refine (View.ld_unit_apply_of _ _ _ _ _ _ (fun a => ?_)).trans (H.g j)
    fin_cases a
    · rfl
    · rfl
    · exact (Nat.zero_add _).symm
  · intro i j
    refine (View.ld_unit_apply_of _ _ _ _ _ _ (fun a => ?_)).trans (H.w i j)
    fin_cases a
    · rfl
    · exact (Nat.zero_add _).symm
    · exact (Nat.zero_add _).symm

theorem rowsA_at (o : FVec Ideal S512x512 .f32) (x : Fin 1) (y : Fin 256) (j : Fin 512) : rowsA o (ix3 x y j) = o (ix2 ⟨(0 : Fin 2).val * 256 + y.val, by show 0 * 256 + y.val < 512; omega⟩ j) := by
  have e : (⟨(0 : Fin 2).val * 256 + y.val, by show 0 * 256 + y.val < 512; omega⟩ : Fin 512) = ⟨y.val, by omega⟩ := Fin.ext (by show 0 * 256 + y.val = y.val; omega)
  rw [e]
  pointwise [rowsA]

theorem rowsB_at (o : FVec Ideal S512x512 .f32) (x : Fin 1) (y : Fin 256) (j : Fin 512) : rowsB o (ix3 x y j) = o (ix2 ⟨(1 : Fin 2).val * 256 + y.val, by show 1 * 256 + y.val < 512; omega⟩ j) := by
  have e : (⟨(1 : Fin 2).val * 256 + y.val, by show 1 * 256 + y.val < 512; omega⟩ : Fin 512) = ⟨256 + y.val, by omega⟩ := Fin.ext (by show 1 * 256 + y.val = 256 + y.val; omega)
  rw [e]
  pointwise [rowsB]

theorem rect_eq (Y : FVec Ideal S2x8448x512 .f32) (O : FVec Ideal S1x256x512 .f32) (b : Fin 2) (k : Fin k0_t1_loop.trips) (off : Fin 3 → ℕ) (ho : off = ![b.val, k.val * 256, 0]) (inb : ∀ a, off a + S1x256x512.size a ≤ S2x768x512.size a)
    (hr : ∀ (x : Fin 1) (y : Fin 256) (j : Fin 512), O (ix3 x y j) = Y (ix3 b ⟨t.val * 768 + (k.val * 256 + y.val), by have := trips_lt k; omega⟩ j)) (x : S1x256x512.Idx) :
    O x = (fun i : S2x768x512.Idx => Y (ix3 (i 0) ⟨t.val * 768 + (i 1).val, by have : (i 1).val < 768 := (i 1).isLt; omega⟩ (i 2))) ((Rect.unit (s := S2x768x512) off S1x256x512.size inb).emb x) := by
  subst ho
  have x0 : (x 0).val < 1 := (x 0).isLt
  have e : (Rect.unit (s := S2x768x512) ![b.val, k.val * 256, 0] S1x256x512.size inb).emb x = ix3 b ⟨k.val * 256 + (x 1).val, by have := trips_lt k; have : (x 1).val < 256 := (x 1).isLt; omega⟩ (x 2) := by
    funext a
    refine Fin.ext ((ValueKit.rect_emb_unit_val _ _ _ _ _).trans ?_)
    fin_cases a
    · show b.val + (x 0).val = b.val
      omega
    · rfl
    · exact Nat.zero_add _
  rw [e]
  idx_vars x
  exact hr _ _ _

/-- What a grid point leaves in its block of the second result. -/
theorem outs_eq (H : Holds x0 x1 x3 t X gm W) (b : Fin 2) (y : Fin 768) (j : Fin 512) :
    View.canon (outsU x0 x1 x3 (BitVec.ofNat 32 t.val)) (ix3 b y j) = REF X gm W (ix3 b ⟨t.val * 768 + y.val, by omega⟩ j) := by
  refine Cert.Ret.canon_of (fun i : S2x768x512.Idx => REF X gm W (ix3 (i 0) ⟨t.val * 768 + (i 1).val, by have : (i 1).val < 768 := (i 1).isLt; omega⟩ (i 2))) (outsU x0 x1 x3 (BitVec.ofNat 32 t.val)) ?_ (ix3 b y j) (cover_outsU x0 x1 x3 _ _)
  have key : ∀ (k : Fin k0_t1_loop.trips), ∀ p ∈ pcsU x0 x1 x3 (BitVec.ofNat 32 t.val) k, ∀ x,
      p.2 x = REF X gm W (ix3 (p.1.emb x 0) ⟨t.val * 768 + (p.1.emb x 1).val, by have : (p.1.emb x 1).val < 768 := (p.1.emb x 1).isLt; omega⟩ (p.1.emb x 2)) := by
    intro k p hp
    have hr := tU_at H k
    unfold pcsU at hp
    generalize tU x0 x1 x3 (BitVec.ofNat 32 t.val) k = O at hp hr
    simp only [List.mem_cons, List.not_mem_nil, or_false] at hp
    rcases hp with rfl | rfl
    · exact fun x => rect_eq (REF X gm W) (rowsB O) 1 k _ (off4_eq k) (k0_off4_inb k) (fun x y j => (rowsB_at O x y j).trans (hr 1 y j)) x
    · exact fun x => rect_eq (REF X gm W) (rowsA O) 0 k _ (off3_eq k) (k0_off3_inb k) (fun x y j => (rowsA_at O x y j).trans (hr 0 y j)) x
  intro p hp
  unfold outsU at hp
  rcases List.mem_append.1 hp with hp | hp
  · rcases List.mem_append.1 hp with hp | hp
    · exact key k2 p hp
    · exact key k1 p hp
  · exact key k0 p hp

variable (m : (ℓ : Loc nD τ sig) → Buf (Elt Ideal) ℓ)

theorem idx : ∀ t : Fin cfg0.N, win0_0.index t = ![0, t.val, 0] ∧ win0_1.index t = ![1, 0, 0] ∧ win0_3.index t = ![1, 0, 3072] ∧ win0_7.index t = ![0, t.val, 0] :=
  (by decide +kernel : ∀ t : Fin grid0.N, _)

theorem lt_N (t : Fin cfg0.N) : t.val < 11 := (by decide +kernel : ∀ t : Fin grid0.N, t.val < 11) t

theorem pt_eq : ∀ t : Fin cfg0.N, pt t = BitVec.ofNat 32 t.val := (by decide +kernel : ∀ t : Fin grid0.N, _)

theorem emb3 (t : Fin cfg0.N) (y : S1x1024x512.Idx) (a : Fin 3) :
    ((((View.whole main_v0).slice (win0_3.rect t)).emb y a : Fin _) : ℕ) = win0_3.index t a + (y a).val :=
  ValueKit.view_emb_slice_whole_unit_val main_v0 _ _ _ y a

theorem gcast_at (g : FVec Ideal S4x1024 .f32) (j : Fin 1024) : shapeCast S4x1x1024 g shapeCasts_S4x1024_S4x1x1024 (ix3 1 0 j) = g (ix2 1 j) := by
  pointwise []

theorem blk_x (c : Dev nD) (t : Fin cfg0.N) (b : Fin 2) (y : Fin 768) (j : Fin 1024) : iblk m c 0 t (ix3 b y j) = V m c main_arg0 (ix3 b ⟨t.val * 768 + y.val, by have := lt_N t; omega⟩ j) := by
  blk_point [iblk, idx t]

theorem blk_g (c : Dev nD) (t : Fin cfg0.N) (j : Fin 1024) : iblk m c 1 t (ix3 0 0 j) = V m c main_v31 (ix3 1 0 j) := by
  blk_point [iblk, idx t]

theorem blk_w (c : Dev nD) (t : Fin cfg0.N) (x : Fin 1024) (j : Fin 512) : iblk m c 3 t (ix3 0 x j) = V m c main_v0 (ix3 1 x ⟨3072 + j.val, by omega⟩) := by
  blk_point [iblk, idx t]
  · exact (emb3 t _ 0).trans (by rw [(idx t).2.2.1]; rfl)
  · exact (emb3 t _ 1).trans (by rw [(idx t).2.2.1]; exact Nat.zero_add _)
  · exact (emb3 t _ 2).trans (by rw [(idx t).2.2.1]; rfl)

theorem V_x (c : Dev nD) : V m c main_arg0 = m ((c.tc : Thread nD τ).loc main_arg0) := by
  unfold V
  after_reads_simp <;> rfl

theorem V_g (c : Dev nD) : V m c main_v31 = shapeCast S4x1x1024 (m ((c.tc : Thread nD τ).loc main_arg1)) shapeCasts_S4x1024_S4x1x1024 := by
  unfold V
  after_reads_simp <;> rfl

theorem V_w (c : Dev nD) : V m c main_v0 = truncf (F := Ideal) .bf16 (m ((c.tc : Thread nD τ).loc main_arg2)) bitsLt_bf16_f32 := by
  unfold V
  after_reads_simp <;> rfl

/-- The blocks of a grid point hold the arguments. -/
theorem holds_blk (c : Dev nD) (t : Fin cfg0.N) : Holds (iblk m c 0 t) (iblk m c 1 t) (iblk m c 3 t) ⟨t.val, lt_N t⟩ (m ((c.tc : Thread nD τ).loc main_arg0)) (m ((c.tc : Thread nD τ).loc main_arg1)) (m ((c.tc : Thread nD τ).loc main_arg2)) := by
  refine ⟨fun b y j => (blk_x m c t b y j).trans ?_, fun j => (blk_g m c t j).trans ?_, fun x j => (blk_w m c t x j).trans ?_⟩
  · rw [V_x]
  · rw [V_g]
    exact gcast_at _ j
  · rw [V_w]
    rfl

/-- The second result's array after the run. -/
theorem final (c : Dev nD) : (dats m 0 c).arrAt 7 (cfgs 0).N
    = REF (m ((c.tc : Thread nD τ).loc main_arg0)) (m ((c.tc : Thread nD τ).loc main_arg1)) (m ((c.tc : Thread nD τ).loc main_arg2)) := by
  refine (dats m 0 c).arrAt_eq_of_covers 7 _ (by decide +kernel) fun t _ y => ?_
  have ho := fun b y j => outs_eq (holds_blk m c t) b y j
  rw [← pt_eq] at ho
  generalize REF (m ((c.tc : Thread nD τ).loc main_arg0)) (m ((c.tc : Thread nD τ).loc main_arg1)) (m ((c.tc : Thread nD τ).loc main_arg2)) = Y at ho ⊢
  have ha := after_7 m c t
  blk_simp
  rw [ha]
  idx_vars y
  refine (ho y0 y1 y2).trans ?_
  blk_point [idx t]

/-- From agreeing arguments the two programs end with the same result. -/
theorem algebraic : Cert.algebraic_Kernel5Ideal_Reference5Ideal := by
  pair_intro
  · run_from Cert.Hg.run_main m g
    · exact V_main_arg1 m c
    · exact V_main_arg2 m c
    · exact V_main_arg3 m c
    · exact V_main_arg4 m c
  · run_from Cert.Reference5Ideal.Value.run m' g'
    exact (final m c).symm

end Cert.Hg

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame.Runs
public import proofs.«01_k».proof.Proof.Gen.Reference5Ideal
public import proofs.«01_k».proof.Proof.Gen.Reference5Ideal.Run
public import proofs.«01_k».proof.Proof.RetFrame
public import proofs.«01_k».proof.Proof.RetFinal
public import proofs.«01_k».proof.Proof.Merge
public import proofs.«01_k».proof.Proof.Ffn
public import proofs.«01_k».proof.Proof.FinalNorm
public import proofs.«01_k».proof.Proof.HgFrame
public import proofs.«01_k».proof.Proof.HgVal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Ret.frame_kernel, fun m ρ _ => Cert.Ret.frame m ρ,
  fun m ρ _ => (θ_run Cert.ReferenceIdeal.defs _ _).mono
    (fun r h => ⟨fun c => (h c).2, sem_eq_zero_of_no_sems (by decide) r.2⟩) (Cert.RetRef.run m ρ),
  fun m ρ _ => Cert.Kernel2.Gen.frame m ρ, fun m ρ _ => Cert.Kernel2Ideal.Gen.frame m ρ,
  fun m ρ _ => (θ_run Cert.Reference2Ideal.defs _ _).mono
    (fun r h => ⟨fun c => (h c).2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run Cert.Reference3Ideal.defs _ _).mono
    (fun r h => ⟨fun c => (h c).2, sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => (θ_run Cert.Reference4Ideal.defs _ _).mono
    (fun r h => ⟨fun c => (h c).2, sem_eq_zero_of_no_sems (by decide) r.2⟩) (Cert.Reference4Ideal.Value.run m ρ),
  Cert.Hg.frame_kernel, fun m ρ _ => Cert.Hg.frame m ρ,
  fun m ρ _ => (θ_run Cert.Reference5Ideal.defs _ _).mono
    (fun r h => ⟨fun c => (h c).2, sem_eq_zero_of_no_sems (by decide) r.2⟩) (Cert.Reference5Ideal.Value.run m ρ),
  trivial, Cert.Ret.algebraic, trivial, Cert.Merge.algebraic, trivial, Cert.Ffn.algebraic, trivial, Cert.FinalNorm.algebraic,
  trivial, Cert.Hg.algebraic⟩

end Cert.Proof

end
